-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩
abbrev S512x256 : Shape := ⟨2, ![512, 256]⟩
abbrev S256x512 : Shape := ⟨2, ![256, 512]⟩
abbrev S2x128x256 : Shape := ⟨3, ![2, 128, 256]⟩
abbrev S2x8x16x512 : Shape := ⟨4, ![2, 8, 16, 512]⟩
abbrev S2x16x512 : Shape := ⟨3, ![2, 16, 512]⟩
abbrev S2x7 : Shape := ⟨2, ![2, 7]⟩
abbrev S2x8 : Shape := ⟨2, ![2, 8]⟩
abbrev S128x128 : Shape := ⟨2, ![128, 128]⟩
abbrev S256x256 : Shape := ⟨2, ![256, 256]⟩
abbrev S128x512 : Shape := ⟨2, ![128, 512]⟩
abbrev S128x64 : Shape := ⟨2, ![128, 64]⟩
abbrev S1x128x64 : Shape := ⟨3, ![1, 128, 64]⟩
abbrev S128 : Shape := ⟨1, ![128]⟩
abbrev S128x1 : Shape := ⟨2, ![128, 1]⟩
abbrev S64x512 : Shape := ⟨2, ![64, 512]⟩
abbrev S1x1 : Shape := ⟨2, ![1, 1]⟩
abbrev S1x1x16x512 : Shape := ⟨4, ![1, 1, 16, 512]⟩
abbrev S16x512 : Shape := ⟨2, ![16, 512]⟩
abbrev S1x16x512 : Shape := ⟨3, ![1, 16, 512]⟩

abbrev nBuf : Space → Nat
  | .hbm => 32
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x4x64, .bf16⟩
  | .hbm, ⟨3, _⟩ => ⟨S2x128x4x64, .bf16⟩
  | .hbm, ⟨4, _⟩ => ⟨S2048x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S2x128x256, .bf16⟩
  | .hbm, ⟨30, _⟩ => ⟨S2x128x256, .bf16⟩
  | .hbm, ⟨31, _⟩ => ⟨S2x128x512, .f32⟩
  | .local _ .vmem, ⟨0, _⟩ => ⟨S2x128x512, .bf16⟩
  | .local _ .vmem, ⟨1, _⟩ => ⟨S2x128x256, .bf16⟩
  | .local _ .vmem, ⟨2, _⟩ => ⟨S2x128x256, .bf16⟩
  | .local _ .vmem, ⟨3, _⟩ => ⟨S512x256, .bf16⟩
  | .local _ .vmem, ⟨4, _⟩ => ⟨S256x512, .bf16⟩
  | .local _ .vmem, ⟨5, _⟩ => ⟨S2x128x512, .f32⟩
  | .local _ .vmem, ⟨6, _⟩ => ⟨S256x512, .bf16⟩
  | .local _ .vmem, ⟨7, _⟩ => ⟨S2x8x16x512, .bf16⟩
  | .local _ .vmem, ⟨8, _⟩ => ⟨S2x16x512, .bf16⟩
  | .local _ .vmem, ⟨9, _⟩ => ⟨S2x8x16x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off2 (d0 : Dev nD) : Fin 4 → Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_179 : BitVec 32 := 0#32
  let c0_i32_180 : BitVec 32 := 0#32
  ![0, v2.toNat, 0, 0]
def k0_off3 (d0 : Dev nD) (c1_i32_170 : BitVec 32) (c0_i32_172 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v314 : BitVec 32 := Scalar.addi v2 c1_i32_170
  let c8_i32_171 : BitVec 32 := 8#32
  let v315 : BitVec 32 := Scalar.remsi v314 c8_i32_171
  let c32_i32 : BitVec 32 := 32#32
  let v316 : BitVec 32 := Scalar.muli v315 c32_i32
  let v317 : BitVec 32 := Scalar.addi v316 c0_i32_172
  let c0_i32_181 : BitVec 32 := 0#32
  ![v317.toNat, 0]
def k0_dev8 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v314 : BitVec 32 := Scalar.addi v2 c1_i32_170
  let c8_i32_171 : BitVec 32 := 8#32
  let v315 : BitVec 32 := Scalar.remsi v314 c8_i32_171
  let c1_i32_177 : BitVec 32 := 1#32
  let v318 : BitVec 32 := Scalar.muli v315 c1_i32_177
  let v319 : BitVec 32 := Scalar.addi c0_i32_178 v318
  v319.toNat
def k0_dev9 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_182 : BitVec 32 := 2#32
  let v327 : BitVec 32 := Scalar.addi v2 c2_i32_182
  let c8_i32_183 : BitVec 32 := 8#32
  let v328 : BitVec 32 := Scalar.remsi v327 c8_i32_183
  let c1_i32_190 : BitVec 32 := 1#32
  let v331 : BitVec 32 := Scalar.muli v328 c1_i32_190
  let v332 : BitVec 32 := Scalar.addi c0_i32_191 v331
  v332.toNat
def k0_dev10 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_195 : BitVec 32 := 3#32
  let v340 : BitVec 32 := Scalar.addi v2 c3_i32_195
  let c8_i32_196 : BitVec 32 := 8#32
  let v341 : BitVec 32 := Scalar.remsi v340 c8_i32_196
  let c1_i32_203 : BitVec 32 := 1#32
  let v344 : BitVec 32 := Scalar.muli v341 c1_i32_203
  let v345 : BitVec 32 := Scalar.addi c0_i32_204 v344
  v345.toNat
def k0_dev11 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v353 : BitVec 32 := Scalar.addi v2 c4_i32_208
  let c8_i32_209 : BitVec 32 := 8#32
  let v354 : BitVec 32 := Scalar.remsi v353 c8_i32_209
  let c1_i32_216 : BitVec 32 := 1#32
  let v357 : BitVec 32 := Scalar.muli v354 c1_i32_216
  let v358 : BitVec 32 := Scalar.addi c0_i32_217 v357
  v358.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_221 : BitVec 32 := 5#32
  let v366 : BitVec 32 := Scalar.addi v2 c5_i32_221
  let c8_i32_222 : BitVec 32 := 8#32
  let v367 : BitVec 32 := Scalar.remsi v366 c8_i32_222
  let c1_i32_229 : BitVec 32 := 1#32
  let v370 : BitVec 32 := Scalar.muli v367 c1_i32_229
  let v371 : BitVec 32 := Scalar.addi c0_i32_230 v370
  v371.toNat
def k0_dev13 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_234 : BitVec 32 := 6#32
  let v379 : BitVec 32 := Scalar.addi v2 c6_i32_234
  let c8_i32_235 : BitVec 32 := 8#32
  let v380 : BitVec 32 := Scalar.remsi v379 c8_i32_235
  let c1_i32_242 : BitVec 32 := 1#32
  let v383 : BitVec 32 := Scalar.muli v380 c1_i32_242
  let v384 : BitVec 32 := Scalar.addi c0_i32_243 v383
  v384.toNat
def k0_dev14 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_247 : BitVec 32 := 7#32
  let v392 : BitVec 32 := Scalar.addi v2 c7_i32_247
  let c8_i32_248 : BitVec 32 := 8#32
  let v393 : BitVec 32 := Scalar.remsi v392 c8_i32_248
  let c1_i32_255 : BitVec 32 := 1#32
  let v396 : BitVec 32 := Scalar.muli v393 c1_i32_255
  let v397 : BitVec 32 := Scalar.addi c0_i32_256 v396
  v397.toNat
def k0_off4 (d0 : Dev nD) : Fin 2 → Nat :=
  let c1_i32_264 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off5 (d0 : Dev nD) : Fin 4 → Nat :=
  let c1_i32_263 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_269 : BitVec 32 := 0#32
  let c0_i32_270 : BitVec 32 := 0#32
  ![1, v2.toNat, 0, 0]
def k0_dev15 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_260 : BitVec 32 := 1#32
  let v405 : BitVec 32 := Scalar.addi v2 c1_i32_260
  let c8_i32_261 : BitVec 32 := 8#32
  let v406 : BitVec 32 := Scalar.remsi v405 c8_i32_261
  let c1_i32_267 : BitVec 32 := 1#32
  let v409 : BitVec 32 := Scalar.muli v406 c1_i32_267
  let v410 : BitVec 32 := Scalar.addi c0_i32_268 v409
  v410.toNat
def k0_dev16 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_272 : BitVec 32 := 2#32
  let v418 : BitVec 32 := Scalar.addi v2 c2_i32_272
  let c8_i32_273 : BitVec 32 := 8#32
  let v419 : BitVec 32 := Scalar.remsi v418 c8_i32_273
  let c1_i32_280 : BitVec 32 := 1#32
  let v422 : BitVec 32 := Scalar.muli v419 c1_i32_280
  let v423 : BitVec 32 := Scalar.addi c0_i32_281 v422
  v423.toNat
def k0_dev17 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_285 : BitVec 32 := 3#32
  let v431 : BitVec 32 := Scalar.addi v2 c3_i32_285
  let c8_i32_286 : BitVec 32 := 8#32
  let v432 : BitVec 32 := Scalar.remsi v431 c8_i32_286
  let c1_i32_293 : BitVec 32 := 1#32
  let v435 : BitVec 32 := Scalar.muli v432 c1_i32_293
  let v436 : BitVec 32 := Scalar.addi c0_i32_294 v435
  v436.toNat
def k0_dev18 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_298 : BitVec 32 := 4#32
  let v444 : BitVec 32 := Scalar.addi v2 c4_i32_298
  let c8_i32_299 : BitVec 32 := 8#32
  let v445 : BitVec 32 := Scalar.remsi v444 c8_i32_299
  let c1_i32_306 : BitVec 32 := 1#32
  let v448 : BitVec 32 := Scalar.muli v445 c1_i32_306
  let v449 : BitVec 32 := Scalar.addi c0_i32_307 v448
  v449.toNat
def k0_dev19 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_311 : BitVec 32 := 5#32
  let v457 : BitVec 32 := Scalar.addi v2 c5_i32_311
  let c8_i32_312 : BitVec 32 := 8#32
  let v458 : BitVec 32 := Scalar.remsi v457 c8_i32_312
  let c1_i32_319 : BitVec 32 := 1#32
  let v461 : BitVec 32 := Scalar.muli v458 c1_i32_319
  let v462 : BitVec 32 := Scalar.addi c0_i32_320 v461
  v462.toNat
def k0_dev20 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_324 : BitVec 32 := 6#32
  let v470 : BitVec 32 := Scalar.addi v2 c6_i32_324
  let c8_i32_325 : BitVec 32 := 8#32
  let v471 : BitVec 32 := Scalar.remsi v470 c8_i32_325
  let c1_i32_332 : BitVec 32 := 1#32
  let v474 : BitVec 32 := Scalar.muli v471 c1_i32_332
  let v475 : BitVec 32 := Scalar.addi c0_i32_333 v474
  v475.toNat
def k0_dev21 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_337 : BitVec 32 := 7#32
  let v483 : BitVec 32 := Scalar.addi v2 c7_i32_337
  let c8_i32_338 : BitVec 32 := 8#32
  let v484 : BitVec 32 := Scalar.remsi v483 c8_i32_338
  let c1_i32_345 : BitVec 32 := 1#32
  let v487 : BitVec 32 := Scalar.muli v484 c1_i32_345
  let v488 : BitVec 32 := Scalar.addi c0_i32_346 v487
  v488.toNat
def k0_off6 (d0 : Dev nD) (c1_i32_350 : BitVec 32) : Fin 2 → Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v496 : BitVec 32 := Scalar.addi v2 c1_i32_350
  let c8_i32_351 : BitVec 32 := 8#32
  let v497 : BitVec 32 := Scalar.remsi v496 c8_i32_351
  ![0, v497.toNat]
def k0_off7 (d0 : Dev nD) (c1_i32_350 : BitVec 32) : Fin 4 → Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v496 : BitVec 32 := Scalar.addi v2 c1_i32_350
  let c8_i32_351 : BitVec 32 := 8#32
  let v497 : BitVec 32 := Scalar.remsi v496 c8_i32_351
  let c0_i32_360 : BitVec 32 := 0#32
  let c0_i32_361 : BitVec 32 := 0#32
  ![0, v497.toNat, 0, 0]
def k0_off8 (d0 : Dev nD) (c0_i32_442 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_441 : BitVec 32 := 32#32
  let v573 : BitVec 32 := Scalar.muli v2 c32_i32_441
  let v574 : BitVec 32 := Scalar.addi v573 c0_i32_442
  let v575 : Index := Scalar.indexCast v574
  let c0_443 : Index := 0#32
  ![v575.toNat, 0]
def k0_off9 (d0 : Dev nD) : Fin 4 → Nat :=
  let c0_444 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v577 : Index := Scalar.indexCast v2
  let c0_445 : Index := 0#32
  let c0_446 : Index := 0#32
  ![0, v577.toNat, 0, 0]
def k0_dev22 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_483 : BitVec 32 := 1#32
  let v624 : BitVec 32 := Scalar.addi v2 c1_i32_483
  let c8_i32_484 : BitVec 32 := 8#32
  let v625 : BitVec 32 := Scalar.remsi v624 c8_i32_484
  let c1_i32_490 : BitVec 32 := 1#32
  let v626 : BitVec 32 := Scalar.muli v625 c1_i32_490
  let v627 : BitVec 32 := Scalar.addi c0_i32_491 v626
  v627.toNat
def k0_dev23 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_496 : BitVec 32 := 2#32
  let v636 : BitVec 32 := Scalar.addi v2 c2_i32_496
  let c8_i32_497 : BitVec 32 := 8#32
  let v637 : BitVec 32 := Scalar.remsi v636 c8_i32_497
  let c1_i32_503 : BitVec 32 := 1#32
  let v638 : BitVec 32 := Scalar.muli v637 c1_i32_503
  let v639 : BitVec 32 := Scalar.addi c0_i32_504 v638
  v639.toNat
def k0_dev24 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_509 : BitVec 32 := 3#32
  let v648 : BitVec 32 := Scalar.addi v2 c3_i32_509
  let c8_i32_510 : BitVec 32 := 8#32
  let v649 : BitVec 32 := Scalar.remsi v648 c8_i32_510
  let c1_i32_516 : BitVec 32 := 1#32
  let v650 : BitVec 32 := Scalar.muli v649 c1_i32_516
  let v651 : BitVec 32 := Scalar.addi c0_i32_517 v650
  v651.toNat
def k0_dev25 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_522 : BitVec 32 := 4#32
  let v660 : BitVec 32 := Scalar.addi v2 c4_i32_522
  let c8_i32_523 : BitVec 32 := 8#32
  let v661 : BitVec 32 := Scalar.remsi v660 c8_i32_523
  let c1_i32_529 : BitVec 32 := 1#32
  let v662 : BitVec 32 := Scalar.muli v661 c1_i32_529
  let v663 : BitVec 32 := Scalar.addi c0_i32_530 v662
  v663.toNat
def k0_dev26 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_535 : BitVec 32 := 5#32
  let v672 : BitVec 32 := Scalar.addi v2 c5_i32_535
  let c8_i32_536 : BitVec 32 := 8#32
  let v673 : BitVec 32 := Scalar.remsi v672 c8_i32_536
  let c1_i32_542 : BitVec 32 := 1#32
  let v674 : BitVec 32 := Scalar.muli v673 c1_i32_542
  let v675 : BitVec 32 := Scalar.addi c0_i32_543 v674
  v675.toNat
def k0_dev27 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_548 : BitVec 32 := 6#32
  let v684 : BitVec 32 := Scalar.addi v2 c6_i32_548
  let c8_i32_549 : BitVec 32 := 8#32
  let v685 : BitVec 32 := Scalar.remsi v684 c8_i32_549
  let c1_i32_555 : BitVec 32 := 1#32
  let v686 : BitVec 32 := Scalar.muli v685 c1_i32_555
  let v687 : BitVec 32 := Scalar.addi c0_i32_556 v686
  v687.toNat
def k0_dev28 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_561 : BitVec 32 := 7#32
  let v696 : BitVec 32 := Scalar.addi v2 c7_i32_561
  let c8_i32_562 : BitVec 32 := 8#32
  let v697 : BitVec 32 := Scalar.remsi v696 c8_i32_562
  let c1_i32_568 : BitVec 32 := 1#32
  let v698 : BitVec 32 := Scalar.muli v697 c1_i32_568
  let v699 : BitVec 32 := Scalar.addi c0_i32_569 v698
  v699.toNat
def k0_off10 (d0 : Dev nD) (c1_i32_574 : BitVec 32) : Fin 2 → Nat :=
  let c1_i32_579 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v708 : BitVec 32 := Scalar.addi v2 c1_i32_574
  let c8_i32_575 : BitVec 32 := 8#32
  let v709 : BitVec 32 := Scalar.remsi v708 c8_i32_575
  ![1, v709.toNat]
def k0_off11 (d0 : Dev nD) (c1_i32_574 : BitVec 32) : Fin 4 → Nat :=
  let c1_i32_578 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v708 : BitVec 32 := Scalar.addi v2 c1_i32_574
  let c8_i32_575 : BitVec 32 := 8#32
  let v709 : BitVec 32 := Scalar.remsi v708 c8_i32_575
  let c0_i32_584 : BitVec 32 := 0#32
  let c0_i32_585 : BitVec 32 := 0#32
  ![1, v709.toNat, 0, 0]
def k0_off12 (d0 : Dev nD) : Fin 4 → Nat :=
  let c1_668 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v789 : Index := Scalar.indexCast v2
  let c0_669 : Index := 0#32
  let c0_670 : Index := 0#32
  ![1, v789.toNat, 0, 0]
def k0_dev29 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_713 : BitVec 32 := 1#32
  let v836 : BitVec 32 := Scalar.addi v2 c1_i32_713
  let c8_i32_714 : BitVec 32 := 8#32
  let v837 : BitVec 32 := Scalar.remsi v836 c8_i32_714
  let c1_i32_720 : BitVec 32 := 1#32
  let v838 : BitVec 32 := Scalar.muli v837 c1_i32_720
  let v839 : BitVec 32 := Scalar.addi c0_i32_721 v838
  v839.toNat
def k0_dev30 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_726 : BitVec 32 := 2#32
  let v848 : BitVec 32 := Scalar.addi v2 c2_i32_726
  let c8_i32_727 : BitVec 32 := 8#32
  let v849 : BitVec 32 := Scalar.remsi v848 c8_i32_727
  let c1_i32_733 : BitVec 32 := 1#32
  let v850 : BitVec 32 := Scalar.muli v849 c1_i32_733
  let v851 : BitVec 32 := Scalar.addi c0_i32_734 v850
  v851.toNat
def k0_dev31 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_739 : BitVec 32 := 3#32
  let v860 : BitVec 32 := Scalar.addi v2 c3_i32_739
  let c8_i32_740 : BitVec 32 := 8#32
  let v861 : BitVec 32 := Scalar.remsi v860 c8_i32_740
  let c1_i32_746 : BitVec 32 := 1#32
  let v862 : BitVec 32 := Scalar.muli v861 c1_i32_746
  let v863 : BitVec 32 := Scalar.addi c0_i32_747 v862
  v863.toNat
def k0_dev32 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_752 : BitVec 32 := 4#32
  let v872 : BitVec 32 := Scalar.addi v2 c4_i32_752
  let c8_i32_753 : BitVec 32 := 8#32
  let v873 : BitVec 32 := Scalar.remsi v872 c8_i32_753
  let c1_i32_759 : BitVec 32 := 1#32
  let v874 : BitVec 32 := Scalar.muli v873 c1_i32_759
  let v875 : BitVec 32 := Scalar.addi c0_i32_760 v874
  v875.toNat
def k0_dev33 (d0 : Dev nD) : Nat :=
  let c0_i32_773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_765 : BitVec 32 := 5#32
  let v884 : BitVec 32 := Scalar.addi v2 c5_i32_765
  let c8_i32_766 : BitVec 32 := 8#32
  let v885 : BitVec 32 := Scalar.remsi v884 c8_i32_766
  let c1_i32_772 : BitVec 32 := 1#32
  let v886 : BitVec 32 := Scalar.muli v885 c1_i32_772
  let v887 : BitVec 32 := Scalar.addi c0_i32_773 v886
  v887.toNat
def k0_dev34 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_778 : BitVec 32 := 6#32
  let v896 : BitVec 32 := Scalar.addi v2 c6_i32_778
  let c8_i32_779 : BitVec 32 := 8#32
  let v897 : BitVec 32 := Scalar.remsi v896 c8_i32_779
  let c1_i32_785 : BitVec 32 := 1#32
  let v898 : BitVec 32 := Scalar.muli v897 c1_i32_785
  let v899 : BitVec 32 := Scalar.addi c0_i32_786 v898
  v899.toNat
def k0_dev35 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_791 : BitVec 32 := 7#32
  let v908 : BitVec 32 := Scalar.addi v2 c7_i32_791
  let c8_i32_792 : BitVec 32 := 8#32
  let v909 : BitVec 32 := Scalar.remsi v908 c8_i32_792
  let c1_i32_798 : BitVec 32 := 1#32
  let v910 : BitVec 32 := Scalar.muli v909 c1_i32_798
  let v911 : BitVec 32 := Scalar.addi c0_i32_799 v910
  v911.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 142
  | .vmem => 0
  | .smem => 0
  | _ => 0

abbrev hbmTy0_0 (i : Nat) : BufTy := match i % 128 with
  | 0 => ⟨S2x128x512, .bf16⟩
  | 1 => ⟨S512x2048, .bf16⟩
  | 2 => ⟨S2x128x32x64, .bf16⟩
  | 3 => ⟨S2x128x32x64, .bf16⟩
  | 4 => ⟨S2048x512, .bf16⟩
  | 5 => ⟨S2x128x512, .f32⟩
  | 6 => ⟨S512x2048, .f32⟩
  | 7 => ⟨S2x128x32x64, .f32⟩
  | 8 => ⟨S2x128x32x64, .f32⟩
  | 9 => ⟨S2048x512, .f32⟩
  | 10 => ⟨S2x128x2048, .f32⟩
  | 11 => ⟨S2x128x32x64, .f32⟩
  | 12 => ⟨S128, .i32⟩
  | 13 => ⟨S_, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S128, .i32⟩
  | 22 => ⟨S128, .i32⟩
  | 23 => ⟨S_, .i32⟩
  | 24 => ⟨S128, .i32⟩
  | 25 => ⟨S128, .i1⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S128, .i32⟩
  | 33 => ⟨S_, .i32⟩
  | 34 => ⟨S_, .i32⟩
  | 35 => ⟨S128, .i32⟩
  | 36 => ⟨S128, .i32⟩
  | 37 => ⟨S128, .i32⟩
  | 38 => ⟨S_, .i32⟩
  | 39 => ⟨S128, .i32⟩
  | 40 => ⟨S128, .i1⟩
  | 41 => ⟨S128, .i32⟩
  | 42 => ⟨S128, .i32⟩
  | 43 => ⟨S_, .i32⟩
  | 44 => ⟨S128, .i32⟩
  | 45 => ⟨S128, .i1⟩
  | 46 => ⟨S128, .i1⟩
  | 47 => ⟨S_, .i32⟩
  | 48 => ⟨S128, .i32⟩
  | 49 => ⟨S128, .i32⟩
  | 50 => ⟨S128, .i32⟩
  | 51 => ⟨S1x128, .i32⟩
  | 52 => ⟨S128x128, .i32⟩
  | 53 => ⟨S128x128, .i32⟩
  | 54 => ⟨S128x128, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x128, .i32⟩
  | 62 => ⟨S1x128, .i32⟩
  | 63 => ⟨S_, .i32⟩
  | 64 => ⟨S1x128, .i32⟩
  | 65 => ⟨S1x128, .i1⟩
  | 66 => ⟨S_, .i32⟩
  | 67 => ⟨S1x128, .i32⟩
  | 68 => ⟨S1x128, .i1⟩
  | 69 => ⟨S_, .i32⟩
  | 70 => ⟨S_, .i1⟩
  | 71 => ⟨S1x128, .i1⟩
  | 72 => ⟨S1x128, .i1⟩
  | 73 => ⟨S1x128, .i1⟩
  | 74 => ⟨S1x128, .i32⟩
  | 75 => ⟨S1x128, .i32⟩
  | 76 => ⟨S1x128, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S_, .i32⟩
  | 89 => ⟨S128x1, .i32⟩
  | 90 => ⟨S128x1, .i1⟩
  | 91 => ⟨S_, .i32⟩
  | 92 => ⟨S_, .i1⟩
  | 93 => ⟨S128x1, .i1⟩
  | 94 => ⟨S128x1, .i1⟩
  | 95 => ⟨S128x1, .i1⟩
  | 96 => ⟨S128x1, .i32⟩
  | 97 => ⟨S128x1, .i32⟩
  | 98 => ⟨S128x1, .i32⟩
  | 99 => ⟨S128x128, .i32⟩
  | 100 => ⟨S128x128, .i32⟩
  | 101 => ⟨S128x128, .i1⟩
  | 102 => ⟨S128x128, .i1⟩
  | 103 => ⟨S2x32x128x128, .f32⟩
  | 104 => ⟨S_, .f32⟩
  | 105 => ⟨S2x32x128x128, .f32⟩
  | 106 => ⟨S2x32x128x128, .f32⟩
  | 107 => ⟨S1x1x128x128, .i1⟩
  | 108 => ⟨S_, .f32⟩
  | 109 => ⟨S_, .f32⟩
  | 110 => ⟨S2x32x128x128, .i1⟩
  | 111 => ⟨S2x32x128x128, .f32⟩
  | 112 => ⟨S2x32x128x128, .f32⟩
  | 113 => ⟨S_, .f32⟩
  | 114 => ⟨S2x32x128, .f32⟩
  | 115 => ⟨S2x32x128x1, .f32⟩
  | 116 => ⟨S2x32x128x128, .f32⟩
  | 117 => ⟨S2x32x128x128, .f32⟩
  | 118 => ⟨S2x32x128x128, .f32⟩
  | 119 => ⟨S_, .i1⟩
  | 120 => ⟨S128, .i1⟩
  | 121 => ⟨S1x1x128x1, .i1⟩
  | 122 => ⟨S_, .f32⟩
  | 123 => ⟨S2x32x128, .f32⟩
  | 124 => ⟨S2x32x128x1, .f32⟩
  | 125 => ⟨S_, .f32⟩
  | 126 => ⟨S_, .f32⟩
  | 127 => ⟨S2x32x128x1, .i1⟩
  | _ => ⟨S2x128x512, .bf16⟩

abbrev hbmTy0_1 (i : Nat) : BufTy := match i % 128 with
  | 0 => ⟨S2x32x128x1, .f32⟩
  | 1 => ⟨S2x32x128x1, .f32⟩
  | 2 => ⟨S2x32x128x128, .f32⟩
  | 3 => ⟨S2x32x128x128, .f32⟩
  | 4 => ⟨S1x1x128x1, .i1⟩
  | 5 => ⟨S_, .f32⟩
  | 6 => ⟨S_, .f32⟩
  | 7 => ⟨S2x32x128x128, .i1⟩
  | 8 => ⟨S2x32x128x128, .f32⟩
  | 9 => ⟨S2x32x128x128, .f32⟩
  | 10 => ⟨S2x32x64x128, .f32⟩
  | 11 => ⟨S2x128x32x64, .f32⟩
  | 12 => ⟨S2x128x2048, .f32⟩
  | 13 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Cells.lean ====
module

public import proofs.«01_k».proof.Proof.Gen.KernelIdeal.Launch
public import proofs.«01_k».proof.Proof.Gen.KernelIdeal.Points
public import Idealize.ShloMosaic.Lib.Rounds
public import Idealize.ShloMosaic.Lib.Rounds.Family
public import Idealize.ShloMosaic.Lib.ValueLayout
public import Idealize.ShloMosaic.Lib.Ring
public import Idealize.ShloMosaic.Lib.Pipeline.ValueKit.Geometry

/-! The devices, semaphores and buffer pieces the exchange is about.

Eight devices stand on a ring.  Each computes a partial product `part` of 256 rows and cuts it into
8 × 2 strips of 16 rows: the strip `(o, t)` is the `t`-th half of device `o`'s 32 rows.  In the first
exchange (`φ = 0`) it sends the strip `(o, t)` of its partial product into slot `(t, c)` of device
`o`'s buffer `rs`; each device adds the eight slots it holds.  In the second exchange (`φ = 1`) it
sends its sum of half `t` into slot `(t, c)` of every other device's buffer `ag`. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

/-- The device `k + 1` places after `c` on the ring. -/
def peer (c : Dev nD) (k : Fin 7) : Dev nD := ⟨(c.val + k.val + 1) % 8, Nat.mod_lt _ (by decide)⟩

theorem peer_ne (c : Dev nD) (k : Fin 7) : peer c k ≠ c := by revert c k; decide
theorem peer_inj (c : Dev nD) : Function.Injective (peer c) := by revert c; decide

/-- Every device but `c` is one of `c`'s seven peers. -/
theorem peer_surj (c d : Dev nD) (h : d ≠ c) : ∃ k, peer c k = d := by revert c d; decide

/-! ## Semaphores -/

/-- The `j`-th of the sixty semaphores the transfers signal. -/
def osem (j : Fin 60) : SemLoc sig := .dma ⟨6 + j.val, by have := j.isLt; show 6 + j.val < 66; omega⟩

/-- The semaphore, on a receiver, of the strip `t` from device `o` in exchange `φ`. -/
def recvJ (φ t : Fin 2) (o : Dev nD) : Fin 60 :=
  ⟨30 * φ.val + 14 + 8 * t.val + o.val, by have := φ.isLt; have := t.isLt; have : o.val < 8 := o.isLt; omega⟩

/-- The semaphore, on a sender, of the strip `t` to its peer number `k` in exchange `φ`. -/
def sendJ (φ t : Fin 2) (k : Fin 7) : Fin 60 :=
  ⟨30 * φ.val + 7 * t.val + k.val, by have := φ.isLt; have := t.isLt; have := k.isLt; omega⟩

/-- What a transfer semaphore is for. -/
inductive Role where
  | send (φ t : Fin 2) (k : Fin 7)
  | recv (φ t : Fin 2) (o : Dev nD)
  deriving DecidableEq

/-- The role of the `j`-th transfer semaphore. -/
def role (j : Fin 60) : Role :=
  if j.val % 30 < 14 then
    .send ⟨j.val / 30 % 2, Nat.mod_lt _ (by decide)⟩ ⟨j.val % 30 / 7 % 2, Nat.mod_lt _ (by decide)⟩
      ⟨j.val % 30 % 7, Nat.mod_lt _ (by decide)⟩
  else
    .recv ⟨j.val / 30 % 2, Nat.mod_lt _ (by decide)⟩ ⟨(j.val % 30 - 14) / 8 % 2, Nat.mod_lt _ (by decide)⟩
      ⟨(j.val % 30 - 14) % 8, Nat.mod_lt _ (by decide)⟩

theorem role_send (φ t : Fin 2) (k : Fin 7) : role (sendJ φ t k) = .send φ t k := by revert φ t k; decide
theorem role_recv (φ t : Fin 2) (o : Dev nD) : role (recvJ φ t o) = .recv φ t o := by revert φ t o; decide

/-- The semaphore of a role. -/
def Role.ix : Role → Fin 60
  | .send φ t k => sendJ φ t k
  | .recv φ t o => recvJ φ t o

theorem ix_role (j : Fin 60) : (role j).ix = j := by revert j; decide

/-- The semaphore, read back from its place. -/
theorem osem_inj : Function.Injective osem := by
  intro a b h; have := congrArg (fun s : SemLoc sig => match s with | .dma s => s.val | .reg _ => 0) h
  exact Fin.ext (by simpa [osem] using this)

/-- The barrier semaphore. -/
abbrev barS : SemLoc sig := .reg barrier0

/-- The cell of the `j`-th transfer semaphore on device `c`. -/
def cel (c : Dev nD) (j : Fin 60) : GSem nD τ sig := ((c : Thread nD τ), osem j)
/-- The cell of the barrier semaphore on device `c`. -/
abbrev barCel (c : Dev nD) : GSem nD τ sig := ((c : Thread nD τ), barS)

/-! ## The strips and slots, and what lies in them -/

/-- The strip `(o, t)` of the partial product. -/
abbrev partM (o : Dev nD) (t : Fin 2) : Memref sig .tc .vmem S16x512 .bf16 :=
  (Memref.whole cc0_scratch0).slice (Rect.unit (s := S256x512) ![32 * o.val + 16 * t.val, 0] S16x512.size
    (by revert o t; decide)) (fun _ => rfl)

/-- Slot `(t, o)` of the buffer the first exchange fills. -/
abbrev rsM (t : Fin 2) (o : Dev nD) : Memref sig .tc .vmem S16x512 .bf16 :=
  ((Memref.whole cc0_scratch1).slice (Rect.unit (s := S2x8x16x512) ![t.val, o.val, 0, 0] S1x1x16x512.size
    (by revert o t; decide)) (fun _ => rfl)).squeeze S16x512 squeezes_S1x1x16x512_S16x512

/-- Slot `(t, o)` of the buffer the second exchange fills. -/
abbrev agM (t : Fin 2) (o : Dev nD) : Memref sig .tc .vmem S16x512 .bf16 :=
  ((Memref.whole cc0_scratch3).slice (Rect.unit (s := S2x8x16x512) ![t.val, o.val, 0, 0] S1x1x16x512.size
    (by revert o t; decide)) (fun _ => rfl)).squeeze S16x512 squeezes_S1x1x16x512_S16x512

/-- The summed half `t`. -/
abbrev redM (t : Fin 2) : Memref sig .tc .vmem S16x512 .bf16 :=
  ((Memref.whole cc0_scratch2).slice (Rect.unit (s := S2x16x512) ![t.val, 0, 0] S1x16x512.size
    (by revert t; decide)) (fun _ => rfl)).squeeze S16x512 squeezes_S1x16x512_S16x512

/-- What one transfer of a strip adds to a semaphore. -/
def N : ℕ := (agM 0 0).view.dmaCredit
theorem N_pos : 0 < N := (agM 0 0).view.dmaCredit_pos (by decide)

variable {F : FTy → Type} [FloatOps F]

/-- Row `n` of the 256. -/
def rowIx (n : ℕ) : Fin 256 := ⟨n % 256, Nat.mod_lt _ (by decide)⟩

/-- The buffer `rs` on device `c` after the first exchange: slot `(t, o)` is the strip `(c, t)` of
    device `o`'s partial product. -/
def RS (PT : Dev nD → S256x512.Idx → Elt F .bf16) (c : Dev nD) : S2x8x16x512.Idx → Elt F .bf16 :=
  fun i => PT (i 1) (ix2 (rowIx (32 * c.val + 16 * (i 0).val + (i 2).val)) (i 3))

/-- The buffer `ag` after the second exchange, on every device: slot `(t, o)` is device `o`'s half `t`. -/
def AG (RD : Dev nD → S2x16x512.Idx → Elt F .bf16) : S2x8x16x512.Idx → Elt F .bf16 :=
  fun i => RD (i 1) (ix3 (i 0) (i 2) (i 3))

/-! ### The elements of each piece -/

theorem mem_part (o : Dev nD) (t : Fin 2) (i : S256x512.Idx) :
    i ∈ (partM o t).view.set ↔ 32 * o.val + 16 * t.val ≤ (i 0).val ∧ (i 0).val < 32 * o.val + 16 * t.val + 16 := by
  rw [show (partM o t).view.set = _ from View.set_slice_whole _ _, Rect.mem_set_unit]
  exact (Fin.forall_fin_two (p := fun a => _ ≤ (i a).val ∧ (i a).val < _)).trans
    ⟨fun h => h.1, fun h => ⟨h, Nat.zero_le _, by have := (i 1).isLt; simpa using this⟩⟩

theorem mem_rs (t : Fin 2) (o : Dev nD) (i : S2x8x16x512.Idx) :
    i ∈ (rsM t o).view.set ↔ (i 0).val = t.val ∧ (i 1).val = o.val := by
  rw [show (rsM t o).view.set = _ from Memref.set_view_squeeze _ _]
  rw [show (Memref.view _).set = _ from View.set_slice_whole _ _, Rect.mem_set_unit]
  refine ⟨fun h => ⟨?_, ?_⟩, fun h => ?_⟩
  · have h0 : t.val ≤ (i 0).val ∧ (i 0).val < t.val + 1 := h 0
    omega
  · have h1 : o.val ≤ (i 1).val ∧ (i 1).val < o.val + 1 := h 1
    omega
  · have h2 : (i 2).val < 16 := (i 2).isLt
    have h3 : (i 3).val < 512 := (i 3).isLt
    have e : ∀ a : Fin 4, (![t.val, o.val, 0, 0] : Fin 4 → ℕ) a ≤ (i a).val
        ∧ (i a).val < (![t.val, o.val, 0, 0] : Fin 4 → ℕ) a + (![1, 1, 16, 512] : Fin 4 → ℕ) a := by
      simp [Fin.forall_fin_succ]
      omega
    exact e

theorem mem_ag (t : Fin 2) (o : Dev nD) (i : S2x8x16x512.Idx) :
    i ∈ (agM t o).view.set ↔ (i 0).val = t.val ∧ (i 1).val = o.val := mem_rs t o i

theorem mem_red (t : Fin 2) (i : S2x16x512.Idx) : i ∈ (redM t).view.set ↔ (i 0).val = t.val := by
  rw [show (redM t).view.set = _ from Memref.set_view_squeeze _ _]
  rw [show (Memref.view _).set = _ from View.set_slice_whole _ _, Rect.mem_set_unit]
  refine ⟨fun h => ?_, fun h => ?_⟩
  · have h0 : t.val ≤ (i 0).val ∧ (i 0).val < t.val + 1 := h 0
    omega
  · have h1 : (i 1).val < 16 := (i 1).isLt
    have h2 : (i 2).val < 512 := (i 2).isLt
    have e : ∀ a : Fin 3, (![t.val, 0, 0] : Fin 3 → ℕ) a ≤ (i a).val
        ∧ (i a).val < (![t.val, 0, 0] : Fin 3 → ℕ) a + (![1, 16, 512] : Fin 3 → ℕ) a := by
      simp [Fin.forall_fin_succ]
      omega
    exact e

/-! ### Where each piece's elements lie -/

theorem emb_part (o : Dev nD) (t : Fin 2) (a : Fin 16) (b : Fin 512) :
    (partM o t).view.emb (ix2 a b) = (ix2 (rowIx (32 * o.val + 16 * t.val + a.val)) b : S256x512.Idx) := by
  have ho : o.val < 8 := o.isLt
  have ht := t.isLt
  have ha := a.isLt
  funext x
  refine Fin.ext ((ValueKit.view_emb_slice_whole_unit_val cc0_scratch0 _ _ _ _ _).trans ?_)
  have e : ∀ x : Fin 2, (![32 * o.val + 16 * t.val, 0] : Fin 2 → ℕ) x + ((ix2 a b : S16x512.Idx) x).val
      = ((ix2 (rowIx (32 * o.val + 16 * t.val + a.val)) b : S256x512.Idx) x).val := by
    refine Fin.forall_fin_two.2 ⟨?_, ?_⟩
    · show 32 * o.val + 16 * t.val + a.val = (32 * o.val + 16 * t.val + a.val) % 256
      omega
    · show 0 + b.val = b.val
      omega
  exact e x

theorem emb_rs (t : Fin 2) (o : Dev nD) (a : Fin 16) (b : Fin 512) :
    (rsM t o).view.emb (ix2 a b) = (ix4 t o a b : S2x8x16x512.Idx) := by
  rw [show (rsM t o).view.emb (ix2 a b) = ((Memref.whole cc0_scratch1).view.slice (Rect.unit (s := S2x8x16x512)
    ![t.val, o.val, 0, 0] S1x1x16x512.size _)).emb (Shape.reshapeEquiv _ (ix2 a b)) from rfl, reshapeEquiv_ix2_11ab]
  funext x
  refine Fin.ext ((ValueKit.view_emb_slice_whole_unit_val cc0_scratch1 _ _ _ _ _).trans ?_)
  have e : ∀ x : Fin 4, (![t.val, o.val, 0, 0] : Fin 4 → ℕ) x
      + ((ix4 (⟨0, Nat.one_pos⟩ : Fin 1) (⟨0, Nat.one_pos⟩ : Fin 1) a b : S1x1x16x512.Idx) x).val
      = ((ix4 t o a b : S2x8x16x512.Idx) x).val := by
    simp [Fin.forall_fin_succ, ix4]
  exact e x

theorem emb_ag (t : Fin 2) (o : Dev nD) (a : Fin 16) (b : Fin 512) :
    (agM t o).view.emb (ix2 a b) = (ix4 t o a b : S2x8x16x512.Idx) := emb_rs t o a b

theorem emb_red (t : Fin 2) (a : Fin 16) (b : Fin 512) :
    (redM t).view.emb (ix2 a b) = (ix3 t a b : S2x16x512.Idx) := by
  rw [show (redM t).view.emb (ix2 a b) = ((Memref.whole cc0_scratch2).view.slice (Rect.unit (s := S2x16x512)
    ![t.val, 0, 0] S1x16x512.size _)).emb (Shape.reshapeEquiv _ (ix2 a b)) from rfl, reshapeEquiv_ix2_1ab]
  funext x
  refine Fin.ext ((ValueKit.view_emb_slice_whole_unit_val cc0_scratch2 _ _ _ _ _).trans ?_)
  have e : ∀ x : Fin 3, (![t.val, 0, 0] : Fin 3 → ℕ) x
      + ((ix3 (⟨0, Nat.one_pos⟩ : Fin 1) a b : S1x16x512.Idx) x).val
      = ((ix3 t a b : S2x16x512.Idx) x).val := by
    simp [Fin.forall_fin_succ, ix3]
  exact e x

/-! ### A strip that has landed -/

/-- The strip `(o, t)` of device `c`'s partial product, written into slot `(t, c)` of `rs`, is that
    slot of what device `o` holds after the first exchange. -/
theorem land_rs (PT : Dev nD → S256x512.Idx → Elt F .bf16) (o c : Dev nD) (t : Fin 2)
    (fd : S2x8x16x512.Idx → Elt F .bf16) (i : S2x8x16x512.Idx) (hi : i ∈ (rsM t c).view.set) :
    (rsM t c).view.write (Elt F) fd ((partM o t).view.read (Elt F) (PT c)) Finset.univ i = RS PT o i := by
  obtain ⟨x, -, rfl⟩ := Finset.mem_map.mp hi
  rw [View.write_emb_of_mem _ _ (Finset.mem_univ x)]
  obtain ⟨a, b, rfl⟩ : ∃ (a : Fin 16) (b : Fin 512), x = ix2 a b := ⟨x 0, x 1, eq_ix2 x⟩
  refine Eq.trans (b := PT c ((partM o t).view.emb (ix2 a b))) rfl ?_
  rw [emb_part, emb_rs]
  rfl

/-- The half `t` of device `c`'s sum, written into slot `(t, c)` of `ag`. -/
theorem land_ag (RD : Dev nD → S2x16x512.Idx → Elt F .bf16) (c : Dev nD) (t : Fin 2)
    (fd : S2x8x16x512.Idx → Elt F .bf16) (i : S2x8x16x512.Idx) (hi : i ∈ (agM t c).view.set) :
    (agM t c).view.write (Elt F) fd ((redM t).view.read (Elt F) (RD c)) Finset.univ i = AG RD i := by
  obtain ⟨x, -, rfl⟩ := Finset.mem_map.mp hi
  rw [View.write_emb_of_mem _ _ (Finset.mem_univ x)]
  obtain ⟨a, b, rfl⟩ : ∃ (a : Fin 16) (b : Fin 512), x = ix2 a b := ⟨x 0, x 1, eq_ix2 x⟩
  refine Eq.trans (b := RD c ((redM t).view.emb (ix2 a b))) rfl ?_
  rw [emb_red, emb_ag]
  rfl

end Cert.KernelIdeal.Talk
-- ==== Proof.Schedule.lean ====
module

public import proofs.«01_k».proof.Proof.Cells

/-! The exchange's schedule: on each semaphore, who raises it, by how much, and what the raise hands over.

Every semaphore is raised in one round.  Its duties are named by the device that pays them.
- The barrier of device `c` is raised once by each of its peers `d`, which hands over the slots that `c` is
  to fill on `d`: the slots `(t, c)` of both buffers of `d`.
- The receive semaphore `(φ, t, o)` of `c` is raised by device `o ≠ c`, whose transfer hands over the slot it filled.
- The send semaphore `(φ, t, k)` of `c` is raised by `c`'s own transfer, which hands back what it read. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

/-- The ghost state: the staging copies' and the exchange's. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-- The elements of a piece of device `c`'s memory, at share `q` and contents `f`. -/
abbrev pt {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-- The share of a summed half that the transfer to peer number `k` holds while in flight. -/
abbrev shr (k : Fin 7) : PosShare TreeShare := Transfers.dealOf fullShare Finset.univ k

variable (PT : Dev nD → S256x512.Idx → Elt F .bf16) (RD : Dev nD → S2x16x512.Idx → Elt F .bf16)

/-- What device `d` hands to `c` with half `t`: its slots `(t, c)`, and the word that its receive semaphores for
    them are in their first round. -/
def slotGive (d c : Dev nD) (t : Fin 2) : sProp 𝕄 :=
  iprop(((∃ f, pt d (rsM t c) fullShare f) ∗ reached ER (cel d (recvJ 0 t c)) 0)
    ∗ ((∃ f, pt d (agM t c) fullShare f) ∗ reached ER (cel d (recvJ 1 t c)) 0))

/-- What device `d` hands to `c` with its barrier signal. -/
def barPay (d c : Dev nD) : sProp 𝕄 := iprop(slotGive d c 0 ∗ slotGive d c 1)

/-- What a transfer of device `c` to its peer number `k` hands back. -/
def sendPay (c : Dev nD) (φ t : Fin 2) (k : Fin 7) : sProp 𝕄 :=
  if φ = 0 then pt c (partM (peer c k) t) fullShare (PT c) else pt c (redM t) (shr k) (RD c)

/-- What a transfer from device `o` hands to `c`. -/
def recvPay (c : Dev nD) (φ t : Fin 2) (o : Dev nD) : sProp 𝕄 :=
  if φ = 0 then pt c (rsM t o) fullShare (RS PT c) else pt c (agM t o) fullShare (AG RD)

/-- What the semaphore of a role hands over on device `c`. -/
def rolePay (c : Dev nD) : Role → sProp 𝕄
  | .send φ t k => sendPay PT RD c φ t k
  | .recv φ t o => recvPay PT RD c φ t o

/-- Who raises the semaphore of a role on device `c`. -/
def roleDuty (c : Dev nD) : Role → Finset (Dev nD)
  | .send _ _ _ => {c}
  | .recv _ _ o => if o = c then ∅ else {o}

/-- The role of a semaphore, if it belongs to the exchange. -/
def roleOf (s : DmaSem sig) : Option Role :=
  if h : 6 ≤ s.val then some (role ⟨s.val - 6, by have : s.val < 66 := s.isLt; omega⟩) else none

theorem roleOf_osem (j : Fin 60) :
    roleOf (⟨6 + j.val, by have := j.isLt; show 6 + j.val < 66; omega⟩ : DmaSem sig) = some (role j) := by
  unfold roleOf
  rw [dif_pos (show 6 ≤ 6 + j.val by omega)]
  congr 2
  exact Fin.ext (show 6 + j.val - 6 = j.val by omega)

/-- Who raises a semaphore of device `c`. -/
def semDuty (c : Dev nD) : SemLoc sig → Finset (Dev nD)
  | .reg _ => Finset.univ.erase c
  | .dma s => match roleOf s with
    | some ρ => roleDuty c ρ
    | none => ∅

/-- By how much each raises it. -/
def semAmt : SemLoc sig → ℕ
  | .reg _ => 1
  | .dma _ => N

/-- What device `d`'s raise hands over. -/
def semPay (c d : Dev nD) : SemLoc sig → sProp 𝕄
  | .reg _ => barPay d c
  | .dma s => match roleOf s with
    | some ρ => rolePay PT RD c ρ
    | none => iprop(emp)

/-- The schedule of the exchange. -/
def talk : Rounds.Schedule (GSem nD τ sig) (Dev nD) 𝕄 where
  duties g r := if r = 0 ∧ g.1.2 = .tc then semDuty g.1.1 g.2 else ∅
  amount g _ _ := semAmt g.2
  payload g _ d := semPay PT RD g.1.1 d g.2
  unitless _ := False
  amount_pos g _ _ _ := by
    unfold semAmt
    split
    · exact Nat.one_pos
    · exact N_pos

instance storable_slotGive (d c : Dev nD) (t : Fin 2) :
    BI.Storable (upEmb : UEmb _ 𝕄) (slotGive (F := F) d c t) := by
  have h1 : ∀ f, BI.Storable (upEmb : UEmb _ 𝕄) (pt (F := F) d (rsM t c) fullShare f) := fun _ => by
    unfold pt; infer_instance
  have h2 : ∀ f, BI.Storable (upEmb : UEmb _ 𝕄) (pt (F := F) d (agM t c) fullShare f) := fun _ => by
    unfold pt; infer_instance
  unfold slotGive
  generalize hA : pt (F := F) d (rsM t c) fullShare = A at *
  generalize hB : pt (F := F) d (agM t c) fullShare = B at *
  infer_instance

instance storable_barPay (d c : Dev nD) : BI.Storable (upEmb : UEmb _ 𝕄) (barPay (F := F) d c) := by
  unfold barPay; infer_instance

instance storable_rolePay (c : Dev nD) (ρ : Role) : BI.Storable (upEmb : UEmb _ 𝕄) (rolePay PT RD c ρ) := by
  cases ρ
  · show BI.Storable (upEmb : UEmb _ 𝕄) (sendPay PT RD c _ _ _); unfold sendPay; split <;> infer_instance
  · show BI.Storable (upEmb : UEmb _ 𝕄) (recvPay PT RD c _ _ _); unfold recvPay; split <;> infer_instance

instance storable_talk (g : GSem nD τ sig) (r : ℕ) (d : Dev nD) :
    BI.Storable (upEmb : UEmb _ 𝕄) ((talk PT RD).payload g r d) := by
  show BI.Storable (upEmb : UEmb _ 𝕄) (semPay PT RD g.1.1 d g.2)
  unfold semPay
  split
  · infer_instance
  · split <;> infer_instance

/-! ## The schedule, read at a cell -/

theorem duties_bar (c : Dev nD) : (talk PT RD).duties (barCel c) 0 = Finset.univ.erase c := by
  dsimp only [talk]; exact if_pos ⟨rfl, rfl⟩

theorem duties_cel (c : Dev nD) (j : Fin 60) : (talk PT RD).duties (cel c j) 0 = roleDuty c (role j) := by
  dsimp only [talk]
  refine (if_pos ⟨rfl, rfl⟩).trans ?_
  show (match roleOf _ with | some ρ => roleDuty c ρ | none => ∅) = _
  rw [roleOf_osem]

theorem duties_later (g : GSem nD τ sig) (r : ℕ) (h : 1 ≤ r) : (talk PT RD).duties g r = ∅ := by
  dsimp only [talk]; exact if_neg fun e => by omega

theorem amount_bar (c d : Dev nD) : (talk PT RD).amount (barCel c) 0 d = 1 := rfl
theorem amount_cel (c : Dev nD) (j : Fin 60) (d : Dev nD) : (talk PT RD).amount (cel c j) 0 d = N := rfl

theorem payload_bar (c d : Dev nD) : (talk PT RD).payload (barCel c) 0 d = barPay d c := rfl

theorem payload_cel (c : Dev nD) (j : Fin 60) (d : Dev nD) :
    (talk PT RD).payload (cel c j) 0 d = rolePay PT RD c (role j) := by
  show (match roleOf _ with | some ρ => rolePay PT RD c ρ | none => iprop(emp)) = _
  rw [roleOf_osem]

theorem expect_bar (c : Dev nD) : (talk PT RD).expect (barCel c) 0 = 7 := by
  unfold Schedule.expect Schedule.amountOf
  rw [duties_bar, Finset.sum_congr rfl fun d _ => amount_bar PT RD c d, Finset.sum_const, Finset.card_erase_of_mem (Finset.mem_univ c)]
  decide

/-- The duties of a transfer semaphore that is raised at all: one. -/
theorem expect_cel (c : Dev nD) (j : Fin 60) (d : Dev nD) (h : roleDuty c (role j) = {d}) :
    (talk PT RD).expect (cel c j) 0 = N := by
  unfold Schedule.expect Schedule.amountOf
  rw [duties_cel, h, Finset.sum_singleton, amount_cel]

theorem rest_cel (c : Dev nD) (j : Fin 60) (d : Dev nD) (h : roleDuty c (role j) = {d}) :
    bigSep ((talk PT RD).duties (cel c j) 0 \ ∅) (fun u => (talk PT RD).payload (cel c j) 0 u)
      = rolePay PT RD c (role j) := by
  rw [Finset.sdiff_empty, duties_cel, h, bigSep_singleton, payload_cel]

theorem rest_bar (c : Dev nD) :
    bigSep ((talk PT RD).duties (barCel c) 0 \ ∅) (fun u => (talk PT RD).payload (barCel c) 0 u)
      = bigSep (Finset.univ.erase c) fun d => barPay d c := by
  rw [Finset.sdiff_empty, duties_bar]
  rfl

theorem roleDuty_send (c : Dev nD) (φ t : Fin 2) (k : Fin 7) : roleDuty c (role (sendJ φ t k)) = {c} := by
  rw [role_send]; rfl

theorem roleDuty_recv (c : Dev nD) (φ t : Fin 2) (o : Dev nD) (h : o ≠ c) : roleDuty c (role (recvJ φ t o)) = {o} := by
  rw [role_recv]; exact if_neg h

/-! ## What is owed, and the order of waiting -/

/-- The raises a device makes of other devices' semaphores. -/
inductive Item where
  | bar (k : Fin 7)
  | send (φ t : Fin 2) (k : Fin 7)
  deriving DecidableEq

/-- The cell an item of device `c` raises. -/
def Item.cell (c : Dev nD) : Item → GSem nD τ sig
  | .bar k => barCel (peer c k)
  | .send φ t k => cel (peer c k) (recvJ φ t c)

/-- By how much. -/
def Item.amt : Item → ℕ
  | .bar _ => 1
  | .send _ _ _ => N

theorem Item.amt_pos (x : Item) : 0 < x.amt := by
  cases x
  · exact Nat.one_pos
  · exact N_pos

/-- The order in which cells are waited for. -/
def Item.lev : Item → ℕ
  | .bar _ => 1
  | .send φ _ _ => φ.val + 2

/-- What device `c` owes while it has the items `l` still to do. -/
def dues (c : Dev nD) : List Item → CellTallies nD τ sig Unit
  | [] => 0
  | x :: l => dues c l + tallyAt (x.cell c) () x.amt

/-- The cells with levels: those of the tensor cores. -/
def L (g : GSem nD τ sig) : Finset Unit := if g.1.2 = .tc then {()} else ∅

/-- Barrier cells at 1, the first exchange's receive cells at 2, the second's at 3, the rest at 0. -/
def lv (g : GSem nD τ sig) (_ : Unit) : ℕ :=
  match g.2 with
  | .reg _ => 1
  | .dma s => match roleOf s with
    | some (.recv φ _ _) => φ.val + 2
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCel c) u = 1 := rfl

theorem lv_cel (c : Dev nD) (j : Fin 60) (u : Unit) :
    lv (cel c j) u = match role j with | .recv φ _ _ => φ.val + 2 | _ => 0 := by
  show (match roleOf _ with | some (.recv φ _ _) => φ.val + 2 | _ => 0) = _
  rw [roleOf_osem]
  cases role j <;> rfl

theorem lv_cell (c : Dev nD) (x : Item) (u : Unit) : lv (x.cell c) u = x.lev := by
  cases x
  · rfl
  · exact (lv_cel _ _ _).trans (by rw [role_recv]; rfl)

theorem L_cell (c : Dev nD) (x : Item) : L (x.cell c) = {()} := by
  cases x <;> exact if_pos rfl

/-- Whatever is owed is owed on the cell of an item still to do. -/
theorem dues_pos (c : Dev nD) (l : List Item) (g : GSem nD τ sig) (u : Unit) (h : 0 < dues c l g u) :
    ∃ x ∈ l, x.cell c = g := by
  induction l with
  | nil => exact absurd h (Nat.lt_irrefl 0)
  | cons x l ih =>
    by_cases e : g = x.cell c
    · exact ⟨x, List.mem_cons_self, e.symm⟩
    · have h' : 0 < dues c l g u := by
        have : (dues c (x :: l)) g u = dues c l g u + (tallyAt (x.cell c) () x.amt) g u := rfl
        rw [this, tallyAt_apply, if_neg (fun k => e k.1), Nat.add_zero] at h
        exact h
      obtain ⟨y, hy, e'⟩ := ih h'
      exact ⟨y, List.mem_cons_of_mem _ hy, e'⟩

/-- A device may wait for a cell below everything it has still to do. -/
theorem mayWait (c : Dev nD) (l : List Item) (sm : SemLoc sig) (n : ℕ) (hs : lv ((c : Thread nD τ), sm) () ≤ n)
    (hl : ∀ x ∈ l, n < x.lev) :
    (levAts L lv : sProp 𝕄) ⊢ MayWait (c : Thread nD τ) sm () (dues c l) :=
  MayOwe.of_cut (L := L) (lev := lv) n
    (fun p hp => by rw [Finset.mem_singleton.mp hp, L_tc]; exact Finset.mem_singleton_self _)
    (fun g u hg => by
      obtain ⟨x, -, rfl⟩ := dues_pos c l g u hg
      rw [L_cell]; exact Finset.mem_singleton_self _)
    (fun p hp => by rw [Finset.mem_singleton.mp hp]; exact hs)
    (fun g u hg => by
      obtain ⟨x, hx, rfl⟩ := dues_pos c l g u hg
      rw [lv_cell]; exact hl x hx)

end Cert.KernelIdeal.Talk
-- ==== Proof.Steps.lean ====
module

public import proofs.«01_k».proof.Proof.Schedule
public import Idealize.ShloMosaic.Lib.Pipeline.RegionTalk

/-! One step of the exchange at a time.

The state of a device between two steps is `St`: what all devices know (the semaphores' invariants and levels),
what this one still owes, and the rest of what it holds.  Each theorem takes the state before one operation of the
kernel to the state after it. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

abbrev 𝒱₀ : Variants := Variants.none

variable (PT : Dev nD → S256x512.Idx → Elt F .bf16) (RD : Dev nD → S2x16x512.Idx → Elt F .bf16)

/-- The invariant of the barrier of device `c`, and that its first round is open. -/
abbrev barRec (κ : GSem nD τ sig → ℕ) (c : Dev nD) : sProp 𝕄 :=
  iprop(cellInv ER (talk PT RD) (κ (barCel c)) (barCel c) ∗ reached ER (barCel c) 0)

/-- What every device knows: all invariants, the barriers' first rounds and the levels. -/
def Recs (κ : GSem nD τ sig → ℕ) : sProp 𝕄 :=
  iprop((bigSep Finset.univ fun x : Dev nD × Fin 60 => cellInv ER (talk PT RD) (κ (cel x.1 x.2)) (cel x.1 x.2))
    ∗ (bigSep Finset.univ fun c => barRec PT RD κ c) ∗ levAts L lv)

instance Recs_persistent (κ : GSem nD τ sig → ℕ) : BI.Persistent (Recs PT RD κ) := by
  unfold Recs; infer_instance

theorem Recs_cel (κ : GSem nD τ sig → ℕ) (c : Dev nD) (j : Fin 60) :
    Recs PT RD κ ⊢ cellInv ER (talk PT RD) (κ (cel c j)) (cel c j) := by
  unfold Recs
  exact sep_elim_left.trans (bigSep_elim
    (Φ := fun x : Dev nD × Fin 60 => cellInv ER (talk PT RD) (κ (cel x.1 x.2)) (cel x.1 x.2)) (Finset.mem_univ (c, j)))

theorem Recs_bar (κ : GSem nD τ sig → ℕ) (c : Dev nD) : Recs PT RD κ ⊢ barRec PT RD κ c := by
  unfold Recs
  exact sep_elim_right.trans (sep_elim_left.trans
    (bigSep_elim (Φ := fun c => barRec PT RD κ c) (Finset.mem_univ c)))

theorem Recs_lev (κ : GSem nD τ sig → ℕ) : Recs PT RD κ ⊢ levAts L lv := by
  unfold Recs
  iintro ⟨-, -, H⟩
  iexact H

/-- Device `c`'s state with the items `l` still owed, holding `R`. -/
abbrev St (κ : GSem nD τ sig → ℕ) (c : Dev nD) (l : List Item) (R : sProp 𝕄) : sProp 𝕄 :=
  iprop(Recs PT RD κ ∗ (∃ W, owes (c : Thread nD τ) (dues c l) W) ∗ R)

/-- The weakest precondition of a piece of device `c`'s program. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {PT RD}
variable {κ : GSem nD τ sig → ℕ} {c : Dev nD} {l : List Item} {R T D : sProp (MT nD τ sig Unit (Elt F) ℕ UU ℕ)}
variable {α : Type} {Q : α → sProp (MT nD τ sig Unit (Elt F) ℕ UU ℕ)}

/-- The rest of what is held may be replaced by what it entails. -/
theorem St_mono {R' P : sProp 𝕄} (hR : R ⊢ R') (h : St PT RD κ c l R' ⊢ P) : St PT RD κ c l R ⊢ P :=
  (sep_mono_right (sep_mono_right hR)).trans h

/-! ## The barrier -/

/-- What a barrier signal to peer number `k` takes: the right to raise it, and what it hands over. -/
def barRes (c : Dev nD) (k : Fin 7) : sProp 𝕄 :=
  iprop(dutyTok ER (barCel (peer c k)) 0 c ∗ barPay (F := F) c (peer c k))

/-- The signal to peer number `k`. -/
theorem signal_step {dev : Dev nD} {s : Sem sig} {n : ℤ} {k : PUnit → Prog (TpuEff nD τ sig (Elt F) Λ₀ .tc) α} (i : Fin 7)
    (hs : s = barrier0) (hdev : dev = peer c i) (hn : n = 1)
    (h : St PT RD κ c l T ⊢ wpc c (k ⟨⟩) Q) :
    St PT RD κ c (.bar i :: l) iprop(barRes c i ∗ T) ⊢ wpc c (.op (.semSignal (Dev.tc dev) s n) k) Q := by
  subst hs hdev hn
  unfold barRes
  iintro ⟨#HR, ⟨%W, HO⟩, ⟨Htok, Hpay⟩, HT⟩
  ihave #Hb := (Recs_bar PT RD κ (peer c i)) $$ HR
  icases Hb with ⟨#HI, #Hr⟩
  ihave Hpay := (Entails.of_eq (payload_bar PT RD (peer c i) c).symm) $$ Hpay
  iapply (Rounds.wp_signal 𝒱₀ ER (talk PT RD) (c : Thread nD τ) none (dst := (peer c i : Thread nD τ)) (sem := barrier0) (r := 0)
    (d := c) (k' := 1) (κ := κ (barCel (peer c i)))
    (by
      have e := duties_bar PT RD (peer c i)
      exact e ▸ Finset.mem_erase.2 ⟨(peer_ne c i).symm, Finset.mem_univ c⟩) (amount_bar PT RD (peer c i) c) () (dues c l) rfl)
    $$ [HO Htok Hpay]
  · isplitr; · iexact HI
    isplitl [HO]; · iexact HO
    isplitl [Htok]; · iexact Htok
    isplitl [Hpay]; · iexact Hpay
    iexact Hr
  iintro HO
  iapply h
  isplitr; · iexact HR
  isplitl [HO]; · iexists W; iexact HO
  iexact HT

/-- The barrier wait: every peer's slots for this device come with it. -/
theorem barrier_step {s : Sem sig} {n : ℤ} {k : PUnit → Prog (TpuEff nD τ sig (Elt F) Λ₀ .tc) α}
    (hs : s = barrier0) (hn : n = 7) (hl : ∀ x ∈ l, 1 < x.lev)
    (h : St PT RD κ c l iprop(atPos ER (barCel c) 1 ∅ 0 ∗ (bigSep (Finset.univ.erase c) fun d => barPay (F := F) d c) ∗ T)
      ⊢ wpc c (k ⟨⟩) Q) :
    St PT RD κ c l iprop((cred (tallyAt (barCel c) () 7) ∗ atPos ER (barCel c) 0 ∅ 0) ∗ T)
      ⊢ wpc c (.op (.semWait s n) k) Q := by
  subst hs hn
  iintro ⟨#HR, ⟨%W, HO⟩, ⟨Hc, Hat⟩, HT⟩
  ihave #Hb := (Recs_bar PT RD κ c) $$ HR
  icases Hb with ⟨#HI, -⟩
  ihave #Hlev := (Recs_lev PT RD κ) $$ HR
  iapply (Rounds.wp_wait_rest_token 𝒱₀ ER (talk PT RD) (c : Thread nD τ) none (κ := κ (barCel c))
      (wpE_semWait_eq 𝒱₀ (c : Thread nD τ) none Set.univ) (Set.mem_univ _) () (O := dues c l) (W := W) (R := 0) (m := 0) (T := ∅)
      ((Nat.zero_add 7).trans (expect_bar PT RD c).symm)) $$ [Hc HO Hat]
  · isplitr; · iexact HI
    isplitl [Hc]; · iexact Hc
    isplitl [HO]; · iexact HO
    isplitr
    · iapply (mayWait c l barS 1 (le_of_eq (lv_bar c ())) hl); iexact Hlev
    iexact Hat
  iintro ⟨HO, Hat, -, Hpay⟩
  ihave Hp := (Entails.of_eq (rest_bar PT RD c)) $$ Hpay
  iapply h
  isplitr; · iexact HR
  isplitl [HO]; · iexists _; iexact HO
  isplitl [Hat]; · iexact Hat
  isplitl [Hp]; · iexact Hp
  iexact HT

/-! ## Waiting for a transfer -/

/-- What a wait on the `j`-th transfer semaphore takes. -/
def waitRes (c : Dev nD) (j : Fin 60) : sProp 𝕄 :=
  iprop(cred (tallyAt (cel c j) () N) ∗ atPos ER (cel c j) 0 ∅ 0)

variable (PT RD) in
/-- What it gives: the semaphore past its round, and what the transfer handed over. -/
def waitGot (c : Dev nD) (j : Fin 60) : sProp 𝕄 :=
  iprop(atPos ER (cel c j) 1 ∅ 0 ∗ rolePay PT RD c (role j))

/-- A wait on the `j`-th transfer semaphore. -/
theorem wait_step {sp sp' : Space} {s s' : Shape} {e e' : EltTy} {sm : DmaSem sig}
    {src : Memref sig .tc sp s e} {dst : Memref sig .tc sp' s' e'} {hx : src.view.WordExact} {hy : dst.view.WordExact}
    {k : PUnit → Prog (TpuEff nD τ sig (Elt F) Λ₀ .tc) α} (j : Fin 60) (d : Dev nD) (n : ℕ)
    (hs : SemLoc.dma sm = osem j) (hd : roleDuty c (role j) = {d}) (hN : dst.view.dmaCredit = N)
    (hn : lv (cel c j) () ≤ n) (hl : ∀ x ∈ l, n < x.lev)
    (h : St PT RD κ c l iprop(T ∗ (waitGot PT RD c j ∗ D) ∗ R) ⊢ wpc c (k ⟨⟩) Q) :
    St PT RD κ c l iprop((waitRes c j ∗ T) ∗ D ∗ R) ⊢ wpc c (.op (.waitDma2 sm src dst hx hy) k) Q := by
  unfold waitRes waitGot at *
  iintro ⟨#HR, ⟨%W, HO⟩, ⟨⟨Hc, Hat⟩, HT⟩, HD, HRest⟩
  ihave #HI := (Recs_cel PT RD κ c j) $$ HR
  ihave #Hlev := (Recs_lev PT RD κ) $$ HR
  have ec : ((c : Thread nD τ), SemLoc.dma sm) = cel c j := congrArg (Prod.mk _) hs
  iapply (Rounds.wp_wait_rest_token 𝒱₀ ER (talk PT RD) (c : Thread nD τ) none (κ := κ (cel c j)) (k' := N) (sm := SemLoc.dma sm)
      (fun K => (wpE_waitDma2_eq 𝒱₀ (c : Thread nD τ) none Set.univ K).trans (by rw [hN])) (Set.mem_univ _) () (O := dues c l) (W := W) (R := 0) (m := 0) (T := ∅)
      (by rw [ec]; exact (Nat.zero_add _).trans (expect_cel PT RD c j d hd).symm)) $$ [Hc HO Hat]
  · rw [ec]
    isplitr; · iexact HI
    isplitl [Hc]; · iexact Hc
    isplitl [HO]; · iexact HO
    isplitr
    · rw [hs]; iapply (mayWait c l (osem j) n hn hl); iexact Hlev
    iexact Hat
  rw [ec]
  iintro ⟨HO, Hat, -, Hpay⟩
  ihave Hp := (Entails.of_eq (rest_cel PT RD c j d hd)) $$ Hpay
  iapply h
  isplitr; · iexact HR
  isplitl [HO]; · iexists _; iexact HO
  isplitl [HT]; · iexact HT
  isplitl [Hat Hp HD]
  · isplitl [Hat Hp]
    · isplitl [Hat]; · iexact Hat
      iexact Hp
    iexact HD
  iexact HRest

/-! ## Sending -/

/-- The slot a transfer fills on its peer. -/
def dstAny (c : Dev nD) (φ t : Fin 2) (k : Fin 7) : sProp 𝕄 :=
  if φ = 0 then iprop(∃ f, pt (F := F) (peer c k) (rsM t c) fullShare f) else iprop(∃ f, pt (F := F) (peer c k) (agM t c) fullShare f)

/-- The rights a transfer to peer number `k` is paid with. -/
def sendTok (c : Dev nD) (φ t : Fin 2) (k : Fin 7) : sProp 𝕄 :=
  iprop((dutyTok ER (cel c (sendJ φ t k)) 0 c ∗ reached ER (cel c (sendJ φ t k)) 0)
    ∗ dutyTok ER (cel (peer c k) (recvJ φ t c)) 0 c)

/-- A slot of the peer's, and that its receive semaphore is in its first round. -/
def sendTo (c : Dev nD) (φ t : Fin 2) (k : Fin 7) : sProp 𝕄 :=
  iprop(dstAny (F := F) c φ t k ∗ reached ER (cel (peer c k) (recvJ φ t c)) 0)

variable (PT RD) in
/-- What a transfer takes. -/
def sendRes (c : Dev nD) (φ t : Fin 2) (k : Fin 7) : sProp 𝕄 :=
  iprop(sendTok (F := F) c φ t k ∗ sendTo (F := F) c φ t k ∗ sendPay PT RD c φ t k)

/-- The wait a transfer earns. -/
abbrev sent (c : Dev nD) (φ t : Fin 2) (k : Fin 7) : sProp 𝕄 := cred (tallyAt (cel c (sendJ φ t k)) () N)

/-- A transfer of the first exchange: the strip `(peer, t)` of the partial product to the peer's slot `(t, c)`. -/
theorem send0_step {dev : Dev nD} {sS sm : DmaSem sig} {src dst : Memref sig .tc .vmem S16x512 .bf16}
    {hsc : dst.view.ref.isScScratch = false} {hx : src.view.WordExact} {hy : dst.view.WordExact}
    {hsem : DmaTarget.Typed .vmem (SemLoc.dma sm) (.remote (Dev.tc dev : Thread nD τ) dst (SemLoc.dma sS) hsc)}
    {k : PUnit → Prog (TpuEff nD τ sig (Elt F) Λ₀ .tc) α} (t : Fin 2) (i : Fin 7)
    (hdev : dev = peer c i) (hsrc : src = partM (peer c i) t) (hdst : dst = rsM t c)
    (hS : SemLoc.dma sS = osem (sendJ 0 t i)) (hm : SemLoc.dma sm = osem (recvJ 0 t c))
    (h : St PT RD κ c l iprop(T ∗ (sent c 0 t i ∗ D) ∗ R) ⊢ wpc c (k ⟨⟩) Q) :
    St PT RD κ c (.send 0 t i :: l) iprop((sendRes PT RD c 0 t i ∗ T) ∗ D ∗ R)
      ⊢ wpc c (.op (.enqueueDma src (.remote (Dev.tc dev) dst (SemLoc.dma sS) hsc) (SemLoc.dma sm) hx hy hsem) k) Q := by
  subst hdev hsrc hdst
  unfold sendRes sendTok sendTo dstAny sendPay
  rw [if_pos rfl, if_pos rfl]
  iintro ⟨#HR, ⟨%W, HO⟩, ⟨⟨⟨⟨Ht1, #Hr1⟩, Ht2⟩, ⟨⟨%fd, Hd⟩, #Hr2⟩, Hs⟩, HT⟩, HD, HRest⟩
  ihave #HI1 := (Recs_cel PT RD κ c (sendJ 0 t i)) $$ HR
  ihave #HI2 := (Recs_cel PT RD κ (peer c i) (recvJ 0 t c)) $$ HR
  have e1 : ((c : Thread nD τ), SemLoc.dma sS) = cel c (sendJ 0 t i) := congrArg (Prod.mk _) hS
  have e2 : ((peer c i : Thread nD τ), SemLoc.dma sm) = cel (peer c i) (recvJ 0 t c) := congrArg (Prod.mk _) hm
  iapply (Rounds.wp_send_pointsTo 𝒱₀ ER (talk PT RD) (c : Thread nD τ) none (c' := (peer c i : Thread nD τ))
      (src := partM (peer c i) t) (dst := rsM t c)
      (sS := SemLoc.dma sS) (sem := SemLoc.dma sm) (q := fullShare) (fs := PT c) (κ₁ := κ (cel c (sendJ 0 t i)))
      (κ₂ := κ (cel (peer c i) (recvJ 0 t c)))
      (r₁ := 0) (r₂ := 0) (d₁ := c) (d₂ := c) (fd := fd)
      (by rw [e1, duties_cel, roleDuty_send]; exact Finset.mem_singleton_self _)
      (by rw [e2, duties_cel, roleDuty_recv _ _ _ _ (peer_ne c i).symm]; exact Finset.mem_singleton_self _)
      () () N rfl rfl rfl (dues c l)
      (by rw [e2]) (W := W)
      (by rw [e1, payload_cel, role_send]; exact BI.Entails.refl _)
      (by
        rw [e2, payload_cel, role_recv]
        exact Entails.of_eq (pointsTo_congr fun j hj => land_rs PT (peer c i) c t fd j hj)))
    $$ [Hs Hd HO Ht1 Ht2]
  · rw [e1, e2]
    isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  rw [e1]
  iintro ⟨Hc, HO⟩
  iapply h
  isplitr; · iexact HR
  isplitl [HO]; · iexists _; iexact HO
  isplitl [HT]; · iexact HT
  isplitl [Hc HD]
  · isplitl [Hc]; · iexact Hc
    iexact HD
  iexact HRest

/-- A transfer of the second exchange: the summed half `t` to the peer's slot `(t, c)`. -/
theorem send1_step {dev : Dev nD} {sS sm : DmaSem sig} {src dst : Memref sig .tc .vmem S16x512 .bf16}
    {hsc : dst.view.ref.isScScratch = false} {hx : src.view.WordExact} {hy : dst.view.WordExact}
    {hsem : DmaTarget.Typed .vmem (SemLoc.dma sm) (.remote (Dev.tc dev : Thread nD τ) dst (SemLoc.dma sS) hsc)}
    {k : PUnit → Prog (TpuEff nD τ sig (Elt F) Λ₀ .tc) α} (t : Fin 2) (i : Fin 7)
    (hdev : dev = peer c i) (hsrc : src = redM t) (hdst : dst = agM t c)
    (hS : SemLoc.dma sS = osem (sendJ 1 t i)) (hm : SemLoc.dma sm = osem (recvJ 1 t c))
    (h : St PT RD κ c l iprop(T ∗ (sent c 1 t i ∗ D) ∗ R) ⊢ wpc c (k ⟨⟩) Q) :
    St PT RD κ c (.send 1 t i :: l) iprop((sendRes PT RD c 1 t i ∗ T) ∗ D ∗ R)
      ⊢ wpc c (.op (.enqueueDma src (.remote (Dev.tc dev) dst (SemLoc.dma sS) hsc) (SemLoc.dma sm) hx hy hsem) k) Q := by
  subst hdev hsrc hdst
  unfold sendRes sendTok sendTo dstAny sendPay
  rw [if_neg (by decide), if_neg (by decide)]
  iintro ⟨#HR, ⟨%W, HO⟩, ⟨⟨⟨⟨Ht1, #Hr1⟩, Ht2⟩, ⟨⟨%fd, Hd⟩, #Hr2⟩, Hs⟩, HT⟩, HD, HRest⟩
  ihave #HI1 := (Recs_cel PT RD κ c (sendJ 1 t i)) $$ HR
  ihave #HI2 := (Recs_cel PT RD κ (peer c i) (recvJ 1 t c)) $$ HR
  have e1 : ((c : Thread nD τ), SemLoc.dma sS) = cel c (sendJ 1 t i) := congrArg (Prod.mk _) hS
  have e2 : ((peer c i : Thread nD τ), SemLoc.dma sm) = cel (peer c i) (recvJ 1 t c) := congrArg (Prod.mk _) hm
  iapply (Rounds.wp_send_pointsTo 𝒱₀ ER (talk PT RD) (c : Thread nD τ) none (c' := (peer c i : Thread nD τ))
      (src := redM t) (dst := agM t c)
      (sS := SemLoc.dma sS) (sem := SemLoc.dma sm) (q := shr i) (fs := RD c) (κ₁ := κ (cel c (sendJ 1 t i)))
      (κ₂ := κ (cel (peer c i) (recvJ 1 t c)))
      (r₁ := 0) (r₂ := 0) (d₁ := c) (d₂ := c) (fd := fd)
      (by rw [e1, duties_cel, roleDuty_send]; exact Finset.mem_singleton_self _)
      (by rw [e2, duties_cel, roleDuty_recv _ _ _ _ (peer_ne c i).symm]; exact Finset.mem_singleton_self _)
      () () N rfl rfl rfl (dues c l)
      (by rw [e2]) (W := W)
      (by rw [e1, payload_cel, role_send]; exact BI.Entails.refl _)
      (by
        rw [e2, payload_cel, role_recv]
        exact Entails.of_eq (pointsTo_congr fun j hj => land_ag RD c t fd j hj)))
    $$ [Hs Hd HO Ht1 Ht2]
  · rw [e1, e2]
    isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  rw [e1]
  iintro ⟨Hc, HO⟩
  iapply h
  isplitr; · iexact HR
  isplitl [HO]; · iexists _; iexact HO
  isplitl [HT]; · iexact HT
  isplitl [Hc HD]
  · isplitl [Hc]; · iexact Hc
    iexact HD
  iexact HRest

end Cert.KernelIdeal.Talk
-- ==== Proof.Names.lean ====
module

public import proofs.«01_k».proof.Proof.Steps
public import proofs.«01_k».proof.Proof.Gen.KernelIdeal.Skeleton

/-! The kernel's pieces on its own buffers, and the names its text gives to the pieces of those buffers. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-- A piece of the kernel on the buffers and semaphores it is launched with. -/
abbrev ap {β : Type 1} (p : (a0 : Memref sig .tc .vmem S2x128x512 .bf16) → a0.IsWhole →
    (a1 : Memref sig .tc .vmem S2x128x256 .bf16) → a1.IsWhole →
    (a2 : Memref sig .tc .vmem S2x128x256 .bf16) → a2.IsWhole →
    (a3 : Memref sig .tc .vmem S512x256 .bf16) → a3.IsWhole →
    (a4 : Memref sig .tc .vmem S256x512 .bf16) → a4.IsWhole →
    (a5 : Memref sig .tc .vmem S2x128x512 .f32) → a5.IsWhole →
    (a6 : Memref sig .tc .vmem S256x512 .bf16) → a6.IsWhole →
    (a7 : Memref sig .tc .vmem S2x8x16x512 .bf16) → a7.IsWhole →
    (a8 : Memref sig .tc .vmem S2x16x512 .bf16) → a8.IsWhole →
    (a9 : Memref sig .tc .vmem S2x8x16x512 .bf16) → a9.IsWhole →
    DmaSems sig S2x7 → DmaSems sig S2x8 → DmaSems sig S2x7 → DmaSems sig S2x8 → β) : β :=
  p (Memref.whole cc0_stg0_0) (Memref.isWhole_whole _)
    (Memref.whole cc0_stg1_0) (Memref.isWhole_whole _)
    (Memref.whole cc0_stg2_0) (Memref.isWhole_whole _)
    (Memref.whole cc0_stg3_0) (Memref.isWhole_whole _)
    (Memref.whole cc0_stg4_0) (Memref.isWhole_whole _)
    (Memref.whole cc0_stg5_0) (Memref.isWhole_whole _)
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    cc0_scratch4 cc0_scratch5 cc0_scratch6 cc0_scratch7

/-- A run that ends at once. -/
theorem ret_step {β : Type} {c : Dev nD} {a : β} {P : sProp 𝕄} {Q : β → sProp 𝕄} (h : P ⊢ Q a) :
    P ⊢ wpc c (pure a) Q := by
  exact h.trans fupd_intro

/-! ## Semaphores and memory under the names of the kernel's text -/

/-- A semaphore of the array `cc0_scratch4`, by its place. -/
theorem sem_send0 (t : Fin 2) (k : Fin 7) {off : Fin 2 → ℕ} (ho : off = ![t.val, k.val]) (h) (h') :
    SemLoc.dma ((cc0_scratch4.slice (Rect.unit (s := S2x7) off S1x1.size h)).squeeze S_ h').sem = osem (sendJ 0 t k) := by
  subst ho; revert t k; decide

/-- A semaphore of the array `cc0_scratch5`, by its place. -/
theorem sem_recv0 (t : Fin 2) (k : Dev nD) {off : Fin 2 → ℕ} (ho : off = ![t.val, k.val]) (h) (h') :
    SemLoc.dma ((cc0_scratch5.slice (Rect.unit (s := S2x8) off S1x1.size h)).squeeze S_ h').sem = osem (recvJ 0 t k) := by
  subst ho; revert t k; decide

/-- A semaphore of the array `cc0_scratch6`, by its place. -/
theorem sem_send1 (t : Fin 2) (k : Fin 7) {off : Fin 2 → ℕ} (ho : off = ![t.val, k.val]) (h) (h') :
    SemLoc.dma ((cc0_scratch6.slice (Rect.unit (s := S2x7) off S1x1.size h)).squeeze S_ h').sem = osem (sendJ 1 t k) := by
  subst ho; revert t k; decide

/-- A semaphore of the array `cc0_scratch7`, by its place. -/
theorem sem_recv1 (t : Fin 2) (k : Dev nD) {off : Fin 2 → ℕ} (ho : off = ![t.val, k.val]) (h) (h') :
    SemLoc.dma ((cc0_scratch7.slice (Rect.unit (s := S2x8) off S1x1.size h)).squeeze S_ h').sem = osem (recvJ 1 t k) := by
  subst ho; revert t k; decide

/-- A strip of the partial product, by its rows. -/
theorem name_part (o : Dev nD) (t : Fin 2) {off : Fin 2 → ℕ} (ho : off = ![32 * o.val + 16 * t.val, 0]) (h) (h') :
    (Memref.whole cc0_scratch0).slice (Rect.unit (s := S256x512) off S16x512.size h) h' = partM o t := by
  subst ho; rfl

/-- A slot of `rs`, by its place. -/
theorem name_rs (t : Fin 2) (o : Dev nD) {off : Fin 4 → ℕ} (ho : off = ![t.val, o.val, 0, 0]) (h) (h') (h'') :
    ((Memref.whole cc0_scratch1).slice (Rect.unit (s := S2x8x16x512) off S1x1x16x512.size h) h').squeeze S16x512 h''
      = rsM t o := by
  subst ho; rfl

/-- A slot of `ag`, by its place. -/
theorem name_ag (t : Fin 2) (o : Dev nD) {off : Fin 4 → ℕ} (ho : off = ![t.val, o.val, 0, 0]) (h) (h') (h'') :
    ((Memref.whole cc0_scratch3).slice (Rect.unit (s := S2x8x16x512) off S1x1x16x512.size h) h').squeeze S16x512 h''
      = agM t o := by
  subst ho; rfl

/-- A summed half, by its place. -/
theorem name_red (t : Fin 2) {off : Fin 3 → ℕ} (ho : off = ![t.val, 0, 0]) (h) (h') (h'') :
    ((Memref.whole cc0_scratch2).slice (Rect.unit (s := S2x16x512) off S1x16x512.size h) h').squeeze S16x512 h''
      = redM t := by
  subst ho; rfl

end Cert.KernelIdeal.Talk
-- ==== Proof.Mem.lean ====
module

public import proofs.«01_k».proof.Proof.Names

/-! The local steps: a piece of memory is looked up among everything held, read or overwritten, and put back. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

section
variable {A A' B R R' : sProp (MT nD τ sig Unit (Elt F) ℕ UU ℕ)}

/-- The wanted piece stands first. -/
theorem here : iprop(A ∗ B) ⊢ iprop(A ∗ (A' -∗ A' ∗ B)) := by
  iintro ⟨HA, HB⟩
  isplitl [HA]; · iexact HA
  iintro HA'
  isplitl [HA']; · iexact HA'
  iexact HB

/-- Everything held is the wanted piece. -/
theorem only : A ⊢ iprop(A ∗ (A' -∗ A')) := by
  iintro HA
  isplitl [HA]; · iexact HA
  iintro HA'; iexact HA'

/-- The wanted piece stands behind the first. -/
theorem next (h : R ⊢ iprop(A ∗ (A' -∗ R'))) : iprop(B ∗ R) ⊢ iprop(A ∗ (A' -∗ B ∗ R')) := by
  iintro ⟨HB, HR⟩
  ihave HR := h $$ HR
  icases HR with ⟨HA, HR⟩
  isplitl [HA]; · iexact HA
  iintro HA'
  ihave HR := HR $$ HA'
  isplitl [HB]; · iexact HB
  iexact HR

/-- The wanted piece is a part of the first. -/
theorem within (h : R ⊢ iprop(A ∗ (A' -∗ R'))) : iprop(R ∗ B) ⊢ iprop(A ∗ (A' -∗ R' ∗ B)) := by
  iintro ⟨HR, HB⟩
  ihave HR := h $$ HR
  icases HR with ⟨HA, HR⟩
  isplitl [HA]; · iexact HA
  iintro HA'
  ihave HR := HR $$ HA'
  isplitl [HR]; · iexact HR
  iexact HB
end

variable {PT : Dev nD → S256x512.Idx → Elt F .bf16} {RD : Dev nD → S2x16x512.Idx → Elt F .bf16}
variable {κ : GSem nD τ sig → ℕ} {c : Dev nD} {l : List Item} {R R' T D : sProp (MT nD τ sig Unit (Elt F) ℕ UU ℕ)}
variable {α : Type} {Q : α → sProp (MT nD τ sig Unit (Elt F) ℕ UU ℕ)}

/-- A read of a piece of memory that is held, whole or in a share. -/
theorem load_step {cs : CoreSpace} {s : Shape} {e : EltTy} {m : Memref sig .tc cs s e} {r : Rect s} {hl : m.view.LoadsAt r}
    {k : (r.shape.Idx → Elt F e) → Prog (TpuEff nD τ sig (Elt F) Λ₀ .tc) α}
    {S : Finset (Idx ((m.access r).loc (c : Thread nD τ)))} {q : PosShare TreeShare}
    {f : Buf (Elt F) ((m.access r).loc (c : Thread nD τ))}
    (hF : R ⊢ iprop(((m.access r).loc (c : Thread nD τ) ↦[S]{q} f) ∗ (((m.access r).loc (c : Thread nD τ) ↦[S]{q} f) -∗ R)))
    (hS : (m.access r).set ⊆ S)
    (h : St PT RD κ c l R ⊢ wpc c (k ((m.access r).read (Elt F) f)) Q) :
    St PT RD κ c l R ⊢ wpc c (.op (.load m r hl) k) Q := by
  iintro ⟨#HR, HO, HM⟩
  ihave HM := hF $$ HM
  icases HM with ⟨HA, HM⟩
  iapply (wp_load_rect 𝒱₀ (c : Thread nD τ) none Set.univ hS) $$ HA
  iintro HA
  ihave HM := HM $$ HA
  iapply h
  isplitr; · iexact HR
  isplitl [HO]; · iexact HO
  iexact HM

/-- A read whose result is named. -/
theorem read_step {cs : CoreSpace} {s : Shape} {e : EltTy} {m : Memref sig .tc cs s e} {r : Rect s} {hl : m.view.LoadsAt r}
    {k : (r.shape.Idx → Elt F e) → Prog (TpuEff nD τ sig (Elt F) Λ₀ .tc) α}
    {S : Finset (Idx ((m.access r).loc (c : Thread nD τ)))} {q : PosShare TreeShare}
    {f : Buf (Elt F) ((m.access r).loc (c : Thread nD τ))} {v : r.shape.Idx → Elt F e}
    (hF : R ⊢ iprop(((m.access r).loc (c : Thread nD τ) ↦[S]{q} f) ∗ (((m.access r).loc (c : Thread nD τ) ↦[S]{q} f) -∗ R)))
    (hS : (m.access r).set ⊆ S) (hr : (m.access r).read (Elt F) f = v)
    (h : St PT RD κ c l R ⊢ wpc c (k v) Q) :
    St PT RD κ c l R ⊢ wpc c (.op (.load m r hl) k) Q :=
  load_step hF hS (hr ▸ h)

/-- A write over a piece of memory that is held whole; what it then holds may be said by any function that
agrees there. -/
theorem store_step {cs : CoreSpace} {s : Shape} {e : EltTy} {m : Memref sig .tc cs s e} {r : Rect s}
    {w : r.shape.Idx → Elt F e} {Mk : Finset r.shape.Idx} {hx : (m.access r).Stores Mk}
    {hm : Mk = Finset.univ ∨ ∀ a, r.stride a = 1}
    {k : PUnit → Prog (TpuEff nD τ sig (Elt F) Λ₀ .tc) α}
    {S : Finset (Idx ((m.access r).loc (c : Thread nD τ)))}
    {f g : Buf (Elt F) ((m.access r).loc (c : Thread nD τ))}
    (hF : R ⊢ iprop(((m.access r).loc (c : Thread nD τ) ↦[S]{fullShare} f)
      ∗ (((m.access r).loc (c : Thread nD τ) ↦[S]{fullShare} g) -∗ R')))
    (hS : (m.access r).setOn Mk ⊆ S) (hg : ∀ i ∈ S, (m.access r).write (Elt F) f w Mk i = g i)
    (h : St PT RD κ c l R' ⊢ wpc c (k ⟨⟩) Q) :
    St PT RD κ c l R ⊢ wpc c (.op (.store m r w Mk hx hm) k) Q := by
  iintro ⟨#HR, HO, HM⟩
  ihave HM := hF $$ HM
  icases HM with ⟨HA, HM⟩
  iapply (wp_store 𝒱₀ (c : Thread nD τ) none Set.univ hS) $$ HA
  rw [pointsTo_congr hg]
  iintro HA
  ihave HM := HM $$ HA
  iapply h
  isplitr; · iexact HR
  isplitl [HO]; · iexact HO
  iexact HM

end Cert.KernelIdeal.Talk
-- ==== Proof.Content.lean ====
module

public import proofs.«01_k».proof.Proof.Mem

/-! What the buffers come to hold: the partial product of a device, the halves it sums, the gathered result,
each as a function of what the device was given; and the reads and writes of the kernel in these words. -/

@[expose] public section

noncomputable section

namespace Cert.KernelIdeal.Talk

open Idealize.ShloMosaic Idealize.ShloMosaic.TcCoe
open Idealize.ShloMosaic.ValueIdx
open Cert.KernelIdeal Cert.KernelIdeal.Gen

variable {F : FTy → Type} [FloatOps F]

/-- What one device's five input windows hold. -/
structure In (F : FTy → Type) where
  x : S2x128x512.Idx → Elt F .bf16
  k : S2x128x256.Idx → Elt F .bf16
  v : S2x128x256.Idx → Elt F .bf16
  wq : S512x256.Idx → Elt F .bf16
  wo : S256x512.Idx → Elt F .bf16

/-- Head `h` of batch `b` of the keys or values. -/
def head (f : S2x128x256.Idx → Elt F .bf16) (b : Fin 2) (h : Fin 4) : Vec F S1x128x64 .bf16 :=
  fun i => f (ix3 b (i 1) ⟨64 * h.val + (i 2).val, by have := (i 2).isLt; have := h.isLt; change (i 2).val < 64 at *; omega⟩)

/-- The rows of the output weights that belong to head `h`. -/
def wrow (f : S256x512.Idx → Elt F .bf16) (h : Fin 4) : Vec F S64x512 .bf16 :=
  fun i => f (ix2 ⟨64 * h.val + (i 0).val, by have := (i 0).isLt; have := h.isLt; change (i 0).val < 64 at *; omega⟩ (i 1))

/-- Slot `(t, o)` of a buffer of sixteen. -/
def slot (f : S2x8x16x512.Idx → Elt F .bf16) (t : Fin 2) (o : Dev nD) : Vec F S1x1x16x512 .bf16 :=
  fun i => f (ix4 t o (i 2) (i 3))

/-- Half `t` of the two summed halves. -/
def half (f : S2x16x512.Idx → Elt F .bf16) (t : Fin 2) : Vec F S1x16x512 .bf16 :=
  fun i => f (ix3 t (i 1) (i 2))

/-- Strip `t` of the rows a device keeps of its partial product. -/
def strip (f : S256x512.Idx → Elt F .bf16) (c : Dev nD) (t : Fin 2) : Vec F S16x512 .bf16 :=
  fun i => f (ix2 (rowIx (32 * c.val + 16 * t.val + (i 0).val)) (i 1))

/-! ## The partial product -/

/-- The mask of the block-local attention. -/
def mask : IVec S128x128 1 :=
  k0_pay5 k0_pay1 (iota .tc S128x128 32 [1] iota_S128x128_d1_w32) 64#32 k0_pay2 k0_pay3 k0_pay4

/-- The queries. -/
def qs (I : In F) : FVec F S256x256 .bf16 := k0_pay6 I.wq I.x

/-- The score that stands for "not attended". -/
def low : F .f32 := Scalar.ofBits .f32 0xCE6E6B28#32

def b0h0 (I : In F) : FVec F S128x512 .f32 :=
  k0_pay9 (k0_pay7 (F := F))
    (k0_pay8 k0_pay1 (iota .tc S128x128 32 [1] iota_S128x128_d1_w32) 64#32 k0_pay2 k0_pay3 k0_pay4 I.wq I.x (head I.k 0 0))
    (head I.v 0 0) (wrow I.wo 0)

def b0h2 (I : In F) : FVec F S128x512 .f32 :=
  k0_pay11 mask (qs I) (b0h0 I) (k0_pay10 mask (qs I) (head I.k 0 1) (head I.v 0 1)) (wrow I.wo 1) (head I.k 0 2)
    (head I.v 0 2) (wrow I.wo 2)

/-- The partial product of batch 0. -/
def part0 (I : In F) : FVec F S128x512 .bf16 :=
  k0_pay13 mask (b0h2 I) (k0_pay12 (qs I) (head I.k 0 3)) low (head I.v 0 3) (wrow I.wo 3)

def b1h1 (I : In F) : FVec F S128x512 .f32 :=
  k0_pay17 mask (qs I) (k0_pay14 (F := F)) (k0_pay15 mask (qs I) (head I.k 1 0)) (k0_pay16 mask (qs I) (head I.k 1 0))
    (head I.v 1 0) (wrow I.wo 0) (head I.k 1 1) (head I.v 1 1) (wrow I.wo 1)

/-- The partial product of batch 1. -/
def part1 (I : In F) : FVec F S128x512 .bf16 :=
  k0_pay20 (k0_pay18 mask (qs I) (b1h1 I) (head I.k 1 2) (head I.v 1 2) (wrow I.wo 2))
    (k0_pay19 mask (qs I) (head I.k 1 3)) (head I.v 1 3) (wrow I.wo 3)

/-- The rows of batch 0 written, the others as they were. -/
def upper (p : FVec F S128x512 .bf16) (f : S256x512.Idx → Elt F .bf16) : S256x512.Idx → Elt F .bf16 :=
  fun i => if h : (i 0).val < 128 then p (ix2 ⟨(i 0).val, h⟩ (i 1)) else f i

/-- The whole partial product: 128 rows a batch. -/
def PART (I : In F) : S256x512.Idx → Elt F .bf16 :=
  fun i => if h : (i 0).val < 128 then part0 I (ix2 ⟨(i 0).val, h⟩ (i 1))
    else part1 I (ix2 ⟨(i 0).val - 128, by have := (i 0).isLt; change (i 0).val < 256 at this; omega⟩ (i 1))

/-! ## The sums and the result -/

def sum0 (f : S2x8x16x512.Idx → Elt F .bf16) : FVec F S1x16x512 .bf16 :=
  k0_pay23 (k0_pay22 (slot f 0 0) (slot f 0 1) (slot f 0 2) (slot f 0 3) (slot f 0 4) (slot f 0 5) (slot f 0 6)) (slot f 0 7)

def sum1 (f : S2x8x16x512.Idx → Elt F .bf16) : FVec F S1x16x512 .bf16 :=
  k0_pay27 (k0_pay26 (slot f 1 0) (slot f 1 1)) (slot f 1 2) (slot f 1 3) (slot f 1 4) (slot f 1 5) (slot f 1 6) (slot f 1 7)

/-- The two summed halves, from the sixteen slots of `rs`. -/
def RED (f : S2x8x16x512.Idx → Elt F .bf16) : S2x16x512.Idx → Elt F .bf16 :=
  fun i => if (i 0).val = 0 then sum0 f (ix3 0 (i 1) (i 2)) else sum1 f (ix3 0 (i 1) (i 2))

/-- The result, from the sixteen slots of `ag`: row `16 s + a` of the flat result is row `a` of slot
`(s mod 2, s / 2)`. -/
def OUT (f : S2x8x16x512.Idx → Elt F .bf16) : S2x128x512.Idx → Elt F .f32 :=
  fun i =>
    have h : 128 * (i 0).val + (i 1).val < 256 := by
      have h0 := (i 0).isLt; have h1 := (i 1).isLt
      change (i 0).val < 2 at h0; change (i 1).val < 128 at h1; omega
    k0_pay30 (slot f ⟨(128 * (i 0).val + (i 1).val) / 16 % 2, Nat.mod_lt _ two_pos⟩
        ⟨(128 * (i 0).val + (i 1).val) / 32, by change _ < 8; omega⟩)
      (ix3 0 ⟨(128 * (i 0).val + (i 1).val) % 16, Nat.mod_lt _ (by decide)⟩ (i 2))

/-- The result after `n` blocks of sixteen rows. -/
def outTill (f : S2x8x16x512.Idx → Elt F .bf16) (f0 : S2x128x512.Idx → Elt F .f32) (n : ℕ) : S2x128x512.Idx → Elt F .f32 :=
  fun i => if 128 * (i 0).val + (i 1).val < 16 * n then OUT f i else f0 i

/-! ## Reads -/

section
variable {b : Ref sig .tc} {off size : Fin b.ty.shape.rank → ℕ}

/-- Where an element of a box stands in the buffer. -/
theorem box_emb (h) (j : (Rect.unit (s := b.ty.shape) off size h).shape.Idx) (a : Fin b.ty.shape.rank) :
    (((Memref.whole b).access (Rect.unit (s := b.ty.shape) off size h)).emb j a : ℕ) = off a + j a :=
  ValueKit.view_emb_slice_whole_unit_val b off size h j a

end

/-- A head of the keys, read. -/
theorem read_head1 (b : Fin 2) (h : Fin 4) {off : Fin 3 → ℕ} (ho : off = ![b.val, 0, 64 * h.val]) (hb)
    (f : S2x128x256.Idx → Elt F .bf16) :
    ((Memref.whole cc0_stg1_0).access (Rect.unit (s := S2x128x256) off S1x128x64.size hb)).read (Elt F) f = head f b h := by
  subst ho
  funext i
  refine congrArg f (funext fun x => Fin.ext ((box_emb (b := cc0_stg1_0) _ _ _).trans ?_))
  have h0 : (i 0).val < 1 := (i 0).isLt
  fin_cases x <;> simp [ix3]

/-- A head of the values, read. -/
theorem read_head2 (b : Fin 2) (h : Fin 4) {off : Fin 3 → ℕ} (ho : off = ![b.val, 0, 64 * h.val]) (hb)
    (f : S2x128x256.Idx → Elt F .bf16) :
    ((Memref.whole cc0_stg2_0).access (Rect.unit (s := S2x128x256) off S1x128x64.size hb)).read (Elt F) f = head f b h := by
  subst ho
  funext i
  refine congrArg f (funext fun x => Fin.ext ((box_emb (b := cc0_stg2_0) _ _ _).trans ?_))
  have h0 : (i 0).val < 1 := (i 0).isLt
  fin_cases x <;> simp [ix3]

/-- The weight rows of a head, read. -/
theorem read_wrow (h : Fin 4) {off : Fin 2 → ℕ} (ho : off = ![64 * h.val, 0]) (hb)
    (f : S256x512.Idx → Elt F .bf16) :
    ((Memref.whole cc0_stg4_0).access (Rect.unit (s := S256x512) off S64x512.size hb)).read (Elt F) f = wrow f h := by
  subst ho
  funext i
  refine congrArg f (funext fun x => Fin.ext ((box_emb (b := cc0_stg4_0) _ _ _).trans ?_))
  fin_cases x <;> simp [ix2]

/-- The rows of the input, read whole. -/
theorem read_x {off : Fin 3 → ℕ} (ho : off = ![0, 0, 0]) (hb) (f : S2x128x512.Idx → Elt F .bf16) :
    ((Memref.whole cc0_stg0_0).access (Rect.unit (s := S2x128x512) off S2x128x512.size hb)).read (Elt F) f = f := by
  subst ho
  funext i
  refine congrArg f (funext fun x => Fin.ext ((box_emb (b := cc0_stg0_0) _ _ _).trans ?_))
  fin_cases x <;> simp

/-- The query weights, read whole. -/
theorem read_wq {off : Fin 2 → ℕ} (ho : off = ![0, 0]) (hb) (f : S512x256.Idx → Elt F .bf16) :
    ((Memref.whole cc0_stg3_0).access (Rect.unit (s := S512x256) off S512x256.size hb)).read (Elt F) f = f := by
  subst ho
  funext i
  refine congrArg f (funext fun x => Fin.ext ((box_emb (b := cc0_stg3_0) _ _ _).trans ?_))
  fin_cases x <;> simp

/-- A slot of `rs`, read. -/
theorem read_rs (t : Fin 2) (o : Dev nD) {off : Fin 4 → ℕ} (ho : off = ![t.val, o.val, 0, 0]) (hb)
    (f : S2x8x16x512.Idx → Elt F .bf16) :
    ((Memref.whole cc0_scratch1).access (Rect.unit (s := S2x8x16x512) off S1x1x16x512.size hb)).read (Elt F) f = slot f t o := by
  subst ho
  funext i
  refine congrArg f (funext fun x => Fin.ext ((box_emb (b := cc0_scratch1) _ _ _).trans ?_))
  have h0 : (i 0).val < 1 := (i 0).isLt
  have h1 : (i 1).val < 1 := (i 1).isLt
  fin_cases x <;> simp [ix4] <;> omega

/-- A slot of `ag`, read. -/
theorem read_ag (t : Fin 2) (o : Dev nD) {off : Fin 4 → ℕ} (ho : off = ![t.val, o.val, 0, 0]) (hb)
    (f : S2x8x16x512.Idx → Elt F .bf16) :
    ((Memref.whole cc0_scratch3).access (Rect.unit (s := S2x8x16x512) off S1x1x16x512.size hb)).read (Elt F) f = slot f t o := by
  subst ho
  funext i
  refine congrArg f (funext fun x => Fin.ext ((box_emb (b := cc0_scratch3) _ _ _).trans ?_))
  have h0 : (i 0).val < 1 := (i 0).isLt
  have h1 : (i 1).val < 1 := (i 1).isLt
  fin_cases x <;> simp [ix4] <;> omega

/-- A summed half, read. -/
theorem read_red (t : Fin 2) {off : Fin 3 → ℕ} (ho : off = ![t.val, 0, 0]) (hb) (f : S2x16x512.Idx → Elt F .bf16) :
    ((Memref.whole cc0_scratch2).access (Rect.unit (s := S2x16x512) off S1x16x512.size hb)).read (Elt F) f = half f t := by
  subst ho
  funext i
  refine congrArg f (funext fun x => Fin.ext ((box_emb (b := cc0_scratch2) _ _ _).trans ?_))
  have h0 : (i 0).val < 1 := (i 0).isLt
  fin_cases x <;> simp [ix3]

/-- A strip of the partial product, read. -/
theorem read_part (c : Dev nD) (t : Fin 2) {off : Fin 2 → ℕ} (ho : off = ![32 * c.val + 16 * t.val, 0]) (hb)
    (f : S256x512.Idx → Elt F .bf16) :
    ((Memref.whole cc0_scratch0).access (Rect.unit (s := S256x512) off S16x512.size hb)).read (Elt F) f = strip f c t := by
  subst ho
  funext i
  refine congrArg f (funext fun x => Fin.ext ((box_emb (b := cc0_scratch0) _ _ _).trans ?_))
  have h0 : (i 0).val < 16 := (i 0).isLt
  have hc : c.val < 8 := c.isLt
  have ht := t.isLt
  fin_cases x <;> simp [ix2, rowIx]; omega

/-! ## What an access touches -/

/-- The box of a slot of `rs` is the slot. -/
theorem acc_rs (t : Fin 2) (o : Dev nD) {off : Fin 4 → ℕ} (ho : off = ![t.val, o.val, 0, 0]) (hb) :
    ((Memref.whole cc0_scratch1).access (Rect.unit (s := S2x8x16x512) off S1x1x16x512.size hb)).set ⊆ (rsM t o).view.set := by
  subst ho
  intro i hi
  obtain ⟨j, -, rfl⟩ := Finset.mem_map.mp hi
  have h0 : (j 0).val < 1 := (j 0).isLt
  have h1 : (j 1).val < 1 := (j 1).isLt
  refine (mem_rs _ _ _).2 ⟨(box_emb (b := cc0_scratch1) _ _ 0).trans ?_, (box_emb (b := cc0_scratch1) _ _ 1).trans ?_⟩
  · simp only [Matrix.cons_val_zero]; omega
  · simp only [Matrix.cons_val_one, Matrix.cons_val_zero]; omega

/-- The box of a slot of `ag` is the slot. -/
theorem acc_ag (t : Fin 2) (o : Dev nD) {off : Fin 4 → ℕ} (ho : off = ![t.val, o.val, 0, 0]) (hb) :
    ((Memref.whole cc0_scratch3).access (Rect.unit (s := S2x8x16x512) off S1x1x16x512.size hb)).set ⊆ (agM t o).view.set := by
  subst ho
  intro i hi
  obtain ⟨j, -, rfl⟩ := Finset.mem_map.mp hi
  have h0 : (j 0).val < 1 := (j 0).isLt
  have h1 : (j 1).val < 1 := (j 1).isLt
  refine (mem_ag _ _ _).2 ⟨(box_emb (b := cc0_scratch3) _ _ 0).trans ?_, (box_emb (b := cc0_scratch3) _ _ 1).trans ?_⟩
  · simp only [Matrix.cons_val_zero]; omega
  · simp only [Matrix.cons_val_one, Matrix.cons_val_zero]; omega

/-- The box of a half is the half. -/
theorem acc_red (t : Fin 2) {off : Fin 3 → ℕ} (ho : off = ![t.val, 0, 0]) (hb) :
    ((Memref.whole cc0_scratch2).access (Rect.unit (s := S2x16x512) off S1x16x512.size hb)).set ⊆ (redM t).view.set := by
  subst ho
  intro i hi
  obtain ⟨j, -, rfl⟩ := Finset.mem_map.mp hi
  have h0 : (j 0).val < 1 := (j 0).isLt
  refine (mem_red _ _).2 ((box_emb (b := cc0_scratch2) _ _ 0).trans ?_)
  simp only [Matrix.cons_val_zero]; omega

/-- The box of a strip is the strip. -/
theorem acc_part (o : Dev nD) (t : Fin 2) {off : Fin 2 → ℕ} (ho : off = ![32 * o.val + 16 * t.val, 0]) (hb) :
    ((Memref.whole cc0_scratch0).access (Rect.unit (s := S256x512) off S16x512.size hb)).set ⊆ (partM o t).view.set := by
  subst ho
  intro i hi
  obtain ⟨j, -, rfl⟩ := Finset.mem_map.mp hi
  have h0 : (j 0).val < 16 := (j 0).isLt
  have e : _ = _ := box_emb (b := cc0_scratch0) hb j 0
  refine (mem_part _ _ _).2 ?_
  rw [e]
  simp only [Matrix.cons_val_zero]; omega

/-! ## Writes -/

/-- A slot of `rs` written: it holds what was written. -/
theorem write_rs (t : Fin 2) (o : Dev nD) {off : Fin 4 → ℕ} (ho : off = ![t.val, o.val, 0, 0]) (hb)
    (f g : S2x8x16x512.Idx → Elt F .bf16) (w : FVec F S1x1x16x512 .bf16)
    (hw : ∀ a b, w (ix4 0 0 a b) = g (ix4 t o a b)) (i : S2x8x16x512.Idx) (hi : i ∈ (rsM t o).view.set) :
    ((Memref.whole cc0_scratch1).access (Rect.unit (s := S2x8x16x512) off S1x1x16x512.size hb)).write (Elt F) f w Finset.univ i
      = g i := by
  subst ho
  obtain ⟨x, -, rfl⟩ := Finset.mem_map.mp hi
  obtain ⟨a, b, rfl⟩ : ∃ (a : Fin 16) (b : Fin 512), x = ix2 a b := ⟨x 0, x 1, eq_ix2 x⟩
  have e : (rsM t o).view.emb (ix2 a b) = ((Memref.whole cc0_scratch1).access (Rect.unit (s := S2x8x16x512)
      ![t.val, o.val, 0, 0] S1x1x16x512.size hb)).emb (ix4 0 0 a b) := by
    rw [emb_rs]
    refine funext fun x => Fin.ext (Eq.symm ((box_emb (b := cc0_scratch1) _ _ _).trans ?_))
    fin_cases x <;> simp [ix4]
  rw [e, View.write_emb_of_mem _ _ (Finset.mem_univ _), hw, ← e, emb_rs]
  rfl

/-- A slot of `ag` written: it holds what was written. -/
theorem write_ag (t : Fin 2) (o : Dev nD) {off : Fin 4 → ℕ} (ho : off = ![t.val, o.val, 0, 0]) (hb)
    (f g : S2x8x16x512.Idx → Elt F .bf16) (w : FVec F S1x1x16x512 .bf16)
    (hw : ∀ a b, w (ix4 0 0 a b) = g (ix4 t o a b)) (i : S2x8x16x512.Idx) (hi : i ∈ (agM t o).view.set) :
    ((Memref.whole cc0_scratch3).access (Rect.unit (s := S2x8x16x512) off S1x1x16x512.size hb)).write (Elt F) f w Finset.univ i
      = g i := by
  subst ho
  obtain ⟨x, -, rfl⟩ := Finset.mem_map.mp hi
  obtain ⟨a, b, rfl⟩ : ∃ (a : Fin 16) (b : Fin 512), x = ix2 a b := ⟨x 0, x 1, eq_ix2 x⟩
  have e : (agM t o).view.emb (ix2 a b) = ((Memref.whole cc0_scratch3).access (Rect.unit (s := S2x8x16x512)
      ![t.val, o.val, 0, 0] S1x1x16x512.size hb)).emb (ix4 0 0 a b) := by
    rw [emb_ag]
    refine funext fun x => Fin.ext (Eq.symm ((box_emb (b := cc0_scratch3) _ _ _).trans ?_))
    fin_cases x <;> simp [ix4]
  rw [e, View.write_emb_of_mem _ _ (Finset.mem_univ _), hw, ← e, emb_ag]
  rfl

/-- A summed half written: it holds what was written. -/
theorem write_red (t : Fin 2) {off : Fin 3 → ℕ} (ho : off = ![t.val, 0, 0]) (hb)
    (f g : S2x16x512.Idx → Elt F .bf16) (w : FVec F S1x16x512 .bf16)
    (hw : ∀ a b, w (ix3 0 a b) = g (ix3 t a b)) (i : S2x16x512.Idx) (hi : i ∈ (redM t).view.set) :
    ((Memref.whole cc0_scratch2).access (Rect.unit (s := S2x16x512) off S1x16x512.size hb)).write (Elt F) f w Finset.univ i
      = g i := by
  subst ho
  obtain ⟨x, -, rfl⟩ := Finset.mem_map.mp hi
  obtain ⟨a, b, rfl⟩ : ∃ (a : Fin 16) (b : Fin 512), x = ix2 a b := ⟨x 0, x 1, eq_ix2 x⟩
  have e : (redM t).view.emb (ix2 a b) = ((Memref.whole cc0_scratch2).access (Rect.unit (s := S2x16x512)
      ![t.val, 0, 0] S1x16x512.size hb)).emb (ix3 0 a b) := by
    rw [emb_red]
    refine funext fun x => Fin.ext (Eq.symm ((box_emb (b := cc0_scratch2) _ _ _).trans ?_))
    fin_cases x <;> simp [ix3]
  rw [e, View.write_emb_of_mem _ _ (Finset.mem_univ _), hw, ← e, emb_red]
  rfl

/-- An element of a box of rows, if its row is one of them; and none otherwise. -/
theorem row_cases (o : ℕ) (hb) (i : S256x512.Idx) :
    (∃ (a : Fin 128), (i 0).val = o + a.val ∧ i = ((Memref.whole cc0_scratch0).access (Rect.unit (s := S256x512)
        ![o, 0] S128x512.size hb)).emb (ix2 a (i 1)))
      ∨ (((i 0).val < o ∨ o + 128 ≤ (i 0).val) ∧ i ∉ ((Memref.whole cc0_scratch0).access (Rect.unit (s := S256x512)
        ![o, 0] S128x512.size hb)).setOn Finset.univ) := by
  by_cases h : o ≤ (i 0).val ∧ (i 0).val < o + 128
  · left
    refine ⟨⟨(i 0).val - o, by omega⟩, by change (i 0).val = o + ((i 0).val - o); omega, ?_⟩
    refine funext fun x => Fin.ext (Eq.symm ((box_emb (b := cc0_scratch0) _ _ _).trans ?_))
    fin_cases x <;> simp [ix2]; omega
  · right
    refine ⟨by omega, fun hi => h ?_⟩
    obtain ⟨j, -, rfl⟩ := Finset.mem_map.mp hi
    have h0 : (j 0).val < 128 := (j 0).isLt
    have e : _ = _ := box_emb (b := cc0_scratch0) hb j 0
    rw [e]
    simp only [Matrix.cons_val_zero]; omega

/-- The rows of batch 0 written. -/
theorem write_upper (hb) (f : S256x512.Idx → Elt F .bf16) (w : FVec F S128x512 .bf16) (i : S256x512.Idx) :
    ((Memref.whole cc0_scratch0).access (Rect.unit (s := S256x512) ![0, 0] S128x512.size hb)).write (Elt F) f w Finset.univ i
      = upper w f i := by
  rcases row_cases 0 hb i with ⟨a, ha, e⟩ | ⟨h, hn⟩
  · conv_lhs => rw [e]
    rw [View.write_emb_of_mem _ _ (Finset.mem_univ _)]
    have h : (i 0).val < 128 := by omega
    rw [upper, dif_pos h]
    exact congrArg w (congrArg (fun z => ix2 z (i 1)) (Fin.ext (by change a.val = (i 0).val; omega)))
  · rw [View.write_of_not_mem _ _ _ hn, upper, dif_neg (by omega)]

/-- The rows of batch 1 written over a buffer that holds those of batch 0. -/
theorem write_lower (hb) (I : In F) (f : S256x512.Idx → Elt F .bf16) (i : S256x512.Idx) :
    ((Memref.whole cc0_scratch0).access (Rect.unit (s := S256x512) ![128, 0] S128x512.size hb)).write (Elt F)
      (upper (part0 I) f) (part1 I) Finset.univ i = PART I i := by
  rcases row_cases 128 hb i with ⟨a, ha, e⟩ | ⟨h, hn⟩
  · conv_lhs => rw [e]
    rw [View.write_emb_of_mem _ _ (Finset.mem_univ _)]
    rw [PART, dif_neg (by omega)]
    exact congrArg (part1 I) (congrArg (fun z => ix2 z (i 1)) (Fin.ext (by change a.val = (i 0).val - 128; omega)))
  · have hlt : (i 0).val < 256 := (i 0).isLt
    have h' : (i 0).val < 128 := by omega
    rw [View.write_of_not_mem _ _ _ hn, upper, PART, dif_pos h', dif_pos h']

/-- The next sixteen rows of the result written. -/
theorem write_out (n : ℕ) (t : Fin 2) (o : Dev nD) (hn : n = 2 * o.val + t.val) {off : Fin 3 → ℕ}
    (ho : off = ![n / 8, 16 * (n % 8), 0]) (hb)
    (f : S2x8x16x512.Idx → Elt F .bf16) (f0 : S2x128x512.Idx → Elt F .f32) (w : FVec F S1x16x512 .f32)
    (hw : w = k0_pay30 (slot f t o)) (i : S2x128x512.Idx) :
    ((Memref.whole cc0_stg5_0).access (Rect.unit (s := S2x128x512) off S1x16x512.size hb)).write (Elt F)
      (outTill f f0 n) w Finset.univ i = outTill f f0 (n + 1) i := by
  subst ho
  have hn16 : n < 16 := by have := o.isLt; have := t.isLt; change o.val < 8 at *; omega
  have hi0 : (i 0).val < 2 := (i 0).isLt
  have hi1 : (i 1).val < 128 := (i 1).isLt
  by_cases h : (128 * (i 0).val + (i 1).val) / 16 = n
  · have e : i = ((Memref.whole cc0_stg5_0).access (Rect.unit (s := S2x128x512)
        ![n / 8, 16 * (n % 8), 0] S1x16x512.size hb)).emb
          (ix3 (0 : Fin 1) (⟨(128 * (i 0).val + (i 1).val) % 16, Nat.mod_lt _ (by decide)⟩ : Fin 16) (i 2)) := by
      refine funext fun x => Fin.ext (Eq.symm ((box_emb (b := cc0_stg5_0) _ _ _).trans ?_))
      fin_cases x <;> simp [ix3] <;> omega
    conv_lhs => rw [e]
    rw [View.write_emb_of_mem _ _ (Finset.mem_univ _), outTill, if_pos (by omega), hw, OUT]
    have e1 : (⟨(128 * (i 0).val + (i 1).val) / 16 % 2, Nat.mod_lt _ two_pos⟩ : Fin 2) = t :=
      Fin.ext (by change (128 * (i 0).val + (i 1).val) / 16 % 2 = t.val; have := t.isLt; omega)
    have e2 : (⟨(128 * (i 0).val + (i 1).val) / 32, by change _ < 8; omega⟩ : Dev nD) = o :=
      Fin.ext (by change (128 * (i 0).val + (i 1).val) / 32 = o.val; have := t.isLt; omega)
    rw [e1, e2]
    rfl
  · have hni : i ∉ ((Memref.whole cc0_stg5_0).access (Rect.unit (s := S2x128x512)
        ![n / 8, 16 * (n % 8), 0] S1x16x512.size hb)).setOn Finset.univ := by
      intro hi
      obtain ⟨j, -, rfl⟩ := Finset.mem_map.mp hi
      have h0 : (j 0).val < 1 := (j 0).isLt
      have h1 : (j 1).val < 16 := (j 1).isLt
      have e0 : _ = _ := box_emb (b := cc0_stg5_0) hb j 0
      have e1 : _ = _ := box_emb (b := cc0_stg5_0) hb j 1
      refine h ?_
      rw [e0, e1]
      simp only [Matrix.cons_val_zero, Matrix.cons_val_one]
      omega
    rw [View.write_of_not_mem _ _ _ hni, outTill, outTill]
    by_cases h' : 128 * (i 0).val + (i 1).val < 16 * n
    · rw [if_pos h', if_pos (by omega)]
    · rw [if_neg h', if_neg (by omega)]

end Cert.KernelIdeal.Talk
-- ==== Proof.Local.lean ====
module

public import proofs.«01_k».proof.Proof.Content

/-! The local half of the run: the barrier signals, and the partial product of the four heads and two batches. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

/-- What the five input windows hold. -/
def inMem (c : Dev nD) (I : In F) : sProp 𝕄 :=
  iprop((((c : Thread nD τ).loc cc0_stg0_0) ↦{fullShare} I.x) ∗ (((c : Thread nD τ).loc cc0_stg1_0) ↦{fullShare} I.k)
    ∗ (((c : Thread nD τ).loc cc0_stg2_0) ↦{fullShare} I.v) ∗ (((c : Thread nD τ).loc cc0_stg3_0) ↦{fullShare} I.wq)
    ∗ (((c : Thread nD τ).loc cc0_stg4_0) ↦{fullShare} I.wo))

/-- The buffer of the partial product. -/
abbrev partMem (c : Dev nD) (f : S256x512.Idx → Elt F .bf16) : sProp 𝕄 :=
  ((c : Thread nD τ).loc cc0_scratch0) ↦{fullShare} f

section
variable {α : Type} {Q : α → sProp (MT nD τ sig Unit (Elt F) ℕ UU ℕ)} {I : In F}

/-- Reading the input rows. -/
theorem load_x {off : Fin 3 → ℕ} (ho : off = ![0, 0, 0]) {hb} {hl}
    {k : (S2x128x512.Idx → Elt F .bf16) → Prog (TpuEff nD τ sig (Elt F) Λ₀ .tc) α}
    (hk : St PT RD κ c l iprop(inMem c I ∗ T) ⊢ wpc c (k I.x) Q) :
    St PT RD κ c l iprop(inMem c I ∗ T)
      ⊢ wpc c (.op (.load (Memref.whole cc0_stg0_0) (Rect.unit (s := S2x128x512) off S2x128x512.size hb).toLoadRect hl) k) Q := by
  refine load_step (within (here)) (Finset.subset_univ _) ?_
  rw [read_x ho]
  exact hk

/-- Reading a head of the keys. -/
theorem load_k (b : Fin 2) (h : Fin 4) {off : Fin 3 → ℕ} (ho : off = ![b.val, 0, 64 * h.val]) {hb} {hl}
    {k : (S1x128x64.Idx → Elt F .bf16) → Prog (TpuEff nD τ sig (Elt F) Λ₀ .tc) α}
    (hk : St PT RD κ c l iprop(inMem c I ∗ T) ⊢ wpc c (k (head I.k b h)) Q) :
    St PT RD κ c l iprop(inMem c I ∗ T)
      ⊢ wpc c (.op (.load (Memref.whole cc0_stg1_0) (Rect.unit (s := S2x128x256) off S1x128x64.size hb).toLoadRect hl) k) Q := by
  refine load_step (within (next here)) (Finset.subset_univ _) ?_
  rw [read_head1 b h ho]
  exact hk

/-- Reading a head of the values. -/
theorem load_v (b : Fin 2) (h : Fin 4) {off : Fin 3 → ℕ} (ho : off = ![b.val, 0, 64 * h.val]) {hb} {hl}
    {k : (S1x128x64.Idx → Elt F .bf16) → Prog (TpuEff nD τ sig (Elt F) Λ₀ .tc) α}
    (hk : St PT RD κ c l iprop(inMem c I ∗ T) ⊢ wpc c (k (head I.v b h)) Q) :
    St PT RD κ c l iprop(inMem c I ∗ T)
      ⊢ wpc c (.op (.load (Memref.whole cc0_stg2_0) (Rect.unit (s := S2x128x256) off S1x128x64.size hb).toLoadRect hl) k) Q := by
  refine load_step (within (next (next here))) (Finset.subset_univ _) ?_
  rw [read_head2 b h ho]
  exact hk

/-- Reading the query weights. -/
theorem load_wq {off : Fin 2 → ℕ} (ho : off = ![0, 0]) {hb} {hl}
    {k : (S512x256.Idx → Elt F .bf16) → Prog (TpuEff nD τ sig (Elt F) Λ₀ .tc) α}
    (hk : St PT RD κ c l iprop(inMem c I ∗ T) ⊢ wpc c (k I.wq) Q) :
    St PT RD κ c l iprop(inMem c I ∗ T)
      ⊢ wpc c (.op (.load (Memref.whole cc0_stg3_0) (Rect.unit (s := S512x256) off S512x256.size hb).toLoadRect hl) k) Q := by
  refine load_step (within (next (next (next here)))) (Finset.subset_univ _) ?_
  rw [read_wq ho]
  exact hk

/-- Reading the output weights of a head. -/
theorem load_wo (h : Fin 4) {off : Fin 2 → ℕ} (ho : off = ![64 * h.val, 0]) {hb} {hl}
    {k : (S64x512.Idx → Elt F .bf16) → Prog (TpuEff nD τ sig (Elt F) Λ₀ .tc) α}
    (hk : St PT RD κ c l iprop(inMem c I ∗ T) ⊢ wpc c (k (wrow I.wo h)) Q) :
    St PT RD κ c l iprop(inMem c I ∗ T)
      ⊢ wpc c (.op (.load (Memref.whole cc0_stg4_0) (Rect.unit (s := S256x512) off S64x512.size hb).toLoadRect hl) k) Q := by
  refine load_step (within (next (next (next (next only))))) (Finset.subset_univ _) ?_
  rw [read_wrow h ho]
  exact hk

end

section
variable {I : In F} {f : S256x512.Idx → Elt F .bf16}

/-- Five of the barrier signals. -/
theorem run1 {Q} (h : ∀ v2 v24 x, St PT RD κ c l T ⊢ Q ⟨c, v2, SemArray.scalar (sig.barrier 0 rfl), v24, x⟩) :
    St PT RD κ c (.bar 0 :: .bar 1 :: .bar 2 :: .bar 3 :: .bar 4 :: l) iprop(barRes c 0 ∗ barRes c 1 ∗ barRes c 2 ∗ barRes c 3 ∗ barRes c 4 ∗ T) ⊢ wpc c (ap k0_part1) Q := by
  rw [k0_part1_eq_skeleton]; unfold k0_part1_skel ap
  simp only [Prog.bind_lift, wp_deviceId, semSignalWord, semWaitWord, Prog.bind_op, Prog.bind_ret]
  refine signal_step 0 rfl (Fin.ext (k0_dev1_eq c)) rfl ?_
  refine signal_step 1 rfl (Fin.ext (k0_dev2_eq c)) rfl ?_
  refine signal_step 2 rfl (Fin.ext (k0_dev3_eq c)) rfl ?_
  refine signal_step 3 rfl (Fin.ext (k0_dev4_eq c)) rfl ?_
  refine signal_step 4 rfl (Fin.ext (k0_dev5_eq c)) rfl ?_
  exact ret_step (h _ _ _)

/-- The other two barrier signals. -/
theorem run2 {Q} {v2 v24 x : BitVec 32} (h : St PT RD κ c l T ⊢ Q ⟨k0_pay1, (iota .tc S128x128 32 [1] iota_S128x128_d1_w32), 64#32, k0_pay2, k0_pay3, k0_pay4⟩) :
    St PT RD κ c (.bar 5 :: .bar 6 :: l) iprop(barRes c 5 ∗ barRes c 6 ∗ T) ⊢ wpc c (ap k0_part2 c v2 (SemArray.scalar (sig.barrier 0 rfl)) v24 x) Q := by
  rw [k0_part2_eq_skeleton]; unfold k0_part2_skel ap
  simp only [Prog.bind_lift, wp_deviceId, semSignalWord, semWaitWord, Prog.bind_op, Prog.bind_ret]
  refine signal_step 5 rfl (Fin.ext (k0_dev6_eq c)) rfl ?_
  refine signal_step 6 rfl (Fin.ext (k0_dev7_eq c)) rfl ?_
  exact ret_step h

/-- The queries, and the scores of head 0. -/
theorem run3 {Q} (h : St PT RD κ c l iprop(inMem c I ∗ T) ⊢ Q ⟨mask, qs I, k0_pay7 (F := F), k0_pay8 k0_pay1 (iota .tc S128x128 32 [1] iota_S128x128_d1_w32) 64#32 k0_pay2 k0_pay3 k0_pay4 I.wq I.x (head I.k 0 0)⟩) :
    St PT RD κ c l iprop(inMem c I ∗ T) ⊢ wpc c (ap k0_part3 k0_pay1 (iota .tc S128x128 32 [1] iota_S128x128_d1_w32) 64#32 k0_pay2 k0_pay3 k0_pay4) Q := by
  rw [k0_part3_eq_skeleton]; unfold k0_part3_skel ap
  simp only [Prog.bind_lift, wp_deviceId, semSignalWord, semWaitWord, Prog.bind_op, Prog.bind_ret]
  refine load_wq rfl ?_
  refine load_x rfl ?_
  refine load_k 0 0 rfl ?_
  exact ret_step h

/-- Head 0 summed in, head 1 attended. -/
theorem run4 {Q} (h : St PT RD κ c l iprop(inMem c I ∗ T) ⊢ Q ⟨b0h0 I, k0_pay10 mask (qs I) (head I.k 0 1) (head I.v 0 1)⟩) :
    St PT RD κ c l iprop(inMem c I ∗ T) ⊢ wpc c (ap k0_part4 mask (qs I) (k0_pay7 (F := F)) (k0_pay8 k0_pay1 (iota .tc S128x128 32 [1] iota_S128x128_d1_w32) 64#32 k0_pay2 k0_pay3 k0_pay4 I.wq I.x (head I.k 0 0))) Q := by
  rw [k0_part4_eq_skeleton]; unfold k0_part4_skel ap
  simp only [Prog.bind_lift, wp_deviceId, semSignalWord, semWaitWord, Prog.bind_op, Prog.bind_ret]
  refine load_v 0 0 rfl ?_
  refine load_wo 0 rfl ?_
  refine load_k 0 1 rfl ?_
  refine load_v 0 1 rfl ?_
  exact ret_step h

/-- Heads 1 and 2 summed in, the scores of head 3. -/
theorem run5 {Q} (h : St PT RD κ c l iprop(inMem c I ∗ T) ⊢ Q ⟨b0h2 I, k0_pay12 (qs I) (head I.k 0 3), low⟩) :
    St PT RD κ c l iprop(inMem c I ∗ T) ⊢ wpc c (ap k0_part5 mask (qs I) (b0h0 I) (k0_pay10 mask (qs I) (head I.k 0 1) (head I.v 0 1))) Q := by
  rw [k0_part5_eq_skeleton]; unfold k0_part5_skel ap
  simp only [Prog.bind_lift, wp_deviceId, semSignalWord, semWaitWord, Prog.bind_op, Prog.bind_ret]
  refine load_wo 1 rfl ?_
  refine load_k 0 2 rfl ?_
  refine load_v 0 2 rfl ?_
  refine load_wo 2 rfl ?_
  refine load_k 0 3 rfl ?_
  exact ret_step h

/-- Batch 0 written; the scores of head 0 of batch 1. -/
theorem run6 {Q} (h : St PT RD κ c l iprop(inMem c I ∗ partMem c (upper (part0 I) f) ∗ T) ⊢ Q ⟨k0_pay14 (F := F), k0_pay15 mask (qs I) (head I.k 1 0), k0_pay16 mask (qs I) (head I.k 1 0)⟩) :
    St PT RD κ c l iprop(inMem c I ∗ partMem c f ∗ T) ⊢ wpc c (ap k0_part6 mask (qs I) (b0h2 I) (k0_pay12 (qs I) (head I.k 0 3)) low) Q := by
  rw [k0_part6_eq_skeleton]; unfold k0_part6_skel ap
  simp only [Prog.bind_lift, wp_deviceId, semSignalWord, semWaitWord, Prog.bind_op, Prog.bind_ret]
  refine load_v 0 3 rfl ?_
  refine load_wo 3 rfl ?_
  refine load_step (next here) (Finset.subset_univ _) ?_
  refine store_step (next here) (Finset.subset_univ _) (fun i _ => write_upper _ f (part0 I) i) ?_
  refine load_k 1 0 rfl ?_
  exact ret_step h

/-- Heads 0 and 1 of batch 1 summed in. -/
theorem run7 {Q} (h : St PT RD κ c l iprop(inMem c I ∗ T) ⊢ Q (b1h1 I)) :
    St PT RD κ c l iprop(inMem c I ∗ T) ⊢ wpc c (ap k0_part7 mask (qs I) (k0_pay14 (F := F)) (k0_pay15 mask (qs I) (head I.k 1 0)) (k0_pay16 mask (qs I) (head I.k 1 0))) Q := by
  rw [k0_part7_eq_skeleton]; unfold k0_part7_skel ap
  simp only [Prog.bind_lift, wp_deviceId, semSignalWord, semWaitWord, Prog.bind_op, Prog.bind_ret]
  refine load_v 1 0 rfl ?_
  refine load_wo 0 rfl ?_
  refine load_k 1 1 rfl ?_
  refine load_v 1 1 rfl ?_
  refine load_wo 1 rfl ?_
  exact ret_step h

/-- Head 2 of batch 1 summed in, head 3 scored. -/
theorem run8 {Q} (h : St PT RD κ c l iprop(inMem c I ∗ T) ⊢ Q ⟨k0_pay18 mask (qs I) (b1h1 I) (head I.k 1 2) (head I.v 1 2) (wrow I.wo 2), k0_pay19 mask (qs I) (head I.k 1 3)⟩) :
    St PT RD κ c l iprop(inMem c I ∗ T) ⊢ wpc c (ap k0_part8 mask (qs I) (b1h1 I)) Q := by
  rw [k0_part8_eq_skeleton]; unfold k0_part8_skel ap
  simp only [Prog.bind_lift, wp_deviceId, semSignalWord, semWaitWord, Prog.bind_op, Prog.bind_ret]
  refine load_k 1 2 rfl ?_
  refine load_v 1 2 rfl ?_
  refine load_wo 2 rfl ?_
  refine load_k 1 3 rfl ?_
  exact ret_step h

/-- Batch 1 written, the barrier passed, the first strip sent. -/
theorem run9 {Q} {v2 : BitVec 32} {T' U : sProp 𝕄}
    (hA : iprop(inMem c I ∗ partMem c (PART I) ∗ T)
      ⊢ iprop((cred (tallyAt (barCel c) () 7) ∗ atPos ER (barCel c) 0 ∅ 0) ∗ U))
    (hB : iprop(atPos ER (barCel c) 1 ∅ 0 ∗ (bigSep (Finset.univ.erase c) fun d => barPay d c) ∗ U)
      ⊢ iprop((sendRes PT RD c 0 0 0 ∗ T') ∗ D ∗ R))
    (hl : ∀ x ∈ (Item.send 0 0 0 :: l), 1 < x.lev) (h : St PT RD κ c l iprop(T' ∗ (sent c 0 0 0 ∗ D) ∗ R) ⊢ Q 2#32) :
    St PT RD κ c (.send 0 0 0 :: l) iprop(inMem c I ∗ partMem c (upper (part0 I) f) ∗ T) ⊢ wpc c (ap k0_part9 c v2 (SemArray.scalar (sig.barrier 0 rfl)) (k0_pay18 mask (qs I) (b1h1 I) (head I.k 1 2) (head I.v 1 2) (wrow I.wo 2)) (k0_pay19 mask (qs I) (head I.k 1 3))) Q := by
  rw [k0_part9_eq_skeleton]; unfold k0_part9_skel ap
  simp only [Prog.bind_lift, wp_deviceId, semSignalWord, semWaitWord, Prog.bind_op, Prog.bind_ret]
  refine load_v 1 3 rfl ?_
  refine load_wo 3 rfl ?_
  refine load_step (next here) (Finset.subset_univ _) ?_
  refine store_step (next here) (Finset.subset_univ _) (fun i _ => write_lower _ I f i) ?_
  refine St_mono hA ?_
  refine barrier_step rfl rfl hl ?_
  refine St_mono hB ?_
  refine send0_step 0 0 (Fin.ext (k0_dev8_eq c)) (name_part _ _ (k0_off3_eq c 0 0) _ _) (name_rs 0 c (k0_off2_eq c) _ _ _) (sem_send0 0 0 rfl _ _) (sem_recv0 0 c (k0_off1_eq c) _ _) ?_
  exact ret_step h

end

end Cert.KernelIdeal.Talk
-- ==== Proof.Exchange.lean ====
module

public import proofs.«01_k».proof.Proof.Local

/-! The exchange: strips sent and received, the halves summed, the sums sent and received, the result written. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

/-- A chain of resources, in the order of a list. -/
def sepL {ι : Type} (Φ : ι → sProp 𝕄) : List ι → sProp 𝕄
  | [] => iprop(emp)
  | x :: l => iprop(Φ x ∗ sepL Φ l)

section
variable {α : Type} {Q : α → sProp (MT nD τ sig Unit (Elt F) ℕ UU ℕ)}

/-- What a finished wait gives back, by the semaphore's role. -/
theorem gotRecv_eq (φ t : Fin 2) (o : Dev nD) :
    waitGot PT RD c (recvJ φ t o) = iprop(atPos ER (cel c (recvJ φ t o)) 1 ∅ 0 ∗ recvPay PT RD c φ t o) := by
  unfold waitGot; rw [role_recv]; rfl

theorem gotSend_eq (φ t : Fin 2) (k : Fin 7) :
    waitGot PT RD c (sendJ φ t k) = iprop(atPos ER (cel c (sendJ φ t k)) 1 ∅ 0 ∗ sendPay PT RD c φ t k) := by
  unfold waitGot; rw [role_send]; rfl

/-- An arrival awaited, in exchange 0. -/
theorem wait_recv0 {sp : Space} {s : Shape} {e : EltTy} {sm : DmaSem sig} {src : Memref sig .tc sp s e}
    {dst : Memref sig .tc .vmem S16x512 .bf16} {hx : src.view.WordExact} {hy : dst.view.WordExact}
    {k : PUnit → Prog (TpuEff nD τ sig (Elt F) Λ₀ .tc) α} (t : Fin 2) (i : Fin 7)
    (hs : SemLoc.dma sm = osem (recvJ 0 t (peer c i))) (hdst : dst = rsM t (peer c i)) (hl : ∀ x ∈ l, 2 < x.lev)
    (h : St PT RD κ c l iprop(T ∗ (waitGot PT RD c (recvJ 0 t (peer c i)) ∗ D) ∗ R) ⊢ wpc c (k ⟨⟩) Q) :
    St PT RD κ c l iprop((waitRes c (recvJ 0 t (peer c i)) ∗ T) ∗ D ∗ R) ⊢ wpc c (.op (.waitDma2 sm src dst hx hy) k) Q := by
  subst hdst
  exact wait_step (recvJ 0 t (peer c i)) (peer c i) 2 hs (roleDuty_recv _ _ _ _ (peer_ne c i)) rfl
    (by rw [lv_cel, role_recv]; exact le_refl _) hl h

/-- An arrival awaited, in exchange 1. -/
theorem wait_recv1 {sp : Space} {s : Shape} {e : EltTy} {sm : DmaSem sig} {src : Memref sig .tc sp s e}
    {dst : Memref sig .tc .vmem S16x512 .bf16} {hx : src.view.WordExact} {hy : dst.view.WordExact}
    {k : PUnit → Prog (TpuEff nD τ sig (Elt F) Λ₀ .tc) α} (t : Fin 2) (i : Fin 7)
    (hs : SemLoc.dma sm = osem (recvJ 1 t (peer c i))) (hdst : dst = agM t (peer c i)) (hl : ∀ x ∈ l, 3 < x.lev)
    (h : St PT RD κ c l iprop(T ∗ (waitGot PT RD c (recvJ 1 t (peer c i)) ∗ D) ∗ R) ⊢ wpc c (k ⟨⟩) Q) :
    St PT RD κ c l iprop((waitRes c (recvJ 1 t (peer c i)) ∗ T) ∗ D ∗ R) ⊢ wpc c (.op (.waitDma2 sm src dst hx hy) k) Q := by
  subst hdst
  exact wait_step (recvJ 1 t (peer c i)) (peer c i) 3 hs (roleDuty_recv _ _ _ _ (peer_ne c i)) rfl
    (by rw [lv_cel, role_recv]; exact le_refl _) hl h

/-- The end of a transfer of its own awaited, in exchange 0. -/
theorem wait_send0 {sp : Space} {s : Shape} {e : EltTy} {sm : DmaSem sig} {src : Memref sig .tc sp s e}
    {dst : Memref sig .tc .vmem S16x512 .bf16} {hx : src.view.WordExact} {hy : dst.view.WordExact}
    {k : PUnit → Prog (TpuEff nD τ sig (Elt F) Λ₀ .tc) α} (t : Fin 2) (i : Fin 7)
    (hs : SemLoc.dma sm = osem (sendJ 0 t i)) (hdst : dst = partM (peer c i) t) (hl : ∀ x ∈ l, 0 < x.lev)
    (h : St PT RD κ c l iprop(T ∗ (waitGot PT RD c (sendJ 0 t i) ∗ D) ∗ R) ⊢ wpc c (k ⟨⟩) Q) :
    St PT RD κ c l iprop((waitRes c (sendJ 0 t i) ∗ T) ∗ D ∗ R) ⊢ wpc c (.op (.waitDma2 sm src dst hx hy) k) Q := by
  subst hdst
  exact wait_step (sendJ 0 t i) c 0 hs (roleDuty_send _ _ _ _) rfl
    (by rw [lv_cel, role_send]) hl h

/-- The end of a transfer of its own awaited, in exchange 1. -/
theorem wait_send1 {sp : Space} {s : Shape} {e : EltTy} {sm : DmaSem sig} {src : Memref sig .tc sp s e}
    {dst : Memref sig .tc .vmem S16x512 .bf16} {hx : src.view.WordExact} {hy : dst.view.WordExact}
    {k : PUnit → Prog (TpuEff nD τ sig (Elt F) Λ₀ .tc) α} (t : Fin 2) (i : Fin 7)
    (hs : SemLoc.dma sm = osem (sendJ 1 t i)) (hdst : dst = redM t) (hl : ∀ x ∈ l, 0 < x.lev)
    (h : St PT RD κ c l iprop(T ∗ (waitGot PT RD c (sendJ 1 t i) ∗ D) ∗ R) ⊢ wpc c (k ⟨⟩) Q) :
    St PT RD κ c l iprop((waitRes c (sendJ 1 t i) ∗ T) ∗ D ∗ R) ⊢ wpc c (.op (.waitDma2 sm src dst hx hy) k) Q := by
  subst hdst
  exact wait_step (sendJ 1 t i) c 0 hs (roleDuty_send _ _ _ _) rfl
    (by rw [lv_cel, role_send]) hl h

end

/-- Strips sent. -/
theorem run10 {Q} {v2 : BitVec 32} {c2_i32_182 : BitVec 32}
    (h : ∀ r, St PT RD κ c l iprop(T ∗ (sent c 0 0 2 ∗ sent c 0 0 1 ∗ D) ∗ R) ⊢ Q r) :
    St PT RD κ c (.send 0 0 1 :: .send 0 0 2 :: l) iprop((sendRes PT RD c 0 0 1 ∗ sendRes PT RD c 0 0 2 ∗ T) ∗ D ∗ R) ⊢ wpc c (ap k0_part10 c v2 c2_i32_182) Q := by
  rw [k0_part10_eq_skeleton]; unfold k0_part10_skel ap
  simp only [Prog.bind_lift]
  refine send0_step 0 1 (Fin.ext (k0_dev9_eq c)) (name_part _ _ (k0_off3_eq c 1 0) _ _) (name_rs 0 c (k0_off2_eq c) _ _ _) (sem_send0 0 1 rfl _ _) (sem_recv0 0 c (k0_off1_eq c) _ _) ?_
  refine send0_step 0 2 (Fin.ext (k0_dev10_eq c)) (name_part _ _ (k0_off3_eq c 2 0) _ _) (name_rs 0 c (k0_off2_eq c) _ _ _) (sem_send0 0 2 rfl _ _) (sem_recv0 0 c (k0_off1_eq c) _ _) ?_
  exact ret_step (h _)

/-- Strips sent. -/
theorem run11 {Q} {v2 : BitVec 32} {v354 : BitVec 32} {v355 : BitVec 32} {c0_i32_211 : BitVec 32}
    (h : ∀ r, St PT RD κ c l iprop(T ∗ (sent c 0 0 4 ∗ sent c 0 0 3 ∗ D) ∗ R) ⊢ Q r) :
    St PT RD κ c (.send 0 0 3 :: .send 0 0 4 :: l) iprop((sendRes PT RD c 0 0 3 ∗ sendRes PT RD c 0 0 4 ∗ T) ∗ D ∗ R) ⊢ wpc c (ap k0_part11 c v2 v354 v355 c0_i32_211) Q := by
  rw [k0_part11_eq_skeleton]; unfold k0_part11_skel ap
  simp only [Prog.bind_lift]
  refine send0_step 0 3 (Fin.ext (k0_dev11_eq c)) (name_part _ _ (k0_off3_eq c 3 0) _ _) (name_rs 0 c (k0_off2_eq c) _ _ _) (sem_send0 0 3 rfl _ _) (sem_recv0 0 c (k0_off1_eq c) _ _) ?_
  refine send0_step 0 4 (Fin.ext (k0_dev12_eq c)) (name_part _ _ (k0_off3_eq c 4 0) _ _) (name_rs 0 c (k0_off2_eq c) _ _ _) (sem_send0 0 4 rfl _ _) (sem_recv0 0 c (k0_off1_eq c) _ _) ?_
  exact ret_step (h _)

/-- Strips sent. -/
theorem run12 {Q} {v2 : BitVec 32} {v380 : BitVec 32} {c1_i32_242 : BitVec 32}
    (h : ∀ r, St PT RD κ c l iprop(T ∗ (sent c 0 0 6 ∗ sent c 0 0 5 ∗ D) ∗ R) ⊢ Q r) :
    St PT RD κ c (.send 0 0 5 :: .send 0 0 6 :: l) iprop((sendRes PT RD c 0 0 5 ∗ sendRes PT RD c 0 0 6 ∗ T) ∗ D ∗ R) ⊢ wpc c (ap k0_part12 c v2 v380 c1_i32_242) Q := by
  rw [k0_part12_eq_skeleton]; unfold k0_part12_skel ap
  simp only [Prog.bind_lift]
  refine send0_step 0 5 (Fin.ext (k0_dev13_eq c)) (name_part _ _ (k0_off3_eq c 5 0) _ _) (name_rs 0 c (k0_off2_eq c) _ _ _) (sem_send0 0 5 rfl _ _) (sem_recv0 0 c (k0_off1_eq c) _ _) ?_
  refine send0_step 0 6 (Fin.ext (k0_dev14_eq c)) (name_part _ _ (k0_off3_eq c 6 0) _ _) (name_rs 0 c (k0_off2_eq c) _ _ _) (sem_send0 0 6 rfl _ _) (sem_recv0 0 c (k0_off1_eq c) _ _) ?_
  exact ret_step (h _)

/-- Strips sent. -/
theorem run13 {Q} {v2 : BitVec 32}
    (h : ∀ r, St PT RD κ c l iprop(T ∗ (sent c 0 1 1 ∗ sent c 0 1 0 ∗ D) ∗ R) ⊢ Q r) :
    St PT RD κ c (.send 0 1 0 :: .send 0 1 1 :: l) iprop((sendRes PT RD c 0 1 0 ∗ sendRes PT RD c 0 1 1 ∗ T) ∗ D ∗ R) ⊢ wpc c (ap k0_part13 c v2) Q := by
  rw [k0_part13_eq_skeleton]; unfold k0_part13_skel ap
  simp only [Prog.bind_lift]
  refine send0_step 1 0 (Fin.ext (k0_dev15_eq c)) (name_part _ _ (k0_off3_eq c 0 1) _ _) (name_rs 1 c (k0_off5_eq c) _ _ _) (sem_send0 1 0 rfl _ _) (sem_recv0 1 c (k0_off4_eq c) _ _) ?_
  refine send0_step 1 1 (Fin.ext (k0_dev16_eq c)) (name_part _ _ (k0_off3_eq c 1 1) _ _) (name_rs 1 c (k0_off5_eq c) _ _ _) (sem_send0 1 1 rfl _ _) (sem_recv0 1 c (k0_off4_eq c) _ _) ?_
  exact ret_step (h _)

/-- Strips sent. -/
theorem run14 {Q} {v2 : BitVec 32}
    (h : ∀ r, St PT RD κ c l iprop(T ∗ (sent c 0 1 4 ∗ sent c 0 1 3 ∗ sent c 0 1 2 ∗ D) ∗ R) ⊢ Q r) :
    St PT RD κ c (.send 0 1 2 :: .send 0 1 3 :: .send 0 1 4 :: l) iprop((sendRes PT RD c 0 1 2 ∗ sendRes PT RD c 0 1 3 ∗ sendRes PT RD c 0 1 4 ∗ T) ∗ D ∗ R) ⊢ wpc c (ap k0_part14 c v2) Q := by
  rw [k0_part14_eq_skeleton]; unfold k0_part14_skel ap
  simp only [Prog.bind_lift]
  refine send0_step 1 2 (Fin.ext (k0_dev17_eq c)) (name_part _ _ (k0_off3_eq c 2 1) _ _) (name_rs 1 c (k0_off5_eq c) _ _ _) (sem_send0 1 2 rfl _ _) (sem_recv0 1 c (k0_off4_eq c) _ _) ?_
  refine send0_step 1 3 (Fin.ext (k0_dev18_eq c)) (name_part _ _ (k0_off3_eq c 3 1) _ _) (name_rs 1 c (k0_off5_eq c) _ _ _) (sem_send0 1 3 rfl _ _) (sem_recv0 1 c (k0_off4_eq c) _ _) ?_
  refine send0_step 1 4 (Fin.ext (k0_dev19_eq c)) (name_part _ _ (k0_off3_eq c 4 1) _ _) (name_rs 1 c (k0_off5_eq c) _ _ _) (sem_send0 1 4 rfl _ _) (sem_recv0 1 c (k0_off4_eq c) _ _) ?_
  exact ret_step (h _)

/-- Strips sent. -/
theorem run15 {Q} {v2 : BitVec 32} {v471 : BitVec 32}
    (h : ∀ r, St PT RD κ c l iprop(T ∗ (sent c 0 1 6 ∗ sent c 0 1 5 ∗ D) ∗ R) ⊢ Q r) :
    St PT RD κ c (.send 0 1 5 :: .send 0 1 6 :: l) iprop((sendRes PT RD c 0 1 5 ∗ sendRes PT RD c 0 1 6 ∗ T) ∗ D ∗ R) ⊢ wpc c (ap k0_part15 c v2 v471) Q := by
  rw [k0_part15_eq_skeleton]; unfold k0_part15_skel ap
  simp only [Prog.bind_lift]
  refine send0_step 1 5 (Fin.ext (k0_dev20_eq c)) (name_part _ _ (k0_off3_eq c 5 1) _ _) (name_rs 1 c (k0_off5_eq c) _ _ _) (sem_send0 1 5 rfl _ _) (sem_recv0 1 c (k0_off4_eq c) _ _) ?_
  refine send0_step 1 6 (Fin.ext (k0_dev21_eq c)) (name_part _ _ (k0_off3_eq c 6 1) _ _) (name_rs 1 c (k0_off5_eq c) _ _ _) (sem_send0 1 6 rfl _ _) (sem_recv0 1 c (k0_off4_eq c) _ _) ?_
  exact ret_step (h _)

/-- Strips received. -/
theorem run16 {Q} {v2 : BitVec 32} {v497 : BitVec 32}
    (hl : ∀ x ∈ l, 2 < x.lev)
    (h : ∀ r, St PT RD κ c l iprop(T ∗ (waitGot PT RD c (recvJ 0 0 (peer c 1)) ∗ waitGot PT RD c (recvJ 0 0 (peer c 0)) ∗ D) ∗ R) ⊢ Q r) :
    St PT RD κ c l iprop((waitRes c (recvJ 0 0 (peer c 0)) ∗ waitRes c (recvJ 0 0 (peer c 1)) ∗ T) ∗ D ∗ R) ⊢ wpc c (ap k0_part16 c v2 v497) Q := by
  rw [k0_part16_eq_skeleton]; unfold k0_part16_skel ap
  simp only [Prog.bind_lift]
  refine wait_recv0 0 0 (sem_recv0 0 (peer c 0) (k0_off6_eq c 0) _ _) (name_rs 0 (peer c 0) (k0_off7_eq c 0) _ _ _) hl ?_
  refine wait_recv0 0 1 (sem_recv0 0 (peer c 1) (k0_off6_eq c 1) _ _) (name_rs 0 (peer c 1) (k0_off7_eq c 1) _ _ _) hl ?_
  exact ret_step (h _)

/-- Strips received. -/
theorem run17 {Q} {v2 : BitVec 32}
    (hl : ∀ x ∈ l, 2 < x.lev)
    (h : ∀ r, St PT RD κ c l iprop(T ∗ (waitGot PT RD c (recvJ 0 0 (peer c 4)) ∗ waitGot PT RD c (recvJ 0 0 (peer c 3)) ∗ waitGot PT RD c (recvJ 0 0 (peer c 2)) ∗ D) ∗ R) ⊢ Q r) :
    St PT RD κ c l iprop((waitRes c (recvJ 0 0 (peer c 2)) ∗ waitRes c (recvJ 0 0 (peer c 3)) ∗ waitRes c (recvJ 0 0 (peer c 4)) ∗ T) ∗ D ∗ R) ⊢ wpc c (ap k0_part17 c v2) Q := by
  rw [k0_part17_eq_skeleton]; unfold k0_part17_skel ap
  simp only [Prog.bind_lift]
  refine wait_recv0 0 2 (sem_recv0 0 (peer c 2) (k0_off6_eq c 2) _ _) (name_rs 0 (peer c 2) (k0_off7_eq c 2) _ _ _) hl ?_
  refine wait_recv0 0 3 (sem_recv0 0 (peer c 3) (k0_off6_eq c 3) _ _) (name_rs 0 (peer c 3) (k0_off7_eq c 3) _ _ _) hl ?_
  refine wait_recv0 0 4 (sem_recv0 0 (peer c 4) (k0_off6_eq c 4) _ _) (name_rs 0 (peer c 4) (k0_off7_eq c 4) _ _ _) hl ?_
  exact ret_step (h _)

/-- Strips received. -/
theorem run24 {Q} {v2 : BitVec 32} {v720 : BitVec 32} {v721 : BitVec 32}
    (hl : ∀ x ∈ l, 2 < x.lev)
    (h : ∀ r, St PT RD κ c l iprop(T ∗ (waitGot PT RD c (recvJ 0 1 (peer c 2)) ∗ waitGot PT RD c (recvJ 0 1 (peer c 1)) ∗ D) ∗ R) ⊢ Q r) :
    St PT RD κ c l iprop((waitRes c (recvJ 0 1 (peer c 1)) ∗ waitRes c (recvJ 0 1 (peer c 2)) ∗ T) ∗ D ∗ R) ⊢ wpc c (ap k0_part24 c v2 v720 v721) Q := by
  rw [k0_part24_eq_skeleton]; unfold k0_part24_skel ap
  simp only [Prog.bind_lift]
  refine wait_recv0 1 1 (sem_recv0 1 (peer c 1) (k0_off10_eq c 1) _ _) (name_rs 1 (peer c 1) (k0_off11_eq c 1) _ _ _) hl ?_
  refine wait_recv0 1 2 (sem_recv0 1 (peer c 2) (k0_off10_eq c 2) _ _) (name_rs 1 (peer c 2) (k0_off11_eq c 2) _ _ _) hl ?_
  exact ret_step (h _)

/-- Strips received. -/
theorem run25 {Q} {v2 : BitVec 32}
    (hl : ∀ x ∈ l, 2 < x.lev)
    (h : ∀ r, St PT RD κ c l iprop(T ∗ (waitGot PT RD c (recvJ 0 1 (peer c 5)) ∗ waitGot PT RD c (recvJ 0 1 (peer c 4)) ∗ waitGot PT RD c (recvJ 0 1 (peer c 3)) ∗ D) ∗ R) ⊢ Q r) :
    St PT RD κ c l iprop((waitRes c (recvJ 0 1 (peer c 3)) ∗ waitRes c (recvJ 0 1 (peer c 4)) ∗ waitRes c (recvJ 0 1 (peer c 5)) ∗ T) ∗ D ∗ R) ⊢ wpc c (ap k0_part25 c v2) Q := by
  rw [k0_part25_eq_skeleton]; unfold k0_part25_skel ap
  simp only [Prog.bind_lift]
  refine wait_recv0 1 3 (sem_recv0 1 (peer c 3) (k0_off10_eq c 3) _ _) (name_rs 1 (peer c 3) (k0_off11_eq c 3) _ _ _) hl ?_
  refine wait_recv0 1 4 (sem_recv0 1 (peer c 4) (k0_off10_eq c 4) _ _) (name_rs 1 (peer c 4) (k0_off11_eq c 4) _ _ _) hl ?_
  refine wait_recv0 1 5 (sem_recv0 1 (peer c 5) (k0_off10_eq c 5) _ _) (name_rs 1 (peer c 5) (k0_off11_eq c 5) _ _ _) hl ?_
  exact ret_step (h _)

/-- A summed half sent. -/
theorem run21 {Q} {v2 : BitVec 32} {v637 : BitVec 32}
    (h : ∀ r, St PT RD κ c l iprop(T ∗ (sent c 1 0 2 ∗ sent c 1 0 1 ∗ D) ∗ R) ⊢ Q r) :
    St PT RD κ c (.send 1 0 1 :: .send 1 0 2 :: l) iprop((sendRes PT RD c 1 0 1 ∗ sendRes PT RD c 1 0 2 ∗ T) ∗ D ∗ R) ⊢ wpc c (ap k0_part21 c v2 v637) Q := by
  rw [k0_part21_eq_skeleton]; unfold k0_part21_skel ap
  simp only [Prog.bind_lift]
  refine send1_step 0 1 (Fin.ext (k0_dev23_eq c)) (name_red 0 rfl _ _ _) (name_ag 0 c (k0_off2_eq c) _ _ _) (sem_send1 0 1 rfl _ _) (sem_recv1 0 c (k0_off1_eq c) _ _) ?_
  refine send1_step 0 2 (Fin.ext (k0_dev24_eq c)) (name_red 0 rfl _ _ _) (name_ag 0 c (k0_off2_eq c) _ _ _) (sem_send1 0 2 rfl _ _) (sem_recv1 0 c (k0_off1_eq c) _ _) ?_
  exact ret_step (h _)

/-- A summed half sent. -/
theorem run22 {Q} {v2 : BitVec 32}
    (h : ∀ r, St PT RD κ c l iprop(T ∗ (sent c 1 0 4 ∗ sent c 1 0 3 ∗ D) ∗ R) ⊢ Q r) :
    St PT RD κ c (.send 1 0 3 :: .send 1 0 4 :: l) iprop((sendRes PT RD c 1 0 3 ∗ sendRes PT RD c 1 0 4 ∗ T) ∗ D ∗ R) ⊢ wpc c (ap k0_part22 c v2) Q := by
  rw [k0_part22_eq_skeleton]; unfold k0_part22_skel ap
  simp only [Prog.bind_lift]
  refine send1_step 0 3 (Fin.ext (k0_dev25_eq c)) (name_red 0 rfl _ _ _) (name_ag 0 c (k0_off2_eq c) _ _ _) (sem_send1 0 3 rfl _ _) (sem_recv1 0 c (k0_off1_eq c) _ _) ?_
  refine send1_step 0 4 (Fin.ext (k0_dev26_eq c)) (name_red 0 rfl _ _ _) (name_ag 0 c (k0_off2_eq c) _ _ _) (sem_send1 0 4 rfl _ _) (sem_recv1 0 c (k0_off1_eq c) _ _) ?_
  exact ret_step (h _)

/-- A summed half sent. -/
theorem run29 {Q} {v2 : BitVec 32} {v860 : BitVec 32}
    (h : ∀ r, St PT RD κ c l iprop(T ∗ (sent c 1 1 3 ∗ sent c 1 1 2 ∗ D) ∗ R) ⊢ Q r) :
    St PT RD κ c (.send 1 1 2 :: .send 1 1 3 :: l) iprop((sendRes PT RD c 1 1 2 ∗ sendRes PT RD c 1 1 3 ∗ T) ∗ D ∗ R) ⊢ wpc c (ap k0_part29 c v2 v860) Q := by
  rw [k0_part29_eq_skeleton]; unfold k0_part29_skel ap
  simp only [Prog.bind_lift]
  refine send1_step 1 2 (Fin.ext (k0_dev31_eq c)) (name_red 1 rfl _ _ _) (name_ag 1 c (k0_off5_eq c) _ _ _) (sem_send1 1 2 rfl _ _) (sem_recv1 1 c (k0_off4_eq c) _ _) ?_
  refine send1_step 1 3 (Fin.ext (k0_dev32_eq c)) (name_red 1 rfl _ _ _) (name_ag 1 c (k0_off5_eq c) _ _ _) (sem_send1 1 3 rfl _ _) (sem_recv1 1 c (k0_off4_eq c) _ _) ?_
  exact ret_step (h _)

/-- A summed half sent. -/
theorem run30 {Q} {v2 : BitVec 32} {v885 : BitVec 32} {c1_i32_772 : BitVec 32}
    (h : ∀ r, St PT RD κ c l iprop(T ∗ (sent c 1 1 5 ∗ sent c 1 1 4 ∗ D) ∗ R) ⊢ Q r) :
    St PT RD κ c (.send 1 1 4 :: .send 1 1 5 :: l) iprop((sendRes PT RD c 1 1 4 ∗ sendRes PT RD c 1 1 5 ∗ T) ∗ D ∗ R) ⊢ wpc c (ap k0_part30 c v2 v885 c1_i32_772) Q := by
  rw [k0_part30_eq_skeleton]; unfold k0_part30_skel ap
  simp only [Prog.bind_lift]
  refine send1_step 1 4 (Fin.ext (k0_dev33_eq c)) (name_red 1 rfl _ _ _) (name_ag 1 c (k0_off5_eq c) _ _ _) (sem_send1 1 4 rfl _ _) (sem_recv1 1 c (k0_off4_eq c) _ _) ?_
  refine send1_step 1 5 (Fin.ext (k0_dev34_eq c)) (name_red 1 rfl _ _ _) (name_ag 1 c (k0_off5_eq c) _ _ _) (sem_send1 1 5 rfl _ _) (sem_recv1 1 c (k0_off4_eq c) _ _) ?_
  exact ret_step (h _)

/-- Summed halves received. -/
theorem run32 {Q} {v2 : BitVec 32} {v941 : BitVec 32}
    (hl : ∀ x ∈ l, 3 < x.lev)
    (h : ∀ r, St PT RD κ c l iprop(T ∗ (waitGot PT RD c (recvJ 1 0 (peer c 3)) ∗ waitGot PT RD c (recvJ 1 0 (peer c 2)) ∗ D) ∗ R) ⊢ Q r) :
    St PT RD κ c l iprop((waitRes c (recvJ 1 0 (peer c 2)) ∗ waitRes c (recvJ 1 0 (peer c 3)) ∗ T) ∗ D ∗ R) ⊢ wpc c (ap k0_part32 c v2 v941) Q := by
  rw [k0_part32_eq_skeleton]; unfold k0_part32_skel ap
  simp only [Prog.bind_lift]
  refine wait_recv1 0 2 (sem_recv1 0 (peer c 2) (k0_off6_eq c 2) _ _) (name_ag 0 (peer c 2) (k0_off7_eq c 2) _ _ _) hl ?_
  refine wait_recv1 0 3 (sem_recv1 0 (peer c 3) (k0_off6_eq c 3) _ _) (name_ag 0 (peer c 3) (k0_off7_eq c 3) _ _ _) hl ?_
  exact ret_step (h _)

/-- Summed halves received. -/
theorem run33 {Q} {v2 : BitVec 32}
    (hl : ∀ x ∈ l, 3 < x.lev)
    (h : ∀ r, St PT RD κ c l iprop(T ∗ (waitGot PT RD c (recvJ 1 0 (peer c 6)) ∗ waitGot PT RD c (recvJ 1 0 (peer c 5)) ∗ waitGot PT RD c (recvJ 1 0 (peer c 4)) ∗ D) ∗ R) ⊢ Q r) :
    St PT RD κ c l iprop((waitRes c (recvJ 1 0 (peer c 4)) ∗ waitRes c (recvJ 1 0 (peer c 5)) ∗ waitRes c (recvJ 1 0 (peer c 6)) ∗ T) ∗ D ∗ R) ⊢ wpc c (ap k0_part33 c v2) Q := by
  rw [k0_part33_eq_skeleton]; unfold k0_part33_skel ap
  simp only [Prog.bind_lift]
  refine wait_recv1 0 4 (sem_recv1 0 (peer c 4) (k0_off6_eq c 4) _ _) (name_ag 0 (peer c 4) (k0_off7_eq c 4) _ _ _) hl ?_
  refine wait_recv1 0 5 (sem_recv1 0 (peer c 5) (k0_off6_eq c 5) _ _) (name_ag 0 (peer c 5) (k0_off7_eq c 5) _ _ _) hl ?_
  refine wait_recv1 0 6 (sem_recv1 0 (peer c 6) (k0_off6_eq c 6) _ _) (name_ag 0 (peer c 6) (k0_off7_eq c 6) _ _ _) hl ?_
  exact ret_step (h _)

/-- Summed halves received. -/
theorem run34 {Q} {v2 : BitVec 32} {v991 : BitVec 32}
    (hl : ∀ x ∈ l, 3 < x.lev)
    (h : ∀ r, St PT RD κ c l iprop(T ∗ (waitGot PT RD c (recvJ 1 1 (peer c 1)) ∗ waitGot PT RD c (recvJ 1 1 (peer c 0)) ∗ D) ∗ R) ⊢ Q r) :
    St PT RD κ c l iprop((waitRes c (recvJ 1 1 (peer c 0)) ∗ waitRes c (recvJ 1 1 (peer c 1)) ∗ T) ∗ D ∗ R) ⊢ wpc c (ap k0_part34 c v2 v991) Q := by
  rw [k0_part34_eq_skeleton]; unfold k0_part34_skel ap
  simp only [Prog.bind_lift]
  refine wait_recv1 1 0 (sem_recv1 1 (peer c 0) (k0_off10_eq c 0) _ _) (name_ag 1 (peer c 0) (k0_off11_eq c 0) _ _ _) hl ?_
  refine wait_recv1 1 1 (sem_recv1 1 (peer c 1) (k0_off10_eq c 1) _ _) (name_ag 1 (peer c 1) (k0_off11_eq c 1) _ _ _) hl ?_
  exact ret_step (h _)

/-- Summed halves received. -/
theorem run35 {Q} {v2 : BitVec 32}
    (hl : ∀ x ∈ l, 3 < x.lev)
    (h : ∀ r, St PT RD κ c l iprop(T ∗ (waitGot PT RD c (recvJ 1 1 (peer c 4)) ∗ waitGot PT RD c (recvJ 1 1 (peer c 3)) ∗ waitGot PT RD c (recvJ 1 1 (peer c 2)) ∗ D) ∗ R) ⊢ Q r) :
    St PT RD κ c l iprop((waitRes c (recvJ 1 1 (peer c 2)) ∗ waitRes c (recvJ 1 1 (peer c 3)) ∗ waitRes c (recvJ 1 1 (peer c 4)) ∗ T) ∗ D ∗ R) ⊢ wpc c (ap k0_part35 c v2) Q := by
  rw [k0_part35_eq_skeleton]; unfold k0_part35_skel ap
  simp only [Prog.bind_lift]
  refine wait_recv1 1 2 (sem_recv1 1 (peer c 2) (k0_off10_eq c 2) _ _) (name_ag 1 (peer c 2) (k0_off11_eq c 2) _ _ _) hl ?_
  refine wait_recv1 1 3 (sem_recv1 1 (peer c 3) (k0_off10_eq c 3) _ _) (name_ag 1 (peer c 3) (k0_off11_eq c 3) _ _ _) hl ?_
  refine wait_recv1 1 4 (sem_recv1 1 (peer c 4) (k0_off10_eq c 4) _ _) (name_ag 1 (peer c 4) (k0_off11_eq c 4) _ _ _) hl ?_
  exact ret_step (h _)

/-- Transfers of its own awaited. -/
theorem run41 {Q}
    (hl : ∀ x ∈ l, 0 < x.lev)
    (h : ∀ r, St PT RD κ c l iprop(T ∗ (waitGot PT RD c (sendJ 0 0 5) ∗ waitGot PT RD c (sendJ 0 0 4) ∗ waitGot PT RD c (sendJ 0 0 3) ∗ waitGot PT RD c (sendJ 0 0 2) ∗ D) ∗ R) ⊢ Q r) :
    St PT RD κ c l iprop((waitRes c (sendJ 0 0 2) ∗ waitRes c (sendJ 0 0 3) ∗ waitRes c (sendJ 0 0 4) ∗ waitRes c (sendJ 0 0 5) ∗ T) ∗ D ∗ R) ⊢ wpc c (ap k0_part41 c) Q := by
  rw [k0_part41_eq_skeleton]; unfold k0_part41_skel ap
  simp only [Prog.bind_lift]
  refine wait_send0 0 2 (sem_send0 0 2 rfl _ _) (name_part (peer c 2) 0 (k0_off3_eq c 2 0) _ _) hl ?_
  refine wait_send0 0 3 (sem_send0 0 3 rfl _ _) (name_part (peer c 3) 0 (k0_off3_eq c 3 0) _ _) hl ?_
  refine wait_send0 0 4 (sem_send0 0 4 rfl _ _) (name_part (peer c 4) 0 (k0_off3_eq c 4 0) _ _) hl ?_
  refine wait_send0 0 5 (sem_send0 0 5 rfl _ _) (name_part (peer c 5) 0 (k0_off3_eq c 5 0) _ _) hl ?_
  exact ret_step (h _)

/-- Transfers of its own awaited. -/
theorem run42 {Q}
    (hl : ∀ x ∈ l, 0 < x.lev)
    (h : ∀ r, St PT RD κ c l iprop(T ∗ (waitGot PT RD c (sendJ 0 1 2) ∗ waitGot PT RD c (sendJ 0 1 1) ∗ waitGot PT RD c (sendJ 0 1 0) ∗ waitGot PT RD c (sendJ 0 0 6) ∗ D) ∗ R) ⊢ Q r) :
    St PT RD κ c l iprop((waitRes c (sendJ 0 0 6) ∗ waitRes c (sendJ 0 1 0) ∗ waitRes c (sendJ 0 1 1) ∗ waitRes c (sendJ 0 1 2) ∗ T) ∗ D ∗ R) ⊢ wpc c (ap k0_part42 c) Q := by
  rw [k0_part42_eq_skeleton]; unfold k0_part42_skel ap
  simp only [Prog.bind_lift]
  refine wait_send0 0 6 (sem_send0 0 6 rfl _ _) (name_part (peer c 6) 0 (k0_off3_eq c 6 0) _ _) hl ?_
  refine wait_send0 1 0 (sem_send0 1 0 rfl _ _) (name_part (peer c 0) 1 (k0_off3_eq c 0 1) _ _) hl ?_
  refine wait_send0 1 1 (sem_send0 1 1 rfl _ _) (name_part (peer c 1) 1 (k0_off3_eq c 1 1) _ _) hl ?_
  refine wait_send0 1 2 (sem_send0 1 2 rfl _ _) (name_part (peer c 2) 1 (k0_off3_eq c 2 1) _ _) hl ?_
  exact ret_step (h _)

/-- Transfers of its own awaited. -/
theorem run43 {Q}
    (hl : ∀ x ∈ l, 0 < x.lev)
    (h : ∀ r, St PT RD κ c l iprop(T ∗ (waitGot PT RD c (sendJ 0 1 6) ∗ waitGot PT RD c (sendJ 0 1 5) ∗ waitGot PT RD c (sendJ 0 1 4) ∗ waitGot PT RD c (sendJ 0 1 3) ∗ D) ∗ R) ⊢ Q r) :
    St PT RD κ c l iprop((waitRes c (sendJ 0 1 3) ∗ waitRes c (sendJ 0 1 4) ∗ waitRes c (sendJ 0 1 5) ∗ waitRes c (sendJ 0 1 6) ∗ T) ∗ D ∗ R) ⊢ wpc c (ap k0_part43 c) Q := by
  rw [k0_part43_eq_skeleton]; unfold k0_part43_skel ap
  simp only [Prog.bind_lift]
  refine wait_send0 1 3 (sem_send0 1 3 rfl _ _) (name_part (peer c 3) 1 (k0_off3_eq c 3 1) _ _) hl ?_
  refine wait_send0 1 4 (sem_send0 1 4 rfl _ _) (name_part (peer c 4) 1 (k0_off3_eq c 4 1) _ _) hl ?_
  refine wait_send0 1 5 (sem_send0 1 5 rfl _ _) (name_part (peer c 5) 1 (k0_off3_eq c 5 1) _ _) hl ?_
  refine wait_send0 1 6 (sem_send0 1 6 rfl _ _) (name_part (peer c 6) 1 (k0_off3_eq c 6 1) _ _) hl ?_
  exact ret_step (h _)

/-- Transfers of its own awaited. -/
theorem run44 {Q}
    (hl : ∀ x ∈ l, 0 < x.lev)
    (h : ∀ r, St PT RD κ c l iprop(T ∗ (waitGot PT RD c (sendJ 1 0 3) ∗ waitGot PT RD c (sendJ 1 0 2) ∗ waitGot PT RD c (sendJ 1 0 1) ∗ waitGot PT RD c (sendJ 1 0 0) ∗ D) ∗ R) ⊢ Q r) :
    St PT RD κ c l iprop((waitRes c (sendJ 1 0 0) ∗ waitRes c (sendJ 1 0 1) ∗ waitRes c (sendJ 1 0 2) ∗ waitRes c (sendJ 1 0 3) ∗ T) ∗ D ∗ R) ⊢ wpc c (ap k0_part44 c) Q := by
  rw [k0_part44_eq_skeleton]; unfold k0_part44_skel ap
  simp only [Prog.bind_lift]
  refine wait_send1 0 0 (sem_send1 0 0 rfl _ _) (name_red 0 rfl _ _ _) hl ?_
  refine wait_send1 0 1 (sem_send1 0 1 rfl _ _) (name_red 0 rfl _ _ _) hl ?_
  refine wait_send1 0 2 (sem_send1 0 2 rfl _ _) (name_red 0 rfl _ _ _) hl ?_
  refine wait_send1 0 3 (sem_send1 0 3 rfl _ _) (name_red 0 rfl _ _ _) hl ?_
  exact ret_step (h _)

/-- Transfers of its own awaited. -/
theorem run45 {Q}
    (hl : ∀ x ∈ l, 0 < x.lev)
    (h : ∀ r, St PT RD κ c l iprop(T ∗ (waitGot PT RD c (sendJ 1 1 0) ∗ waitGot PT RD c (sendJ 1 0 6) ∗ waitGot PT RD c (sendJ 1 0 5) ∗ waitGot PT RD c (sendJ 1 0 4) ∗ D) ∗ R) ⊢ Q r) :
    St PT RD κ c l iprop((waitRes c (sendJ 1 0 4) ∗ waitRes c (sendJ 1 0 5) ∗ waitRes c (sendJ 1 0 6) ∗ waitRes c (sendJ 1 1 0) ∗ T) ∗ D ∗ R) ⊢ wpc c (ap k0_part45 c) Q := by
  rw [k0_part45_eq_skeleton]; unfold k0_part45_skel ap
  simp only [Prog.bind_lift]
  refine wait_send1 0 4 (sem_send1 0 4 rfl _ _) (name_red 0 rfl _ _ _) hl ?_
  refine wait_send1 0 5 (sem_send1 0 5 rfl _ _) (name_red 0 rfl _ _ _) hl ?_
  refine wait_send1 0 6 (sem_send1 0 6 rfl _ _) (name_red 0 rfl _ _ _) hl ?_
  refine wait_send1 1 0 (sem_send1 1 0 rfl _ _) (name_red 1 rfl _ _ _) hl ?_
  exact ret_step (h _)

/-- Transfers of its own awaited. -/
theorem run46 {Q}
    (hl : ∀ x ∈ l, 0 < x.lev)
    (h : ∀ r, St PT RD κ c l iprop(T ∗ (waitGot PT RD c (sendJ 1 1 3) ∗ waitGot PT RD c (sendJ 1 1 2) ∗ waitGot PT RD c (sendJ 1 1 1) ∗ D) ∗ R) ⊢ Q r) :
    St PT RD κ c l iprop((waitRes c (sendJ 1 1 1) ∗ waitRes c (sendJ 1 1 2) ∗ waitRes c (sendJ 1 1 3) ∗ T) ∗ D ∗ R) ⊢ wpc c (ap k0_part46 c) Q := by
  rw [k0_part46_eq_skeleton]; unfold k0_part46_skel ap
  simp only [Prog.bind_lift]
  refine wait_send1 1 1 (sem_send1 1 1 rfl _ _) (name_red 1 rfl _ _ _) hl ?_
  refine wait_send1 1 2 (sem_send1 1 2 rfl _ _) (name_red 1 rfl _ _ _) hl ?_
  refine wait_send1 1 3 (sem_send1 1 3 rfl _ _) (name_red 1 rfl _ _ _) hl ?_
  exact ret_step (h _)

end Cert.KernelIdeal.Talk
-- ==== Proof.Sums.lean ====
module

public import proofs.«01_k».proof.Proof.Exchange

/-! The parts of the exchange in which a device reads, sums and writes: its own slot, the two sums, the result. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

/-- All eight slots of half `t` of `rs`. -/
abbrev rsAll (c : Dev nD) (t : Fin 2) (f : S2x8x16x512.Idx → Elt F .bf16) : sProp 𝕄 :=
  ((c : Thread nD τ).loc cc0_scratch1) ↦[Finset.univ.filter fun i : S2x8x16x512.Idx => (i 0).val = t.val]{fullShare} f

/-- All sixteen slots of `ag`. -/
abbrev agAll (c : Dev nD) (f : S2x8x16x512.Idx → Elt F .bf16) : sProp 𝕄 :=
  ((c : Thread nD τ).loc cc0_scratch3) ↦{fullShare} f

/-- The result's window. -/
abbrev outMem (c : Dev nD) (f : S2x128x512.Idx → Elt F .f32) : sProp 𝕄 :=
  ((c : Thread nD τ).loc cc0_stg5_0) ↦{fullShare} f

/-- A box of a slot lies among the eight. -/
theorem acc_rsAll (t : Fin 2) (o : Dev nD) {off : Fin 4 → ℕ} (ho : off = ![t.val, o.val, 0, 0]) (hb) :
    ((Memref.whole cc0_scratch1).access (Rect.unit (s := S2x8x16x512) off S1x1x16x512.size hb)).set
      ⊆ Finset.univ.filter fun i : S2x8x16x512.Idx => (i 0).val = t.val := fun i hi =>
  Finset.mem_filter.2 ⟨Finset.mem_univ i, ((mem_rs t o i).1 (acc_rs t o ho hb hi)).1⟩

/-! ## The values written, element by element -/

section
variable {β : Type}

theorem cast24 (v : S16x512.Idx → β) (h) (a : Fin 16) (b : Fin 512) :
    shapeCast S1x1x16x512 v h (ix4 0 0 a b) = v (ix2 a b) :=
  shapeCast_apply v h _ _ (by
    rw [Shape.rowMajor_val_four, Shape.rowMajor_val_two]
    show a.val * 512 + b.val = ((0 * 1 + 0) * 16 + a.val) * 512 + b.val
    omega)

theorem cast23 (v : S16x512.Idx → β) (h) (a : Fin 16) (b : Fin 512) :
    shapeCast S1x16x512 v h (ix3 0 a b) = v (ix2 a b) :=
  shapeCast_apply v h _ _ (by
    rw [Shape.rowMajor_val_three, Shape.rowMajor_val_two]
    show a.val * 512 + b.val = (0 * 16 + a.val) * 512 + b.val
    omega)

theorem cast32 (v : S1x16x512.Idx → β) (h) (a : Fin 16) (b : Fin 512) :
    shapeCast S16x512 v h (ix2 a b) = v (ix3 0 a b) :=
  shapeCast_apply v h _ _ (by
    rw [Shape.rowMajor_val_three, Shape.rowMajor_val_two]
    show (0 * 16 + a.val) * 512 + b.val = a.val * 512 + b.val
    omega)

theorem cast42 (v : S1x1x16x512.Idx → β) (h) (a : Fin 16) (b : Fin 512) :
    shapeCast S16x512 v h (ix2 a b) = v (ix4 0 0 a b) :=
  shapeCast_apply v h _ _ (by
    rw [Shape.rowMajor_val_four, Shape.rowMajor_val_two]
    show ((0 * 1 + 0) * 16 + a.val) * 512 + b.val = a.val * 512 + b.val
    omega)
end

/-- A strip of its own, written into its own slot. -/
theorem own_rs (PT : Dev nD → S256x512.Idx → Elt F .bf16) (c : Dev nD) (t : Fin 2) (a : Fin 16) (b : Fin 512) :
    k0_pay21 (strip (PT c) c t) (ix4 0 0 a b) = RS PT c (ix4 t c a b) := by
  unfold k0_pay21
  exact (cast24 (strip (PT c) c t) _ a b).trans rfl

/-- A summed half, written into its own slot. -/
theorem own_ag (RD : Dev nD → S2x16x512.Idx → Elt F .bf16) (c : Dev nD) (t : Fin 2) (a : Fin 16) (b : Fin 512) :
    k0_pay24 (half (RD c) t) (ix4 0 0 a b) = AG RD (ix4 t c a b) := by
  unfold k0_pay24
  exact (cast24 (shapeCast S16x512 (half (RD c) t) _) _ a b).trans ((cast32 (half (RD c) t) _ a b).trans rfl)

theorem red_zero (f : S2x8x16x512.Idx → Elt F .bf16) (a : Fin 16) (b : Fin 512) :
    RED f (ix3 0 a b) = sum0 f (ix3 0 a b) := if_pos rfl

theorem red_one (f : S2x8x16x512.Idx → Elt F .bf16) (a : Fin 16) (b : Fin 512) :
    RED f (ix3 1 a b) = sum1 f (ix3 0 a b) := if_neg Nat.one_ne_zero

section
variable {g : S2x8x16x512.Idx → Elt F .bf16} {f0 : S2x128x512.Idx → Elt F .f32} {T' D' R' U : sProp (MT nD τ sig Unit (Elt F) ℕ UU ℕ)}

/-- The last strips of the first half received; its own put beside them. -/
theorem run18 {Q} {v2 : BitVec 32} {v552 : BitVec 32} {c32_i32_417 : BitVec 32} {f : S2x8x16x512.Idx → Elt F .bf16}
    (hl : ∀ x ∈ l, 2 < x.lev)
    (h : ∀ r, St PT RD κ c l iprop(T ∗ (waitGot PT RD c (recvJ 0 0 (peer c 6)) ∗ waitGot PT RD c (recvJ 0 0 (peer c 5)) ∗ D) ∗ pt c (partM c 0) fullShare (PT c) ∗ pt c (rsM 0 c) fullShare (RS PT c) ∗ R) ⊢ Q r) :
    St PT RD κ c l iprop((waitRes c (recvJ 0 0 (peer c 5)) ∗ waitRes c (recvJ 0 0 (peer c 6)) ∗ T) ∗ D ∗ pt c (partM c 0) fullShare (PT c) ∗ pt c (rsM 0 c) fullShare f ∗ R) ⊢ wpc c (ap k0_part18 c v2 v552 c32_i32_417) Q := by
  rw [k0_part18_eq_skeleton]; unfold k0_part18_skel ap
  simp only [Prog.bind_lift]
  refine wait_recv0 0 5 (sem_recv0 0 (peer c 5) (k0_off6_eq c 5) _ _) (name_rs 0 (peer c 5) (k0_off7_eq c 5) _ _ _) hl ?_
  refine wait_recv0 0 6 (sem_recv0 0 (peer c 6) (k0_off6_eq c 6) _ _) (name_rs 0 (peer c 6) (k0_off7_eq c 6) _ _ _) hl ?_
  refine read_step (next (next here)) (acc_part c 0 (k0_off8_eq c 0) _) (read_part c 0 (k0_off8_eq c 0) _ _) ?_
  refine load_step (next (next (next here))) (acc_rs 0 c (k0_off9_eq c) _) ?_
  refine store_step (next (next (next here))) (acc_rs 0 c (k0_off9_eq c) _) (fun i hi => write_rs 0 c (k0_off9_eq c) _ _ _ _ (own_rs PT c 0) i hi) ?_
  exact ret_step (h _)

/-- The slots of the first half summed. -/
theorem run19 {Q}
    (h : St PT RD κ c l iprop(rsAll c 0 g ∗ T) ⊢ Q (k0_pay22 (slot g 0 0) (slot g 0 1) (slot g 0 2) (slot g 0 3) (slot g 0 4) (slot g 0 5) (slot g 0 6))) :
    St PT RD κ c l iprop(rsAll c 0 g ∗ T) ⊢ wpc c (ap k0_part19) Q := by
  rw [k0_part19_eq_skeleton]; unfold k0_part19_skel ap
  simp only [Prog.bind_lift]
  refine read_step (here) (acc_rsAll 0 0 rfl _) (read_rs 0 0 rfl _ _) ?_
  refine read_step (here) (acc_rsAll 0 1 rfl _) (read_rs 0 1 rfl _ _) ?_
  refine read_step (here) (acc_rsAll 0 2 rfl _) (read_rs 0 2 rfl _ _) ?_
  refine read_step (here) (acc_rsAll 0 3 rfl _) (read_rs 0 3 rfl _ _) ?_
  refine read_step (here) (acc_rsAll 0 4 rfl _) (read_rs 0 4 rfl _ _) ?_
  refine read_step (here) (acc_rsAll 0 5 rfl _) (read_rs 0 5 rfl _ _) ?_
  refine read_step (here) (acc_rsAll 0 6 rfl _) (read_rs 0 6 rfl _ _) ?_
  exact ret_step h

/-- The first half summed and put into its own slot; sent once. -/
theorem run20 {Q} {v2 : BitVec 32} {f : S2x16x512.Idx → Elt F .bf16} {f' : S2x8x16x512.Idx → Elt F .bf16}
    (hRD : RD c = RED (RS PT c))
    (hB : iprop(rsAll c 0 (RS PT c) ∗ pt c (redM 0) fullShare (RD c) ∗ pt c (agM 0 c) fullShare (AG RD) ∗ T)
      ⊢ iprop((sendRes PT RD c 1 0 0 ∗ T') ∗ D ∗ R))
    (h : ∀ r, St PT RD κ c l iprop(T' ∗ (sent c 1 0 0 ∗ D) ∗ R) ⊢ Q r) :
    St PT RD κ c (.send 1 0 0 :: l) iprop(rsAll c 0 (RS PT c) ∗ pt c (redM 0) fullShare f ∗ pt c (agM 0 c) fullShare f' ∗ T) ⊢ wpc c (ap k0_part20 c v2 (k0_pay22 (slot (RS PT c) 0 0) (slot (RS PT c) 0 1) (slot (RS PT c) 0 2) (slot (RS PT c) 0 3) (slot (RS PT c) 0 4) (slot (RS PT c) 0 5) (slot (RS PT c) 0 6))) Q := by
  rw [k0_part20_eq_skeleton]; unfold k0_part20_skel ap
  simp only [Prog.bind_lift]
  refine read_step (here) (acc_rsAll 0 7 rfl _) (read_rs 0 7 rfl _ _) ?_
  refine load_step (next here) (acc_red 0 rfl _) ?_
  refine store_step (next here) (acc_red 0 rfl _) (fun i hi => write_red 0 rfl _ _ (RD c) _ (fun a b => by rw [hRD, red_zero]; rfl) i hi) ?_
  refine read_step (next here) (acc_red 0 rfl _) (read_red 0 rfl _ _) ?_
  refine load_step (next (next here)) (acc_ag 0 c (k0_off9_eq c) _) ?_
  refine store_step (next (next here)) (acc_ag 0 c (k0_off9_eq c) _) (fun i hi => write_ag 0 c (k0_off9_eq c) _ _ _ _ (own_ag RD c 0) i hi) ?_
  refine St_mono hB ?_
  refine send1_step 0 0 (Fin.ext (k0_dev22_eq c)) (name_red 0 rfl _ _ _) (name_ag 0 c (k0_off2_eq c) _ _ _) (sem_send1 0 0 rfl _ _) (sem_recv1 0 c (k0_off1_eq c) _ _) ?_
  exact ret_step (h _)

/-- The first half sent to the last two; the second half begins to arrive. -/
theorem run23 {Q} {v2 : BitVec 32}
    (hl : ∀ x ∈ l, 2 < x.lev)
    (hA : iprop(T ∗ (sent c 1 0 6 ∗ sent c 1 0 5 ∗ D) ∗ R) ⊢ iprop((waitRes c (recvJ 0 1 (peer c 0)) ∗ T') ∗ D' ∗ R'))
    (h : ∀ r, St PT RD κ c l iprop(T' ∗ (waitGot PT RD c (recvJ 0 1 (peer c 0)) ∗ D') ∗ R') ⊢ Q r) :
    St PT RD κ c (.send 1 0 5 :: .send 1 0 6 :: l) iprop((sendRes PT RD c 1 0 5 ∗ sendRes PT RD c 1 0 6 ∗ T) ∗ D ∗ R) ⊢ wpc c (ap k0_part23 c v2) Q := by
  rw [k0_part23_eq_skeleton]; unfold k0_part23_skel ap
  simp only [Prog.bind_lift]
  refine send1_step 0 5 (Fin.ext (k0_dev27_eq c)) (name_red 0 rfl _ _ _) (name_ag 0 c (k0_off2_eq c) _ _ _) (sem_send1 0 5 rfl _ _) (sem_recv1 0 c (k0_off1_eq c) _ _) ?_
  refine send1_step 0 6 (Fin.ext (k0_dev28_eq c)) (name_red 0 rfl _ _ _) (name_ag 0 c (k0_off2_eq c) _ _ _) (sem_send1 0 6 rfl _ _) (sem_recv1 0 c (k0_off1_eq c) _ _) ?_
  refine St_mono hA ?_
  refine wait_recv0 1 0 (sem_recv0 1 (peer c 0) (k0_off10_eq c 0) _ _) (name_rs 1 (peer c 0) (k0_off11_eq c 0) _ _ _) hl ?_
  exact ret_step (h _)

/-- The second half has arrived; its own put beside it, and the first two slots summed. -/
theorem run26 {Q} {v2 : BitVec 32} {c7_i32_652 : BitVec 32} {f : S2x8x16x512.Idx → Elt F .bf16}
    (hl : ∀ x ∈ l, 2 < x.lev)
    (hB : iprop(T ∗ (waitGot PT RD c (recvJ 0 1 (peer c 6)) ∗ D) ∗ pt c (partM c 1) fullShare (PT c) ∗ pt c (rsM 1 c) fullShare (RS PT c) ∗ R)
      ⊢ iprop(rsAll c 1 g ∗ U))
    (h : St PT RD κ c l iprop(rsAll c 1 g ∗ U) ⊢ Q (k0_pay26 (slot g 1 0) (slot g 1 1))) :
    St PT RD κ c l iprop((waitRes c (recvJ 0 1 (peer c 6)) ∗ T) ∗ D ∗ pt c (partM c 1) fullShare (PT c) ∗ pt c (rsM 1 c) fullShare f ∗ R) ⊢ wpc c (ap k0_part26 c v2 c7_i32_652) Q := by
  rw [k0_part26_eq_skeleton]; unfold k0_part26_skel ap
  simp only [Prog.bind_lift]
  refine wait_recv0 1 6 (sem_recv0 1 (peer c 6) (k0_off10_eq c 6) _ _) (name_rs 1 (peer c 6) (k0_off11_eq c 6) _ _ _) hl ?_
  refine read_step (next (next here)) (acc_part c 1 (k0_off8_eq c 1) _) (read_part c 1 (k0_off8_eq c 1) _ _) ?_
  refine load_step (next (next (next here))) (acc_rs 1 c (k0_off12_eq c) _) ?_
  refine store_step (next (next (next here))) (acc_rs 1 c (k0_off12_eq c) _) (fun i hi => write_rs 1 c (k0_off12_eq c) _ _ _ _ (own_rs PT c 1) i hi) ?_
  refine St_mono hB ?_
  refine read_step (here) (acc_rsAll 1 0 rfl _) (read_rs 1 0 rfl _ _) ?_
  refine read_step (here) (acc_rsAll 1 1 rfl _) (read_rs 1 1 rfl _ _) ?_
  exact ret_step h

/-- The second half summed. -/
theorem run27 {Q}  {v2 : BitVec 32} {f : S2x16x512.Idx → Elt F .bf16}
    (hRD : RD c = RED g)
    (h : St PT RD κ c l iprop(rsAll c 1 g ∗ pt c (redM 1) fullShare (RD c) ∗ T) ⊢ Q (k0_pay28 (half (RD c) 1))) :
    St PT RD κ c l iprop(rsAll c 1 g ∗ pt c (redM 1) fullShare f ∗ T) ⊢ wpc c (ap k0_part27 v2 (k0_pay26 (slot g 1 0) (slot g 1 1))) Q := by
  rw [k0_part27_eq_skeleton]; unfold k0_part27_skel ap
  simp only [Prog.bind_lift]
  refine read_step (here) (acc_rsAll 1 2 rfl _) (read_rs 1 2 rfl _ _) ?_
  refine read_step (here) (acc_rsAll 1 3 rfl _) (read_rs 1 3 rfl _ _) ?_
  refine read_step (here) (acc_rsAll 1 4 rfl _) (read_rs 1 4 rfl _ _) ?_
  refine read_step (here) (acc_rsAll 1 5 rfl _) (read_rs 1 5 rfl _ _) ?_
  refine read_step (here) (acc_rsAll 1 6 rfl _) (read_rs 1 6 rfl _ _) ?_
  refine read_step (here) (acc_rsAll 1 7 rfl _) (read_rs 1 7 rfl _ _) ?_
  refine load_step (next here) (acc_red 1 rfl _) ?_
  refine store_step (next here) (acc_red 1 rfl _) (fun i hi => write_red 1 rfl _ _ (RD c) _ (fun a b => by rw [hRD, red_one]; rfl) i hi) ?_
  refine read_step (next here) (acc_red 1 rfl _) (read_red 1 rfl _ _) ?_
  exact ret_step h

/-- The second half put into its own slot; sent twice. -/
theorem run28 {Q}  {v2 : BitVec 32} {f : S2x8x16x512.Idx → Elt F .bf16}
    (hB : iprop(pt c (agM 1 c) fullShare (AG RD) ∗ T) ⊢ iprop((sendRes PT RD c 1 1 0 ∗ sendRes PT RD c 1 1 1 ∗ T') ∗ D ∗ R))
    (h : ∀ r, St PT RD κ c l iprop(T' ∗ (sent c 1 1 1 ∗ sent c 1 1 0 ∗ D) ∗ R) ⊢ Q r) :
    St PT RD κ c (.send 1 1 0 :: .send 1 1 1 :: l) iprop(pt c (agM 1 c) fullShare f ∗ T) ⊢ wpc c (ap k0_part28 c v2 (k0_pay28 (half (RD c) 1))) Q := by
  rw [k0_part28_eq_skeleton]; unfold k0_part28_skel ap
  simp only [Prog.bind_lift]
  refine load_step here (acc_ag 1 c (k0_off12_eq c) _) ?_
  refine store_step here (acc_ag 1 c (k0_off12_eq c) _) (fun i hi => write_ag 1 c (k0_off12_eq c) _ _ _ _ (own_ag RD c 1) i hi) ?_
  refine St_mono hB ?_
  refine send1_step 1 0 (Fin.ext (k0_dev29_eq c)) (name_red 1 rfl _ _ _) (name_ag 1 c (k0_off5_eq c) _ _ _) (sem_send1 1 0 rfl _ _) (sem_recv1 1 c (k0_off4_eq c) _ _) ?_
  refine send1_step 1 1 (Fin.ext (k0_dev30_eq c)) (name_red 1 rfl _ _ _) (name_ag 1 c (k0_off5_eq c) _ _ _) (sem_send1 1 1 rfl _ _) (sem_recv1 1 c (k0_off4_eq c) _ _) ?_
  exact ret_step (h _)

/-- The second half sent to the last; summed halves received. -/
theorem run31 {Q} {v2 : BitVec 32}
    (hl : ∀ x ∈ l, 3 < x.lev)
    (hA : iprop(T ∗ (sent c 1 1 6 ∗ D) ∗ R) ⊢ iprop((waitRes c (recvJ 1 0 (peer c 0)) ∗ waitRes c (recvJ 1 0 (peer c 1)) ∗ T') ∗ D' ∗ R'))
    (h : ∀ r, St PT RD κ c l iprop(T' ∗ (waitGot PT RD c (recvJ 1 0 (peer c 1)) ∗ waitGot PT RD c (recvJ 1 0 (peer c 0)) ∗ D') ∗ R') ⊢ Q r) :
    St PT RD κ c (.send 1 1 6 :: l) iprop((sendRes PT RD c 1 1 6 ∗ T) ∗ D ∗ R) ⊢ wpc c (ap k0_part31 c v2) Q := by
  rw [k0_part31_eq_skeleton]; unfold k0_part31_skel ap
  simp only [Prog.bind_lift]
  refine send1_step 1 6 (Fin.ext (k0_dev35_eq c)) (name_red 1 rfl _ _ _) (name_ag 1 c (k0_off5_eq c) _ _ _) (sem_send1 1 6 rfl _ _) (sem_recv1 1 c (k0_off4_eq c) _ _) ?_
  refine St_mono hA ?_
  refine wait_recv1 0 0 (sem_recv1 0 (peer c 0) (k0_off6_eq c 0) _ _) (name_ag 0 (peer c 0) (k0_off7_eq c 0) _ _ _) hl ?_
  refine wait_recv1 0 1 (sem_recv1 0 (peer c 1) (k0_off6_eq c 1) _ _) (name_ag 0 (peer c 1) (k0_off7_eq c 1) _ _ _) hl ?_
  exact ret_step (h _)

/-- The last summed halves received; the first rows of the result written. -/
theorem run36 {Q} {v2 : BitVec 32} {v1041 : BitVec 32}
    (hl : ∀ x ∈ l, 3 < x.lev)
    (hB : iprop(T ∗ (waitGot PT RD c (recvJ 1 1 (peer c 6)) ∗ waitGot PT RD c (recvJ 1 1 (peer c 5)) ∗ D) ∗ R) ⊢ iprop(agAll c g ∗ outMem c (outTill g f0 0) ∗ U))
    (h : ∀ r, St PT RD κ c l iprop(agAll c g ∗ outMem c (outTill g f0 1) ∗ U) ⊢ Q r) :
    St PT RD κ c l iprop((waitRes c (recvJ 1 1 (peer c 5)) ∗ waitRes c (recvJ 1 1 (peer c 6)) ∗ T) ∗ D ∗ R) ⊢ wpc c (ap k0_part36 c v2 v1041) Q := by
  rw [k0_part36_eq_skeleton]; unfold k0_part36_skel ap
  simp only [Prog.bind_lift]
  refine wait_recv1 1 5 (sem_recv1 1 (peer c 5) (k0_off10_eq c 5) _ _) (name_ag 1 (peer c 5) (k0_off11_eq c 5) _ _ _) hl ?_
  refine wait_recv1 1 6 (sem_recv1 1 (peer c 6) (k0_off10_eq c 6) _ _) (name_ag 1 (peer c 6) (k0_off11_eq c 6) _ _ _) hl ?_
  refine St_mono hB ?_
  refine read_step (here) (Finset.subset_univ _) (read_ag 0 0 rfl _ _) ?_
  refine load_step (next here) (Finset.subset_univ _) ?_
  refine store_step (next here) (Finset.subset_univ _) (fun i _ => write_out 0 0 0 rfl rfl _ g f0 _ rfl i) ?_
  exact ret_step (h _)

/-- Rows of the result written. -/
theorem run37 {Q}
    (h : St PT RD κ c l iprop(agAll c g ∗ outMem c (outTill g f0 5) ∗ T) ⊢ Q (k0_pay35 (slot g 1 2))) :
    St PT RD κ c l iprop(agAll c g ∗ outMem c (outTill g f0 1) ∗ T) ⊢ wpc c (ap k0_part37) Q := by
  rw [k0_part37_eq_skeleton]; unfold k0_part37_skel ap
  simp only [Prog.bind_lift]
  refine read_step (here) (Finset.subset_univ _) (read_ag 1 0 rfl _ _) ?_
  refine load_step (next here) (Finset.subset_univ _) ?_
  refine store_step (next here) (Finset.subset_univ _) (fun i _ => write_out 1 1 0 rfl rfl _ g f0 _ rfl i) ?_
  refine read_step (here) (Finset.subset_univ _) (read_ag 0 1 rfl _ _) ?_
  refine load_step (next here) (Finset.subset_univ _) ?_
  refine store_step (next here) (Finset.subset_univ _) (fun i _ => write_out 2 0 1 rfl rfl _ g f0 _ rfl i) ?_
  refine read_step (here) (Finset.subset_univ _) (read_ag 1 1 rfl _ _) ?_
  refine load_step (next here) (Finset.subset_univ _) ?_
  refine store_step (next here) (Finset.subset_univ _) (fun i _ => write_out 3 1 1 rfl rfl _ g f0 _ rfl i) ?_
  refine read_step (here) (Finset.subset_univ _) (read_ag 0 2 rfl _ _) ?_
  refine load_step (next here) (Finset.subset_univ _) ?_
  refine store_step (next here) (Finset.subset_univ _) (fun i _ => write_out 4 0 2 rfl rfl _ g f0 _ rfl i) ?_
  refine read_step (here) (Finset.subset_univ _) (read_ag 1 2 rfl _ _) ?_
  exact ret_step h

/-- Rows of the result written. -/
theorem run38 {Q}
    (h : St PT RD κ c l iprop(agAll c g ∗ outMem c (outTill g f0 9) ∗ T) ⊢ Q (k0_pay40 (slot g 1 4))) :
    St PT RD κ c l iprop(agAll c g ∗ outMem c (outTill g f0 5) ∗ T) ⊢ wpc c (ap k0_part38 (k0_pay35 (slot g 1 2))) Q := by
  rw [k0_part38_eq_skeleton]; unfold k0_part38_skel ap
  simp only [Prog.bind_lift]
  refine load_step (next here) (Finset.subset_univ _) ?_
  refine store_step (next here) (Finset.subset_univ _) (fun i _ => write_out 5 1 2 rfl rfl _ g f0 _ rfl i) ?_
  refine read_step (here) (Finset.subset_univ _) (read_ag 0 3 rfl _ _) ?_
  refine load_step (next here) (Finset.subset_univ _) ?_
  refine store_step (next here) (Finset.subset_univ _) (fun i _ => write_out 6 0 3 rfl rfl _ g f0 _ rfl i) ?_
  refine read_step (here) (Finset.subset_univ _) (read_ag 1 3 rfl _ _) ?_
  refine load_step (next here) (Finset.subset_univ _) ?_
  refine store_step (next here) (Finset.subset_univ _) (fun i _ => write_out 7 1 3 rfl rfl _ g f0 _ rfl i) ?_
  refine read_step (here) (Finset.subset_univ _) (read_ag 0 4 rfl _ _) ?_
  refine load_step (next here) (Finset.subset_univ _) ?_
  refine store_step (next here) (Finset.subset_univ _) (fun i _ => write_out 8 0 4 rfl rfl _ g f0 _ rfl i) ?_
  refine read_step (here) (Finset.subset_univ _) (read_ag 1 4 rfl _ _) ?_
  exact ret_step h

/-- Rows of the result written. -/
theorem run39 {Q}
    (h : ∀ r, St PT RD κ c l iprop(agAll c g ∗ outMem c (outTill g f0 14) ∗ T) ⊢ Q r) :
    St PT RD κ c l iprop(agAll c g ∗ outMem c (outTill g f0 9) ∗ T) ⊢ wpc c (ap k0_part39 (k0_pay40 (slot g 1 4))) Q := by
  rw [k0_part39_eq_skeleton]; unfold k0_part39_skel ap
  simp only [Prog.bind_lift]
  refine load_step (next here) (Finset.subset_univ _) ?_
  refine store_step (next here) (Finset.subset_univ _) (fun i _ => write_out 9 1 4 rfl rfl _ g f0 _ rfl i) ?_
  refine read_step (here) (Finset.subset_univ _) (read_ag 0 5 rfl _ _) ?_
  refine load_step (next here) (Finset.subset_univ _) ?_
  refine store_step (next here) (Finset.subset_univ _) (fun i _ => write_out 10 0 5 rfl rfl _ g f0 _ rfl i) ?_
  refine read_step (here) (Finset.subset_univ _) (read_ag 1 5 rfl _ _) ?_
  refine load_step (next here) (Finset.subset_univ _) ?_
  refine store_step (next here) (Finset.subset_univ _) (fun i _ => write_out 11 1 5 rfl rfl _ g f0 _ rfl i) ?_
  refine read_step (here) (Finset.subset_univ _) (read_ag 0 6 rfl _ _) ?_
  refine load_step (next here) (Finset.subset_univ _) ?_
  refine store_step (next here) (Finset.subset_univ _) (fun i _ => write_out 12 0 6 rfl rfl _ g f0 _ rfl i) ?_
  refine read_step (here) (Finset.subset_univ _) (read_ag 1 6 rfl _ _) ?_
  refine load_step (next here) (Finset.subset_univ _) ?_
  refine store_step (next here) (Finset.subset_univ _) (fun i _ => write_out 13 1 6 rfl rfl _ g f0 _ rfl i) ?_
  exact ret_step (h _)

/-- The result is written; transfers of its own awaited. -/
theorem run40 {Q}
    (hl : ∀ x ∈ l, 0 < x.lev)
    (hB : iprop(agAll c g ∗ outMem c (outTill g f0 16) ∗ T) ⊢ iprop((waitRes c (sendJ 0 0 0) ∗ waitRes c (sendJ 0 0 1) ∗ T') ∗ D ∗ R))
    (h : ∀ r, St PT RD κ c l iprop(T' ∗ (waitGot PT RD c (sendJ 0 0 1) ∗ waitGot PT RD c (sendJ 0 0 0) ∗ D) ∗ R) ⊢ Q r) :
    St PT RD κ c l iprop(agAll c g ∗ outMem c (outTill g f0 14) ∗ T) ⊢ wpc c (ap k0_part40 c) Q := by
  rw [k0_part40_eq_skeleton]; unfold k0_part40_skel ap
  simp only [Prog.bind_lift]
  refine read_step (here) (Finset.subset_univ _) (read_ag 0 7 rfl _ _) ?_
  refine load_step (next here) (Finset.subset_univ _) ?_
  refine store_step (next here) (Finset.subset_univ _) (fun i _ => write_out 14 0 7 rfl rfl _ g f0 _ rfl i) ?_
  refine read_step (here) (Finset.subset_univ _) (read_ag 1 7 rfl _ _) ?_
  refine load_step (next here) (Finset.subset_univ _) ?_
  refine store_step (next here) (Finset.subset_univ _) (fun i _ => write_out 15 1 7 rfl rfl _ g f0 _ rfl i) ?_
  refine St_mono hB ?_
  refine wait_send0 0 0 (sem_send0 0 0 rfl _ _) (name_part (peer c 0) 0 (k0_off3_eq c 0 0) _ _) hl ?_
  refine wait_send0 0 1 (sem_send0 0 1 rfl _ _) (name_part (peer c 1) 0 (k0_off3_eq c 1 0) _ _) hl ?_
  exact ret_step (h _)

end

end Cert.KernelIdeal.Talk
-- ==== Proof.Bundles.lean ====
module

public import proofs.«01_k».proof.Proof.Sums
public import Idealize.ShloMosaic.Lib.Ring

/-! Families over the seven peers, and each buffer as the pieces the exchange hands about. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

instance sepComm : _root_.Std.Commutative (α := sProp (MT nD τ sig Unit (Elt F) ℕ UU ℕ)) BIBase.sep :=
  ⟨fun _ _ => equiv_iff.mp ⟨BI.sep_comm, BI.sep_comm⟩⟩

instance sepAssoc : _root_.Std.Associative (α := sProp (MT nD τ sig Unit (Elt F) ℕ UU ℕ)) BIBase.sep :=
  ⟨fun _ _ _ => equiv_iff.mp ⟨BI.sep_assoc, BI.sep_assoc'⟩⟩

theorem sep_emp' (P : sProp 𝕄) : iprop(P ∗ emp) = P := equiv_iff.mp BI.sep_emp

theorem emp_sep' (P : sProp 𝕄) : iprop(emp ∗ P) = P := equiv_iff.mp BI.emp_sep

/-- One thing for each of the seven peers. -/
def fam (Φ : Fin 7 → sProp 𝕄) : sProp 𝕄 := bigSep Finset.univ Φ

theorem fam_eq (Φ : Fin 7 → sProp 𝕄) : fam Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fam_sep (Φ Ψ : Fin 7 → sProp 𝕄) : fam (fun k => iprop(Φ k ∗ Ψ k)) = iprop(fam Φ ∗ fam Ψ) :=
  bigSep_sep' Finset.univ Φ Ψ

theorem fam_congr {Φ Ψ : Fin 7 → sProp 𝕄} (h : ∀ k, Φ k = Ψ k) : fam Φ = fam Ψ := by
  rw [show Φ = Ψ from funext h]

/-- Seven in a row, in order, are the family. -/
theorem fw (Φ : Fin 7 → sProp 𝕄) (X : sProp 𝕄) :
    iprop(Φ 0 ∗ Φ 1 ∗ Φ 2 ∗ Φ 3 ∗ Φ 4 ∗ Φ 5 ∗ Φ 6 ∗ X) = iprop(fam Φ ∗ X) := by
  rw [fam_eq]; ac_rfl

/-- Seven in a row, last first, are the family. -/
theorem bw (Φ : Fin 7 → sProp 𝕄) (X : sProp 𝕄) :
    iprop(Φ 6 ∗ Φ 5 ∗ Φ 4 ∗ Φ 3 ∗ Φ 2 ∗ Φ 1 ∗ Φ 0 ∗ X) = iprop(fam Φ ∗ X) := by
  rw [fam_eq]; ac_rfl

/-! ## The devices but one are its peers -/

theorem erase_eq (c : Dev nD) : Finset.univ.erase c = Finset.univ.map ⟨peer c, peer_inj c⟩ := by
  ext d
  simp only [Finset.mem_erase, Finset.mem_univ, and_true, Finset.mem_map, true_and, Function.Embedding.coeFn_mk]
  exact ⟨peer_surj c d, fun ⟨k, h⟩ => h ▸ peer_ne c k⟩

theorem others_eq (c : Dev nD) (Φ : Dev nD → sProp 𝕄) :
    bigSep (Finset.univ.erase c) Φ = fam fun k => Φ (peer c k) := by
  rw [erase_eq, bigSep_map]; rfl

theorem dev_split (c : Dev nD) (Φ : Dev nD → sProp 𝕄) :
    bigSep Finset.univ Φ = iprop(Φ c ∗ fam fun k => Φ (peer c k)) := by
  rw [bigSep_univ_at Φ c, others_eq]

/-! ## The families of the exchange -/

section
variable (PT RD)
variable (c : Dev nD) (φ t : Fin 2)

/-- Over the peers: rights to send. -/
def Tok : sProp 𝕄 := fam fun k => sendTok (F := F) c φ t k

/-- Over the peers: places to send to. -/
def To : sProp 𝕄 := fam fun k => sendTo (F := F) c φ t k

/-- Over the peers: what is sent. -/
def Pay : sProp 𝕄 := fam fun k => sendPay PT RD c φ t k

/-- Over the peers: what sending takes. -/
def Res : sProp 𝕄 := fam fun k => sendRes PT RD c φ t k

/-- Over the peers: what sending earns. -/
def Snt : sProp 𝕄 := fam fun k => sent (F := F) c φ t k

/-- Over the peers: what awaiting the arrivals takes. -/
def Wr : sProp 𝕄 := fam fun k => waitRes (F := F) c (recvJ φ t (peer c k))

/-- Over the peers: what awaiting the arrivals gives. -/
def Gr : sProp 𝕄 := fam fun k => waitGot PT RD c (recvJ φ t (peer c k))

/-- Over the peers: the receive semaphores, past their round. -/
def Ar : sProp 𝕄 := fam fun k => atPos ER (cel c (recvJ φ t (peer c k))) 1 ∅ 0

/-- Over the peers: what arrives. -/
def Pr : sProp 𝕄 := fam fun k => recvPay PT RD c φ t (peer c k)

/-- Over the peers: the send semaphores, in their round. -/
def As : sProp 𝕄 := fam fun k => atPos ER (cel c (sendJ φ t k)) 0 ∅ 0

/-- Over the peers: what awaiting the departures takes. -/
def Ws : sProp 𝕄 := fam fun k => waitRes (F := F) c (sendJ φ t k)

/-- Over the peers: what awaiting the departures gives. -/
def Gs : sProp 𝕄 := fam fun k => waitGot PT RD c (sendJ φ t k)

/-- Over the peers: the send semaphores, past their round. -/
def Ad : sProp 𝕄 := fam fun k => atPos ER (cel c (sendJ φ t k)) 1 ∅ 0
end

section
variable (X : sProp (MT nD τ sig Unit (Elt F) ℕ UU ℕ)) (φ t : Fin 2)

theorem res_eq : Res PT RD c φ t = iprop(Tok c φ t ∗ To c φ t ∗ Pay PT RD c φ t) := by
  unfold Res sendRes
  rw [fam_sep, fam_sep]; rfl

theorem gr_eq : Gr PT RD c φ t = iprop(Ar c φ t ∗ Pr PT RD c φ t) := by
  unfold Gr
  rw [fam_congr fun k => gotRecv_eq φ t (peer c k), fam_sep]; rfl

theorem ws_eq : Ws (F := F) c φ t = iprop(Snt c φ t ∗ As c φ t) := by
  unfold Ws waitRes
  rw [fam_sep]; rfl

theorem gs_eq : Gs PT RD c φ t = iprop(Ad c φ t ∗ Pay PT RD c φ t) := by
  unfold Gs
  rw [fam_congr fun k => gotSend_eq φ t k, fam_sep]; rfl

theorem res_fw : iprop(sendRes PT RD c φ t 0 ∗ sendRes PT RD c φ t 1 ∗ sendRes PT RD c φ t 2 ∗ sendRes PT RD c φ t 3 ∗ sendRes PT RD c φ t 4 ∗ sendRes PT RD c φ t 5 ∗ sendRes PT RD c φ t 6 ∗ X) = iprop(Res PT RD c φ t ∗ X) :=
  fw (fun k => sendRes PT RD c φ t k) X

theorem snt_bw : iprop(sent c φ t 6 ∗ sent c φ t 5 ∗ sent c φ t 4 ∗ sent c φ t 3 ∗ sent c φ t 2 ∗ sent c φ t 1 ∗ sent c φ t 0 ∗ X) = iprop(Snt c φ t ∗ X) :=
  bw (fun k => sent c φ t k) X

theorem wr_fw : iprop(waitRes c (recvJ φ t (peer c 0)) ∗ waitRes c (recvJ φ t (peer c 1)) ∗ waitRes c (recvJ φ t (peer c 2)) ∗ waitRes c (recvJ φ t (peer c 3)) ∗ waitRes c (recvJ φ t (peer c 4)) ∗ waitRes c (recvJ φ t (peer c 5)) ∗ waitRes c (recvJ φ t (peer c 6)) ∗ X) = iprop(Wr c φ t ∗ X) :=
  fw (fun k => waitRes c (recvJ φ t (peer c k))) X

theorem gr_bw : iprop(waitGot PT RD c (recvJ φ t (peer c 6)) ∗ waitGot PT RD c (recvJ φ t (peer c 5)) ∗ waitGot PT RD c (recvJ φ t (peer c 4)) ∗ waitGot PT RD c (recvJ φ t (peer c 3)) ∗ waitGot PT RD c (recvJ φ t (peer c 2)) ∗ waitGot PT RD c (recvJ φ t (peer c 1)) ∗ waitGot PT RD c (recvJ φ t (peer c 0)) ∗ X) = iprop(Gr PT RD c φ t ∗ X) :=
  bw (fun k => waitGot PT RD c (recvJ φ t (peer c k))) X

theorem ws_fw : iprop(waitRes c (sendJ φ t 0) ∗ waitRes c (sendJ φ t 1) ∗ waitRes c (sendJ φ t 2) ∗ waitRes c (sendJ φ t 3) ∗ waitRes c (sendJ φ t 4) ∗ waitRes c (sendJ φ t 5) ∗ waitRes c (sendJ φ t 6) ∗ X) = iprop(Ws c φ t ∗ X) :=
  fw (fun k => waitRes c (sendJ φ t k)) X

theorem gs_bw : iprop(waitGot PT RD c (sendJ φ t 6) ∗ waitGot PT RD c (sendJ φ t 5) ∗ waitGot PT RD c (sendJ φ t 4) ∗ waitGot PT RD c (sendJ φ t 3) ∗ waitGot PT RD c (sendJ φ t 2) ∗ waitGot PT RD c (sendJ φ t 1) ∗ waitGot PT RD c (sendJ φ t 0) ∗ X) = iprop(Gs PT RD c φ t ∗ X) :=
  bw (fun k => waitGot PT RD c (sendJ φ t k)) X
end

/-! ## Buffers in pieces -/

theorem part_split (c : Dev nD) (f : S256x512.Idx → Elt F .bf16) :
    (partMem c f : sProp 𝕄) = iprop((fam fun k => pt c (partM (peer c k) 0) fullShare f) ∗ (fam fun k => pt c (partM (peer c k) 1) fullShare f)
      ∗ pt c (partM c 0) fullShare f ∗ pt c (partM c 1) fullShare f) := by
  have h := Ring.pointsTo_blocks (Ix := Unit) (Val := Elt F) (Name := ℕ) (U := UU) (Lvl := ℕ) (ℓ := (c : Thread nD τ).loc cc0_scratch0) (q := fullShare)
    (fun x : Dev nD × Fin 2 => ((partM x.1 x.2).view.set : Finset S256x512.Idx))
    (fun x y hxy => Finset.disjoint_left.mpr fun i hx hy => by
      rw [mem_part] at hx hy
      refine hxy (Prod.ext (Fin.ext ?_) (Fin.ext ?_)) <;> have := x.2.isLt <;> have := y.2.isLt <;> omega)
    (Finset.eq_univ_of_forall fun i => Finset.mem_biUnion.mpr
      ⟨(⟨(i 0).val / 32, by have : (i 0).val < 256 := (i 0).isLt; show _ < 8; omega⟩, ⟨(i 0).val / 16 % 2, by omega⟩), Finset.mem_univ _, by
        rw [mem_part]; dsimp only; omega⟩) f
  rw [show (partMem c f : sProp 𝕄) = _ from h, bigSep_univ_prod]
  simp only [bigSep_univ_two]
  rw [bigSep_sep', dev_split c, dev_split c]
  exact (by ac_rfl : iprop(((pt c (partM c 0) fullShare f : sProp 𝕄) ∗ (fam fun k => pt c (partM (peer c k) 0) fullShare f)) ∗ pt c (partM c 1) fullShare f ∗ (fam fun k => pt c (partM (peer c k) 1) fullShare f)) = _)

theorem rs_split (c : Dev nD) (t : Fin 2) (f : S2x8x16x512.Idx → Elt F .bf16) :
    (rsAll c t f : sProp 𝕄) = iprop((fam fun k => pt c (rsM t (peer c k)) fullShare f) ∗ pt c (rsM t c) fullShare f) := by
  have h := pointsTo_biUnion (Ix := Unit) (Val := Elt F) (Name := ℕ) (U := UU) (Lvl := ℕ) (ℓ := (c : Thread nD τ).loc cc0_scratch1) (q := fullShare) (f := f)
    Finset.univ (fun o : Dev nD => ((rsM t o).view.set : Finset S2x8x16x512.Idx))
    (fun x _ y _ hxy => Finset.disjoint_left.mpr fun i hx hy => by
      rw [mem_rs] at hx hy
      exact hxy (Fin.ext (hx.2.symm.trans hy.2)))
  have h' : (rsAll c t f : sProp 𝕄) = _ := (congrArg (fun S : Finset S2x8x16x512.Idx => ((c : Thread nD τ).loc cc0_scratch1 ↦[S]{fullShare} f : sProp 𝕄))
    (Finset.ext fun i => by
      simp only [Finset.mem_biUnion, Finset.mem_univ, true_and, Finset.mem_filter]
      exact ⟨fun hi => ⟨i 1, (mem_rs t (i 1) i).mpr ⟨hi, rfl⟩⟩, fun ⟨o, ho⟩ => ((mem_rs t o i).mp ho).1⟩)).trans h
  rw [h', dev_split c]
  exact (by ac_rfl : iprop((pt c (rsM t c) fullShare f : sProp 𝕄) ∗ (fam fun k => pt c (rsM t (peer c k)) fullShare f)) = _)

theorem ag_split (c : Dev nD) (f : S2x8x16x512.Idx → Elt F .bf16) :
    (agAll c f : sProp 𝕄) = iprop((fam fun k => pt c (agM 0 (peer c k)) fullShare f) ∗ (fam fun k => pt c (agM 1 (peer c k)) fullShare f)
      ∗ pt c (agM 0 c) fullShare f ∗ pt c (agM 1 c) fullShare f) := by
  have h := Ring.pointsTo_blocks (Ix := Unit) (Val := Elt F) (Name := ℕ) (U := UU) (Lvl := ℕ) (ℓ := (c : Thread nD τ).loc cc0_scratch3) (q := fullShare)
    (fun x : Dev nD × Fin 2 => ((agM x.2 x.1).view.set : Finset S2x8x16x512.Idx))
    (fun x y hxy => Finset.disjoint_left.mpr fun i hx hy => by
      rw [mem_ag] at hx hy
      exact hxy (Prod.ext (Fin.ext (hx.2.symm.trans hy.2)) (Fin.ext (hx.1.symm.trans hy.1))))
    (Finset.eq_univ_of_forall fun i => Finset.mem_biUnion.mpr
      ⟨((i 1 : Fin 8), (i 0 : Fin 2)), Finset.mem_univ _, (mem_ag _ _ i).mpr ⟨rfl, rfl⟩⟩) f
  rw [show (agAll c f : sProp 𝕄) = _ from h, bigSep_univ_prod]
  simp only [bigSep_univ_two]
  rw [bigSep_sep', dev_split c, dev_split c]
  exact (by ac_rfl : iprop(((pt c (agM 0 c) fullShare f : sProp 𝕄) ∗ (fam fun k => pt c (agM 0 (peer c k)) fullShare f)) ∗ pt c (agM 1 c) fullShare f ∗ (fam fun k => pt c (agM 1 (peer c k)) fullShare f)) = _)

/-- The two halves of a buffer of two halves. -/
theorem rs_halves (c : Dev nD) (f : S2x8x16x512.Idx → Elt F .bf16) :
    ((c : Thread nD τ).loc cc0_scratch1 ↦{fullShare} f : sProp 𝕄) = iprop(rsAll c 0 f ∗ rsAll c 1 f) := by
  have h := Ring.pointsTo_blocks (Ix := Unit) (Val := Elt F) (Name := ℕ) (U := UU) (Lvl := ℕ) (ℓ := (c : Thread nD τ).loc cc0_scratch1) (q := fullShare)
    (fun t : Fin 2 => (Finset.univ.filter fun i : S2x8x16x512.Idx => (i 0).val = t.val))
    (fun x y hxy => Finset.disjoint_left.mpr fun i hx hy =>
      hxy (Fin.ext ((Finset.mem_filter.mp hx).2.symm.trans (Finset.mem_filter.mp hy).2)))
    (Finset.eq_univ_of_forall fun i => Finset.mem_biUnion.mpr
      ⟨(i 0 : Fin 2), Finset.mem_univ _, Finset.mem_filter.mpr ⟨Finset.mem_univ _, rfl⟩⟩) f
  rw [h, bigSep_univ_two]

theorem red_halves (c : Dev nD) (f : S2x16x512.Idx → Elt F .bf16) :
    ((c : Thread nD τ).loc cc0_scratch2 ↦{fullShare} f : sProp 𝕄) = iprop(pt c (redM 0) fullShare f ∗ pt c (redM 1) fullShare f) := by
  have h := Ring.pointsTo_blocks (Ix := Unit) (Val := Elt F) (Name := ℕ) (U := UU) (Lvl := ℕ) (ℓ := (c : Thread nD τ).loc cc0_scratch2) (q := fullShare)
    (fun t : Fin 2 => ((redM t).view.set : Finset S2x16x512.Idx))
    (fun x y hxy => Finset.disjoint_left.mpr fun i hx hy =>
      hxy (Fin.ext (((mem_red x i).mp hx).symm.trans ((mem_red y i).mp hy))))
    (Finset.eq_univ_of_forall fun i => Finset.mem_biUnion.mpr
      ⟨(i 0 : Fin 2), Finset.mem_univ _, (mem_red _ i).mpr rfl⟩) f
  rw [h, bigSep_univ_two]

/-! ## The pieces as what is sent and what arrives -/

theorem pay0 (c : Dev nD) :
    (partMem c (PT c) : sProp 𝕄) = iprop(Pay PT RD c 0 0 ∗ Pay PT RD c 0 1 ∗ pt c (partM c 0) fullShare (PT c) ∗ pt c (partM c 1) fullShare (PT c)) :=
  part_split c (PT c)

theorem arrive0 (c : Dev nD) (t : Fin 2) :
    (rsAll c t (RS PT c) : sProp 𝕄) = iprop(Pr PT RD c 0 t ∗ pt c (rsM t c) fullShare (RS PT c)) :=
  rs_split c t _

theorem arrive1 (c : Dev nD) :
    (agAll c (AG RD) : sProp 𝕄) = iprop(Pr PT RD c 1 0 ∗ Pr PT RD c 1 1 ∗ pt c (agM 0 c) fullShare (AG RD) ∗ pt c (agM 1 c) fullShare (AG RD)) :=
  ag_split c _

theorem pay1 (c : Dev nD) (t : Fin 2) : (pt c (redM t) fullShare (RD c) : sProp 𝕄) = Pay PT RD c 1 t :=
  Transfers.pointsTo_deal (Finset.univ : Finset (Fin 7)) ⟨0, Finset.mem_univ _⟩ fullShare

/-- What the barrier hands over: a slot of each kind on each of the peers. -/
theorem bar_split (c : Dev nD) : bigSep (Finset.univ.erase c) (fun d => barPay (F := F) d c) = iprop(To c 0 0 ∗ To c 0 1 ∗ To c 1 0 ∗ To c 1 1) := by
  have h (t : Fin 2) : (fam fun k => slotGive (F := F) (peer c k) c t) = iprop(To c 0 t ∗ To c 1 t) := by
    unfold slotGive
    rw [fam_sep]; rfl
  rw [others_eq]
  unfold barPay
  rw [fam_sep, h, h]
  exact (by ac_rfl : iprop((To (F := F) c 0 0 ∗ To c 1 0) ∗ To c 0 1 ∗ To c 1 1) = _)

theorem outTill_all (f : S2x8x16x512.Idx → Elt F .bf16) (f0 : S2x128x512.Idx → Elt F .f32) : outTill f f0 16 = OUT f :=
  funext fun i => if_pos (by have : (i 0).val < 2 := (i 0).isLt; have : (i 1).val < 128 := (i 1).isLt; omega)

end Cert.KernelIdeal.Talk
-- ==== Proof.Body.lean ====
module

public import proofs.«01_k».proof.Proof.Bundles

/-! The whole body on one device: what it takes, and what it leaves. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

variable {I : In F} {K : sProp (MT nD τ sig Unit (Elt F) ℕ UU ℕ)} {f : S256x512.Idx → Elt F .bf16} {fr fa : S2x8x16x512.Idx → Elt F .bf16}
  {fd : S2x16x512.Idx → Elt F .bf16} {fo : S2x128x512.Idx → Elt F .f32}

/-- What a device owes as the body starts: a signal to each peer, and its four times seven transfers. -/
abbrev owed : List Item := [.bar 0, .bar 1, .bar 2, .bar 3, .bar 4, .bar 5, .bar 6, .send 0 0 0, .send 0 0 1, .send 0 0 2, .send 0 0 3, .send 0 0 4, .send 0 0 5, .send 0 0 6, .send 0 1 0, .send 0 1 1, .send 0 1 2, .send 0 1 3, .send 0 1 4, .send 0 1 5, .send 0 1 6, .send 1 0 0, .send 1 0 1, .send 1 0 2, .send 1 0 3, .send 1 0 4, .send 1 0 5, .send 1 0 6, .send 1 1 0, .send 1 1 1, .send 1 1 2, .send 1 1 3, .send 1 1 4, .send 1 1 5, .send 1 1 6]

variable (c I K f fr fa fd fo) in
/-- What the body takes. -/
def Start : sProp 𝕄 :=
  iprop(barRes c 0 ∗ barRes c 1 ∗ barRes c 2 ∗ barRes c 3 ∗ barRes c 4 ∗ barRes c 5 ∗ barRes c 6 ∗ inMem c I ∗ partMem c f ∗ (cred (tallyAt (barCel c) () 7) ∗ atPos ER (barCel c) 0 ∅ 0) ∗ Tok c 0 0 ∗ Tok c 0 1 ∗ Tok c 1 0 ∗ Tok c 1 1 ∗ Wr c 0 0 ∗ Wr c 0 1 ∗ Wr c 1 0 ∗ Wr c 1 1 ∗ As c 0 0 ∗ As c 0 1 ∗ As c 1 0 ∗ As c 1 1 ∗ pt c (rsM 0 c) fullShare fr ∗ pt c (rsM 1 c) fullShare fr ∗ pt c (agM 0 c) fullShare fa ∗ pt c (agM 1 c) fullShare fa ∗ pt c (redM 0) fullShare fd ∗ pt c (redM 1) fullShare fd ∗ outMem c fo ∗ K)

variable (PT RD c I K) in
/-- What the body leaves. -/
def Finish : sProp 𝕄 :=
  iprop(inMem c I ∗ partMem c (PT c) ∗ rsAll c 0 (RS PT c) ∗ rsAll c 1 (RS PT c) ∗ pt c (redM 0) fullShare (RD c) ∗ pt c (redM 1) fullShare (RD c) ∗ agAll c (AG RD) ∗ outMem c (OUT (AG RD)) ∗ atPos ER (barCel c) 1 ∅ 0 ∗ Ar c 0 0 ∗ Ar c 0 1 ∗ Ar c 1 0 ∗ Ar c 1 1 ∗ Ad c 0 0 ∗ Ad c 0 1 ∗ Ad c 1 0 ∗ Ad c 1 1 ∗ K)

theorem bind_step {α β : Type} {P : sProp 𝕄} {p : Prog (TpuEff nD τ sig (Elt F) Λ₀ .tc) α}
    {k : α → Prog (TpuEff nD τ sig (Elt F) Λ₀ .tc) β} {Q : β → sProp 𝕄}
    (h : P ⊢ wpc c p fun a => wpc c (k a) Q) : P ⊢ wpc c (p >>= k) Q := by
  unfold wpc; rw [wp_bind]; exact h

theorem outTill_zero (g : S2x8x16x512.Idx → Elt F .bf16) (f0 : S2x128x512.Idx → Elt F .f32) : outTill g f0 0 = f0 :=
  funext fun i => if_neg (Nat.not_lt_zero _)

/-! ## The states between the phases, regrouped -/

/-- Before the barrier. -/
theorem to_barrier :
    iprop(inMem c I ∗ partMem c (PT c) ∗ (cred (tallyAt (barCel c) () 7) ∗ atPos ER (barCel c) 0 ∅ 0) ∗ Tok c 0 0 ∗ Tok c 0 1 ∗ Tok c 1 0 ∗ Tok c 1 1 ∗ Wr c 0 0 ∗ Wr c 0 1 ∗ Wr c 1 0 ∗ Wr c 1 1 ∗ As c 0 0 ∗ As c 0 1 ∗ As c 1 0 ∗ As c 1 1 ∗ pt c (rsM 0 c) fullShare fr ∗ pt c (rsM 1 c) fullShare fr ∗ pt c (agM 0 c) fullShare fa ∗ pt c (agM 1 c) fullShare fa ∗ pt c (redM 0) fullShare fd ∗ pt c (redM 1) fullShare fd ∗ outMem c fo ∗ K)
      ⊢ (iprop((cred (tallyAt (barCel c) () 7) ∗ atPos ER (barCel c) 0 ∅ 0) ∗ inMem c I ∗ partMem c (PT c) ∗ Tok c 0 0 ∗ Tok c 0 1 ∗ Tok c 1 0 ∗ Tok c 1 1 ∗ Wr c 0 0 ∗ Wr c 0 1 ∗ Wr c 1 0 ∗ Wr c 1 1 ∗ As c 0 0 ∗ As c 0 1 ∗ As c 1 0 ∗ As c 1 1 ∗ pt c (rsM 0 c) fullShare fr ∗ pt c (rsM 1 c) fullShare fr ∗ pt c (agM 0 c) fullShare fa ∗ pt c (agM 1 c) fullShare fa ∗ pt c (redM 0) fullShare fd ∗ pt c (redM 1) fullShare fd ∗ outMem c fo ∗ K) : sProp 𝕄) :=
  Entails.of_eq (by
    ac_rfl)

/-- After the barrier: the strips and the slots they go to. -/
theorem to_send0 :
    iprop(atPos ER (barCel c) 1 ∅ 0 ∗ (bigSep (Finset.univ.erase c) fun d => barPay d c) ∗ inMem c I ∗ partMem c (PT c) ∗ Tok c 0 0 ∗ Tok c 0 1 ∗ Tok c 1 0 ∗ Tok c 1 1 ∗ Wr c 0 0 ∗ Wr c 0 1 ∗ Wr c 1 0 ∗ Wr c 1 1 ∗ As c 0 0 ∗ As c 0 1 ∗ As c 1 0 ∗ As c 1 1 ∗ pt c (rsM 0 c) fullShare fr ∗ pt c (rsM 1 c) fullShare fr ∗ pt c (agM 0 c) fullShare fa ∗ pt c (agM 1 c) fullShare fa ∗ pt c (redM 0) fullShare fd ∗ pt c (redM 1) fullShare fd ∗ outMem c fo ∗ K)
      ⊢ (iprop((sendRes PT RD c 0 0 0 ∗ sendRes PT RD c 0 0 1 ∗ sendRes PT RD c 0 0 2 ∗ sendRes PT RD c 0 0 3 ∗ sendRes PT RD c 0 0 4 ∗ sendRes PT RD c 0 0 5 ∗ sendRes PT RD c 0 0 6 ∗ sendRes PT RD c 0 1 0 ∗ sendRes PT RD c 0 1 1 ∗ sendRes PT RD c 0 1 2 ∗ sendRes PT RD c 0 1 3 ∗ sendRes PT RD c 0 1 4 ∗ sendRes PT RD c 0 1 5 ∗ sendRes PT RD c 0 1 6 ∗ emp) ∗ emp ∗ atPos ER (barCel c) 1 ∅ 0 ∗ inMem c I ∗ pt c (partM c 0) fullShare (PT c) ∗ pt c (partM c 1) fullShare (PT c) ∗ To c 1 0 ∗ To c 1 1 ∗ Tok c 1 0 ∗ Tok c 1 1 ∗ Wr c 0 0 ∗ Wr c 0 1 ∗ Wr c 1 0 ∗ Wr c 1 1 ∗ As c 0 0 ∗ As c 0 1 ∗ As c 1 0 ∗ As c 1 1 ∗ pt c (rsM 0 c) fullShare fr ∗ pt c (rsM 1 c) fullShare fr ∗ pt c (agM 0 c) fullShare fa ∗ pt c (agM 1 c) fullShare fa ∗ pt c (redM 0) fullShare fd ∗ pt c (redM 1) fullShare fd ∗ outMem c fo ∗ K) : sProp 𝕄) :=
  Entails.of_eq (by
    simp only [res_fw, snt_bw, wr_fw, gr_bw, ws_fw, gs_bw]
    simp only [res_eq, gr_eq, ws_eq, gs_eq, sep_emp', emp_sep', pay0 (RD := RD), bar_split]
    ac_rfl)

/-- The strips sent; the first half awaited. -/
theorem to_recv0 :
    iprop(emp ∗ (sent c 0 1 6 ∗ sent c 0 1 5 ∗ sent c 0 1 4 ∗ sent c 0 1 3 ∗ sent c 0 1 2 ∗ sent c 0 1 1 ∗ sent c 0 1 0 ∗ sent c 0 0 6 ∗ sent c 0 0 5 ∗ sent c 0 0 4 ∗ sent c 0 0 3 ∗ sent c 0 0 2 ∗ sent c 0 0 1 ∗ sent c 0 0 0 ∗ emp) ∗ atPos ER (barCel c) 1 ∅ 0 ∗ inMem c I ∗ pt c (partM c 0) fullShare (PT c) ∗ pt c (partM c 1) fullShare (PT c) ∗ To c 1 0 ∗ To c 1 1 ∗ Tok c 1 0 ∗ Tok c 1 1 ∗ Wr c 0 0 ∗ Wr c 0 1 ∗ Wr c 1 0 ∗ Wr c 1 1 ∗ As c 0 0 ∗ As c 0 1 ∗ As c 1 0 ∗ As c 1 1 ∗ pt c (rsM 0 c) fullShare fr ∗ pt c (rsM 1 c) fullShare fr ∗ pt c (agM 0 c) fullShare fa ∗ pt c (agM 1 c) fullShare fa ∗ pt c (redM 0) fullShare fd ∗ pt c (redM 1) fullShare fd ∗ outMem c fo ∗ K)
      ⊢ (iprop((waitRes c (recvJ 0 0 (peer c 0)) ∗ waitRes c (recvJ 0 0 (peer c 1)) ∗ waitRes c (recvJ 0 0 (peer c 2)) ∗ waitRes c (recvJ 0 0 (peer c 3)) ∗ waitRes c (recvJ 0 0 (peer c 4)) ∗ waitRes c (recvJ 0 0 (peer c 5)) ∗ waitRes c (recvJ 0 0 (peer c 6)) ∗ emp) ∗ emp ∗ pt c (partM c 0) fullShare (PT c) ∗ pt c (rsM 0 c) fullShare fr ∗ Snt c 0 1 ∗ Snt c 0 0 ∗ atPos ER (barCel c) 1 ∅ 0 ∗ inMem c I ∗ pt c (partM c 1) fullShare (PT c) ∗ To c 1 0 ∗ To c 1 1 ∗ Tok c 1 0 ∗ Tok c 1 1 ∗ Wr c 0 1 ∗ Wr c 1 0 ∗ Wr c 1 1 ∗ As c 0 0 ∗ As c 0 1 ∗ As c 1 0 ∗ As c 1 1 ∗ pt c (rsM 1 c) fullShare fr ∗ pt c (agM 0 c) fullShare fa ∗ pt c (agM 1 c) fullShare fa ∗ pt c (redM 0) fullShare fd ∗ pt c (redM 1) fullShare fd ∗ outMem c fo ∗ K) : sProp 𝕄) :=
  Entails.of_eq (by
    simp only [res_fw, snt_bw, wr_fw, gr_bw, ws_fw, gs_bw]
    simp only [res_eq, gr_eq, ws_eq, gs_eq, sep_emp', emp_sep']
    ac_rfl)

/-- The first half here. -/
theorem to_sum0 :
    iprop(emp ∗ (waitGot PT RD c (recvJ 0 0 (peer c 6)) ∗ waitGot PT RD c (recvJ 0 0 (peer c 5)) ∗ waitGot PT RD c (recvJ 0 0 (peer c 4)) ∗ waitGot PT RD c (recvJ 0 0 (peer c 3)) ∗ waitGot PT RD c (recvJ 0 0 (peer c 2)) ∗ waitGot PT RD c (recvJ 0 0 (peer c 1)) ∗ waitGot PT RD c (recvJ 0 0 (peer c 0)) ∗ emp) ∗ pt c (partM c 0) fullShare (PT c) ∗ pt c (rsM 0 c) fullShare (RS PT c) ∗ Snt c 0 1 ∗ Snt c 0 0 ∗ atPos ER (barCel c) 1 ∅ 0 ∗ inMem c I ∗ pt c (partM c 1) fullShare (PT c) ∗ To c 1 0 ∗ To c 1 1 ∗ Tok c 1 0 ∗ Tok c 1 1 ∗ Wr c 0 1 ∗ Wr c 1 0 ∗ Wr c 1 1 ∗ As c 0 0 ∗ As c 0 1 ∗ As c 1 0 ∗ As c 1 1 ∗ pt c (rsM 1 c) fullShare fr ∗ pt c (agM 0 c) fullShare fa ∗ pt c (agM 1 c) fullShare fa ∗ pt c (redM 0) fullShare fd ∗ pt c (redM 1) fullShare fd ∗ outMem c fo ∗ K)
      ⊢ (iprop(rsAll c 0 (RS PT c) ∗ pt c (redM 0) fullShare fd ∗ pt c (agM 0 c) fullShare fa ∗ Ar c 0 0 ∗ pt c (partM c 0) fullShare (PT c) ∗ Snt c 0 1 ∗ Snt c 0 0 ∗ atPos ER (barCel c) 1 ∅ 0 ∗ inMem c I ∗ pt c (partM c 1) fullShare (PT c) ∗ To c 1 0 ∗ To c 1 1 ∗ Tok c 1 0 ∗ Tok c 1 1 ∗ Wr c 0 1 ∗ Wr c 1 0 ∗ Wr c 1 1 ∗ As c 0 0 ∗ As c 0 1 ∗ As c 1 0 ∗ As c 1 1 ∗ pt c (rsM 1 c) fullShare fr ∗ pt c (agM 1 c) fullShare fa ∗ pt c (redM 1) fullShare fd ∗ outMem c fo ∗ K) : sProp 𝕄) :=
  Entails.of_eq (by
    simp only [res_fw, snt_bw, wr_fw, gr_bw, ws_fw, gs_bw]
    simp only [res_eq, gr_eq, ws_eq, gs_eq, sep_emp', emp_sep', arrive0 (RD := RD)]
    ac_rfl)

/-- The first half summed. -/
theorem to_send10 :
    iprop(rsAll c 0 (RS PT c) ∗ pt c (redM 0) fullShare (RD c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ pt c (partM c 1) fullShare (PT c) ∗ To c 1 0 ∗ To c 1 1 ∗ Tok c 1 0 ∗ Tok c 1 1 ∗ Wr c 0 1 ∗ Wr c 1 0 ∗ Wr c 1 1 ∗ As c 0 0 ∗ As c 0 1 ∗ As c 1 0 ∗ As c 1 1 ∗ pt c (rsM 1 c) fullShare fr ∗ pt c (agM 1 c) fullShare fa ∗ pt c (redM 1) fullShare fd ∗ outMem c fo ∗ K)
      ⊢ (iprop((sendRes PT RD c 1 0 0 ∗ sendRes PT RD c 1 0 1 ∗ sendRes PT RD c 1 0 2 ∗ sendRes PT RD c 1 0 3 ∗ sendRes PT RD c 1 0 4 ∗ sendRes PT RD c 1 0 5 ∗ sendRes PT RD c 1 0 6 ∗ emp) ∗ emp ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ pt c (partM c 1) fullShare (PT c) ∗ To c 1 1 ∗ Tok c 1 1 ∗ Wr c 0 1 ∗ Wr c 1 0 ∗ Wr c 1 1 ∗ As c 0 0 ∗ As c 0 1 ∗ As c 1 0 ∗ As c 1 1 ∗ pt c (rsM 1 c) fullShare fr ∗ pt c (agM 1 c) fullShare fa ∗ pt c (redM 1) fullShare fd ∗ outMem c fo ∗ K) : sProp 𝕄) :=
  Entails.of_eq (by
    simp only [res_fw, snt_bw, wr_fw, gr_bw, ws_fw, gs_bw]
    simp only [res_eq, gr_eq, ws_eq, gs_eq, sep_emp', emp_sep', pay1 (PT := PT)]
    ac_rfl)

/-- The first half sent; the second awaited. -/
theorem to_recv01 :
    iprop(emp ∗ (sent c 1 0 6 ∗ sent c 1 0 5 ∗ sent c 1 0 4 ∗ sent c 1 0 3 ∗ sent c 1 0 2 ∗ sent c 1 0 1 ∗ sent c 1 0 0 ∗ emp) ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ pt c (partM c 1) fullShare (PT c) ∗ To c 1 1 ∗ Tok c 1 1 ∗ Wr c 0 1 ∗ Wr c 1 0 ∗ Wr c 1 1 ∗ As c 0 0 ∗ As c 0 1 ∗ As c 1 0 ∗ As c 1 1 ∗ pt c (rsM 1 c) fullShare fr ∗ pt c (agM 1 c) fullShare fa ∗ pt c (redM 1) fullShare fd ∗ outMem c fo ∗ K)
      ⊢ (iprop((waitRes c (recvJ 0 1 (peer c 0)) ∗ waitRes c (recvJ 0 1 (peer c 1)) ∗ waitRes c (recvJ 0 1 (peer c 2)) ∗ waitRes c (recvJ 0 1 (peer c 3)) ∗ waitRes c (recvJ 0 1 (peer c 4)) ∗ waitRes c (recvJ 0 1 (peer c 5)) ∗ waitRes c (recvJ 0 1 (peer c 6)) ∗ emp) ∗ emp ∗ pt c (partM c 1) fullShare (PT c) ∗ pt c (rsM 1 c) fullShare fr ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ To c 1 1 ∗ Tok c 1 1 ∗ Wr c 1 0 ∗ Wr c 1 1 ∗ As c 0 0 ∗ As c 0 1 ∗ As c 1 0 ∗ As c 1 1 ∗ pt c (agM 1 c) fullShare fa ∗ pt c (redM 1) fullShare fd ∗ outMem c fo ∗ K) : sProp 𝕄) :=
  Entails.of_eq (by
    simp only [res_fw, snt_bw, wr_fw, gr_bw, ws_fw, gs_bw]
    simp only [res_eq, gr_eq, ws_eq, gs_eq, sep_emp', emp_sep']
    ac_rfl)

/-- The second half here. -/
theorem to_sum1 :
    iprop(emp ∗ (waitGot PT RD c (recvJ 0 1 (peer c 6)) ∗ waitGot PT RD c (recvJ 0 1 (peer c 5)) ∗ waitGot PT RD c (recvJ 0 1 (peer c 4)) ∗ waitGot PT RD c (recvJ 0 1 (peer c 3)) ∗ waitGot PT RD c (recvJ 0 1 (peer c 2)) ∗ waitGot PT RD c (recvJ 0 1 (peer c 1)) ∗ waitGot PT RD c (recvJ 0 1 (peer c 0)) ∗ emp) ∗ pt c (partM c 1) fullShare (PT c) ∗ pt c (rsM 1 c) fullShare (RS PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ To c 1 1 ∗ Tok c 1 1 ∗ Wr c 1 0 ∗ Wr c 1 1 ∗ As c 0 0 ∗ As c 0 1 ∗ As c 1 0 ∗ As c 1 1 ∗ pt c (agM 1 c) fullShare fa ∗ pt c (redM 1) fullShare fd ∗ outMem c fo ∗ K)
      ⊢ (iprop(rsAll c 1 (RS PT c) ∗ pt c (redM 1) fullShare fd ∗ pt c (agM 1 c) fullShare fa ∗ Ar c 0 1 ∗ pt c (partM c 1) fullShare (PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ To c 1 1 ∗ Tok c 1 1 ∗ Wr c 1 0 ∗ Wr c 1 1 ∗ As c 0 0 ∗ As c 0 1 ∗ As c 1 0 ∗ As c 1 1 ∗ outMem c fo ∗ K) : sProp 𝕄) :=
  Entails.of_eq (by
    simp only [res_fw, snt_bw, wr_fw, gr_bw, ws_fw, gs_bw]
    simp only [res_eq, gr_eq, ws_eq, gs_eq, sep_emp', emp_sep', arrive0 (RD := RD)]
    ac_rfl)

/-- The second half summed. -/
theorem to_own1 :
    iprop(rsAll c 1 (RS PT c) ∗ pt c (redM 1) fullShare (RD c) ∗ pt c (agM 1 c) fullShare fa ∗ Ar c 0 1 ∗ pt c (partM c 1) fullShare (PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ To c 1 1 ∗ Tok c 1 1 ∗ Wr c 1 0 ∗ Wr c 1 1 ∗ As c 0 0 ∗ As c 0 1 ∗ As c 1 0 ∗ As c 1 1 ∗ outMem c fo ∗ K)
      ⊢ (iprop(pt c (agM 1 c) fullShare fa ∗ rsAll c 1 (RS PT c) ∗ pt c (redM 1) fullShare (RD c) ∗ Ar c 0 1 ∗ pt c (partM c 1) fullShare (PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ To c 1 1 ∗ Tok c 1 1 ∗ Wr c 1 0 ∗ Wr c 1 1 ∗ As c 0 0 ∗ As c 0 1 ∗ As c 1 0 ∗ As c 1 1 ∗ outMem c fo ∗ K) : sProp 𝕄) :=
  Entails.of_eq (by
    ac_rfl)

/-- The second half put beside the first. -/
theorem to_send11 :
    iprop(pt c (agM 1 c) fullShare (AG RD) ∗ rsAll c 1 (RS PT c) ∗ pt c (redM 1) fullShare (RD c) ∗ Ar c 0 1 ∗ pt c (partM c 1) fullShare (PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ To c 1 1 ∗ Tok c 1 1 ∗ Wr c 1 0 ∗ Wr c 1 1 ∗ As c 0 0 ∗ As c 0 1 ∗ As c 1 0 ∗ As c 1 1 ∗ outMem c fo ∗ K)
      ⊢ (iprop((sendRes PT RD c 1 1 0 ∗ sendRes PT RD c 1 1 1 ∗ sendRes PT RD c 1 1 2 ∗ sendRes PT RD c 1 1 3 ∗ sendRes PT RD c 1 1 4 ∗ sendRes PT RD c 1 1 5 ∗ sendRes PT RD c 1 1 6 ∗ emp) ∗ emp ∗ rsAll c 1 (RS PT c) ∗ pt c (agM 1 c) fullShare (AG RD) ∗ Ar c 0 1 ∗ pt c (partM c 1) fullShare (PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ Wr c 1 0 ∗ Wr c 1 1 ∗ As c 0 0 ∗ As c 0 1 ∗ As c 1 0 ∗ As c 1 1 ∗ outMem c fo ∗ K) : sProp 𝕄) :=
  Entails.of_eq (by
    simp only [res_fw, snt_bw, wr_fw, gr_bw, ws_fw, gs_bw]
    simp only [res_eq, gr_eq, ws_eq, gs_eq, sep_emp', emp_sep', pay1 (PT := PT)]
    ac_rfl)

/-- The second half sent; all sums awaited. -/
theorem to_recv1 :
    iprop(emp ∗ (sent c 1 1 6 ∗ sent c 1 1 5 ∗ sent c 1 1 4 ∗ sent c 1 1 3 ∗ sent c 1 1 2 ∗ sent c 1 1 1 ∗ sent c 1 1 0 ∗ emp) ∗ rsAll c 1 (RS PT c) ∗ pt c (agM 1 c) fullShare (AG RD) ∗ Ar c 0 1 ∗ pt c (partM c 1) fullShare (PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ Wr c 1 0 ∗ Wr c 1 1 ∗ As c 0 0 ∗ As c 0 1 ∗ As c 1 0 ∗ As c 1 1 ∗ outMem c fo ∗ K)
      ⊢ (iprop((waitRes c (recvJ 1 0 (peer c 0)) ∗ waitRes c (recvJ 1 0 (peer c 1)) ∗ waitRes c (recvJ 1 0 (peer c 2)) ∗ waitRes c (recvJ 1 0 (peer c 3)) ∗ waitRes c (recvJ 1 0 (peer c 4)) ∗ waitRes c (recvJ 1 0 (peer c 5)) ∗ waitRes c (recvJ 1 0 (peer c 6)) ∗ waitRes c (recvJ 1 1 (peer c 0)) ∗ waitRes c (recvJ 1 1 (peer c 1)) ∗ waitRes c (recvJ 1 1 (peer c 2)) ∗ waitRes c (recvJ 1 1 (peer c 3)) ∗ waitRes c (recvJ 1 1 (peer c 4)) ∗ waitRes c (recvJ 1 1 (peer c 5)) ∗ waitRes c (recvJ 1 1 (peer c 6)) ∗ emp) ∗ emp ∗ Snt c 1 1 ∗ rsAll c 1 (RS PT c) ∗ pt c (agM 1 c) fullShare (AG RD) ∗ Ar c 0 1 ∗ pt c (partM c 1) fullShare (PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ As c 0 0 ∗ As c 0 1 ∗ As c 1 0 ∗ As c 1 1 ∗ outMem c fo ∗ K) : sProp 𝕄) :=
  Entails.of_eq (by
    simp only [res_fw, snt_bw, wr_fw, gr_bw, ws_fw, gs_bw]
    simp only [res_eq, gr_eq, ws_eq, gs_eq, sep_emp', emp_sep']
    ac_rfl)

/-- All sums here. -/
theorem to_write :
    iprop(emp ∗ (waitGot PT RD c (recvJ 1 1 (peer c 6)) ∗ waitGot PT RD c (recvJ 1 1 (peer c 5)) ∗ waitGot PT RD c (recvJ 1 1 (peer c 4)) ∗ waitGot PT RD c (recvJ 1 1 (peer c 3)) ∗ waitGot PT RD c (recvJ 1 1 (peer c 2)) ∗ waitGot PT RD c (recvJ 1 1 (peer c 1)) ∗ waitGot PT RD c (recvJ 1 1 (peer c 0)) ∗ waitGot PT RD c (recvJ 1 0 (peer c 6)) ∗ waitGot PT RD c (recvJ 1 0 (peer c 5)) ∗ waitGot PT RD c (recvJ 1 0 (peer c 4)) ∗ waitGot PT RD c (recvJ 1 0 (peer c 3)) ∗ waitGot PT RD c (recvJ 1 0 (peer c 2)) ∗ waitGot PT RD c (recvJ 1 0 (peer c 1)) ∗ waitGot PT RD c (recvJ 1 0 (peer c 0)) ∗ emp) ∗ Snt c 1 1 ∗ rsAll c 1 (RS PT c) ∗ pt c (agM 1 c) fullShare (AG RD) ∗ Ar c 0 1 ∗ pt c (partM c 1) fullShare (PT c) ∗ Snt c 1 0 ∗ rsAll c 0 (RS PT c) ∗ pt c (agM 0 c) fullShare (AG RD) ∗ Ar c 0 0 ∗ pt c (partM c 0) fullShare (PT c) ∗ Snt c 0 1 ∗ Snt c 0 0 ∗ atPos ER (barCel c) 1 ∅ 0 ∗ inMem c I ∗ As c 0 0 ∗ As c 0 1 ∗ As c 1 0 ∗ As c 1 1 ∗ outMem c fo ∗ K)
      ⊢ (iprop(agAll c (AG RD) ∗ outMem c (outTill (AG RD) fo 0) ∗ Ar c 1 0 ∗ Ar c 1 1 ∗ Snt c 1 1 ∗ rsAll c 1 (RS PT c) ∗ Ar c 0 1 ∗ pt c (partM c 1) fullShare (PT c) ∗ Snt c 1 0 ∗ rsAll c 0 (RS PT c) ∗ Ar c 0 0 ∗ pt c (partM c 0) fullShare (PT c) ∗ Snt c 0 1 ∗ Snt c 0 0 ∗ atPos ER (barCel c) 1 ∅ 0 ∗ inMem c I ∗ As c 0 0 ∗ As c 0 1 ∗ As c 1 0 ∗ As c 1 1 ∗ K) : sProp 𝕄) :=
  Entails.of_eq (by
    simp only [res_fw, snt_bw, wr_fw, gr_bw, ws_fw, gs_bw]
    simp only [res_eq, gr_eq, ws_eq, gs_eq, sep_emp', emp_sep', arrive1 (PT := PT), outTill_zero]
    ac_rfl)

/-- The result written; the departures awaited. -/
theorem to_sent :
    iprop(agAll c (AG RD) ∗ outMem c (outTill (AG RD) fo 16) ∗ Ar c 1 0 ∗ Ar c 1 1 ∗ Snt c 1 1 ∗ rsAll c 1 (RS PT c) ∗ Ar c 0 1 ∗ pt c (partM c 1) fullShare (PT c) ∗ Snt c 1 0 ∗ rsAll c 0 (RS PT c) ∗ Ar c 0 0 ∗ pt c (partM c 0) fullShare (PT c) ∗ Snt c 0 1 ∗ Snt c 0 0 ∗ atPos ER (barCel c) 1 ∅ 0 ∗ inMem c I ∗ As c 0 0 ∗ As c 0 1 ∗ As c 1 0 ∗ As c 1 1 ∗ K)
      ⊢ (iprop((waitRes c (sendJ 0 0 0) ∗ waitRes c (sendJ 0 0 1) ∗ waitRes c (sendJ 0 0 2) ∗ waitRes c (sendJ 0 0 3) ∗ waitRes c (sendJ 0 0 4) ∗ waitRes c (sendJ 0 0 5) ∗ waitRes c (sendJ 0 0 6) ∗ waitRes c (sendJ 0 1 0) ∗ waitRes c (sendJ 0 1 1) ∗ waitRes c (sendJ 0 1 2) ∗ waitRes c (sendJ 0 1 3) ∗ waitRes c (sendJ 0 1 4) ∗ waitRes c (sendJ 0 1 5) ∗ waitRes c (sendJ 0 1 6) ∗ waitRes c (sendJ 1 0 0) ∗ waitRes c (sendJ 1 0 1) ∗ waitRes c (sendJ 1 0 2) ∗ waitRes c (sendJ 1 0 3) ∗ waitRes c (sendJ 1 0 4) ∗ waitRes c (sendJ 1 0 5) ∗ waitRes c (sendJ 1 0 6) ∗ waitRes c (sendJ 1 1 0) ∗ waitRes c (sendJ 1 1 1) ∗ waitRes c (sendJ 1 1 2) ∗ waitRes c (sendJ 1 1 3) ∗ waitRes c (sendJ 1 1 4) ∗ waitRes c (sendJ 1 1 5) ∗ waitRes c (sendJ 1 1 6) ∗ emp) ∗ emp ∗ agAll c (AG RD) ∗ outMem c (OUT (AG RD)) ∗ Ar c 1 0 ∗ Ar c 1 1 ∗ rsAll c 1 (RS PT c) ∗ Ar c 0 1 ∗ pt c (partM c 1) fullShare (PT c) ∗ rsAll c 0 (RS PT c) ∗ Ar c 0 0 ∗ pt c (partM c 0) fullShare (PT c) ∗ atPos ER (barCel c) 1 ∅ 0 ∗ inMem c I ∗ K) : sProp 𝕄) :=
  Entails.of_eq (by
    simp only [res_fw, snt_bw, wr_fw, gr_bw, ws_fw, gs_bw]
    simp only [res_eq, gr_eq, ws_eq, gs_eq, sep_emp', emp_sep', outTill_all]
    ac_rfl)

/-- All done. -/
theorem to_finish :
    iprop(emp ∗ (waitGot PT RD c (sendJ 1 1 6) ∗ waitGot PT RD c (sendJ 1 1 5) ∗ waitGot PT RD c (sendJ 1 1 4) ∗ waitGot PT RD c (sendJ 1 1 3) ∗ waitGot PT RD c (sendJ 1 1 2) ∗ waitGot PT RD c (sendJ 1 1 1) ∗ waitGot PT RD c (sendJ 1 1 0) ∗ waitGot PT RD c (sendJ 1 0 6) ∗ waitGot PT RD c (sendJ 1 0 5) ∗ waitGot PT RD c (sendJ 1 0 4) ∗ waitGot PT RD c (sendJ 1 0 3) ∗ waitGot PT RD c (sendJ 1 0 2) ∗ waitGot PT RD c (sendJ 1 0 1) ∗ waitGot PT RD c (sendJ 1 0 0) ∗ waitGot PT RD c (sendJ 0 1 6) ∗ waitGot PT RD c (sendJ 0 1 5) ∗ waitGot PT RD c (sendJ 0 1 4) ∗ waitGot PT RD c (sendJ 0 1 3) ∗ waitGot PT RD c (sendJ 0 1 2) ∗ waitGot PT RD c (sendJ 0 1 1) ∗ waitGot PT RD c (sendJ 0 1 0) ∗ waitGot PT RD c (sendJ 0 0 6) ∗ waitGot PT RD c (sendJ 0 0 5) ∗ waitGot PT RD c (sendJ 0 0 4) ∗ waitGot PT RD c (sendJ 0 0 3) ∗ waitGot PT RD c (sendJ 0 0 2) ∗ waitGot PT RD c (sendJ 0 0 1) ∗ waitGot PT RD c (sendJ 0 0 0) ∗ emp) ∗ agAll c (AG RD) ∗ outMem c (OUT (AG RD)) ∗ Ar c 1 0 ∗ Ar c 1 1 ∗ rsAll c 1 (RS PT c) ∗ Ar c 0 1 ∗ pt c (partM c 1) fullShare (PT c) ∗ rsAll c 0 (RS PT c) ∗ Ar c 0 0 ∗ pt c (partM c 0) fullShare (PT c) ∗ atPos ER (barCel c) 1 ∅ 0 ∗ inMem c I ∗ K)
      ⊢ (iprop(Finish PT RD c I K) : sProp 𝕄) :=
  Entails.of_eq (by
    unfold Finish
    simp only [res_fw, snt_bw, wr_fw, gr_bw, ws_fw, gs_bw]
    simp only [res_eq, gr_eq, ws_eq, gs_eq, sep_emp', emp_sep', pay0 (RD := RD), pay1 (PT := PT)]
    ac_rfl)

/-! ## The run -/

/-- All but the last two waits. -/
theorem run47 {Q} (hPT : PT c = PART I) (hRD : RD c = RED (RS PT c))
    (h : St PT RD κ c [] iprop((waitRes c (sendJ 1 1 5) ∗ waitRes c (sendJ 1 1 6) ∗ emp) ∗ (waitGot PT RD c (sendJ 1 1 4) ∗ waitGot PT RD c (sendJ 1 1 3) ∗ waitGot PT RD c (sendJ 1 1 2) ∗ waitGot PT RD c (sendJ 1 1 1) ∗ waitGot PT RD c (sendJ 1 1 0) ∗ waitGot PT RD c (sendJ 1 0 6) ∗ waitGot PT RD c (sendJ 1 0 5) ∗ waitGot PT RD c (sendJ 1 0 4) ∗ waitGot PT RD c (sendJ 1 0 3) ∗ waitGot PT RD c (sendJ 1 0 2) ∗ waitGot PT RD c (sendJ 1 0 1) ∗ waitGot PT RD c (sendJ 1 0 0) ∗ waitGot PT RD c (sendJ 0 1 6) ∗ waitGot PT RD c (sendJ 0 1 5) ∗ waitGot PT RD c (sendJ 0 1 4) ∗ waitGot PT RD c (sendJ 0 1 3) ∗ waitGot PT RD c (sendJ 0 1 2) ∗ waitGot PT RD c (sendJ 0 1 1) ∗ waitGot PT RD c (sendJ 0 1 0) ∗ waitGot PT RD c (sendJ 0 0 6) ∗ waitGot PT RD c (sendJ 0 0 5) ∗ waitGot PT RD c (sendJ 0 0 4) ∗ waitGot PT RD c (sendJ 0 0 3) ∗ waitGot PT RD c (sendJ 0 0 2) ∗ waitGot PT RD c (sendJ 0 0 1) ∗ waitGot PT RD c (sendJ 0 0 0) ∗ emp) ∗ agAll c (AG RD) ∗ outMem c (OUT (AG RD)) ∗ Ar c 1 0 ∗ Ar c 1 1 ∗ rsAll c 1 (RS PT c) ∗ Ar c 0 1 ∗ pt c (partM c 1) fullShare (PT c) ∗ rsAll c 0 (RS PT c) ∗ Ar c 0 0 ∗ pt c (partM c 0) fullShare (PT c) ∗ atPos ER (barCel c) 1 ∅ 0 ∗ inMem c I ∗ K) ⊢ Q c) :
    St PT RD κ c owed (Start c I K f fr fa fd fo) ⊢ wpc c (ap k0_part47) Q := by
  rw [k0_part47_eq_skeleton]; unfold k0_part47_skel ap
  unfold Start
  refine bind_step (run1 fun v2 v24 x => ?_)
  dsimp (config := { failIfUnchanged := false }) only
  refine bind_step (run2 ?_)
  dsimp (config := { failIfUnchanged := false }) only
  refine bind_step (run3 ?_)
  dsimp (config := { failIfUnchanged := false }) only
  refine bind_step (run4 ?_)
  dsimp (config := { failIfUnchanged := false }) only
  refine bind_step (run5 ?_)
  dsimp (config := { failIfUnchanged := false }) only
  refine bind_step (run6 ?_)
  dsimp (config := { failIfUnchanged := false }) only
  refine bind_step (run7 ?_)
  dsimp (config := { failIfUnchanged := false }) only
  refine bind_step (run8 ?_)
  dsimp (config := { failIfUnchanged := false }) only
  refine bind_step (run9 (by rw [← hPT]; exact to_barrier) (to_send0 (RD := RD)) (by decide) ?_)
  dsimp (config := { failIfUnchanged := false }) only
  refine bind_step (run10 fun r10 => ?_)
  dsimp (config := { failIfUnchanged := false }) only
  refine bind_step (run11 fun r11 => ?_)
  dsimp (config := { failIfUnchanged := false }) only
  refine bind_step (run12 fun r12 => ?_)
  dsimp (config := { failIfUnchanged := false }) only
  refine bind_step (run13 fun r13 => ?_)
  dsimp (config := { failIfUnchanged := false }) only
  refine bind_step (run14 fun r14 => ?_)
  dsimp (config := { failIfUnchanged := false }) only
  refine bind_step (run15 fun r15 => ?_)
  dsimp (config := { failIfUnchanged := false }) only
  refine St_mono to_recv0 ?_
  refine bind_step (run16 (by decide) fun r16 => ?_)
  dsimp (config := { failIfUnchanged := false }) only
  refine bind_step (run17 (by decide) fun r17 => ?_)
  dsimp (config := { failIfUnchanged := false }) only
  refine bind_step (run18 (by decide) fun r18 => ?_)
  dsimp (config := { failIfUnchanged := false }) only
  refine St_mono to_sum0 ?_
  refine bind_step (run19 ?_)
  dsimp (config := { failIfUnchanged := false }) only
  refine bind_step (run20 hRD to_send10 fun r20 => ?_)
  dsimp (config := { failIfUnchanged := false }) only
  refine bind_step (run21 fun r21 => ?_)
  dsimp (config := { failIfUnchanged := false }) only
  refine bind_step (run22 fun r22 => ?_)
  dsimp (config := { failIfUnchanged := false }) only
  refine bind_step (run23 (by decide) to_recv01 fun r23 => ?_)
  dsimp (config := { failIfUnchanged := false }) only
  refine bind_step (run24 (by decide) fun r24 => ?_)
  dsimp (config := { failIfUnchanged := false }) only
  refine bind_step (run25 (by decide) fun r25 => ?_)
  dsimp (config := { failIfUnchanged := false }) only
  refine bind_step (run26 (by decide) to_sum1 ?_)
  dsimp (config := { failIfUnchanged := false }) only
  refine bind_step (run27 hRD ?_)
  dsimp (config := { failIfUnchanged := false }) only
  refine St_mono to_own1 ?_
  refine bind_step (run28 to_send11 fun r28 => ?_)
  dsimp (config := { failIfUnchanged := false }) only
  refine bind_step (run29 fun r29 => ?_)
  dsimp (config := { failIfUnchanged := false }) only
  refine bind_step (run30 fun r30 => ?_)
  dsimp (config := { failIfUnchanged := false }) only
  refine bind_step (run31 (by decide) to_recv1 fun r31 => ?_)
  dsimp (config := { failIfUnchanged := false }) only
  refine bind_step (run32 (by decide) fun r32 => ?_)
  dsimp (config := { failIfUnchanged := false }) only
  refine bind_step (run33 (by decide) fun r33 => ?_)
  dsimp (config := { failIfUnchanged := false }) only
  refine bind_step (run34 (by decide) fun r34 => ?_)
  dsimp (config := { failIfUnchanged := false }) only
  refine bind_step (run35 (by decide) fun r35 => ?_)
  dsimp (config := { failIfUnchanged := false }) only
  refine bind_step (run36 (by decide) to_write fun r36 => ?_)
  dsimp (config := { failIfUnchanged := false }) only
  refine bind_step (run37 ?_)
  dsimp (config := { failIfUnchanged := false }) only
  refine bind_step (run38 ?_)
  dsimp (config := { failIfUnchanged := false }) only
  refine bind_step (run39 fun r39 => ?_)
  dsimp (config := { failIfUnchanged := false }) only
  refine bind_step (run40 (by decide) to_sent fun r40 => ?_)
  dsimp (config := { failIfUnchanged := false }) only
  refine bind_step (run41 (by decide) fun r41 => ?_)
  dsimp (config := { failIfUnchanged := false }) only
  refine bind_step (run42 (by decide) fun r42 => ?_)
  dsimp (config := { failIfUnchanged := false }) only
  refine bind_step (run43 (by decide) fun r43 => ?_)
  dsimp (config := { failIfUnchanged := false }) only
  refine bind_step (run44 (by decide) fun r44 => ?_)
  dsimp (config := { failIfUnchanged := false }) only
  refine bind_step (run45 (by decide) fun r45 => ?_)
  dsimp (config := { failIfUnchanged := false }) only
  refine bind_step (run46 (by decide) fun r46 => ?_)
  dsimp (config := { failIfUnchanged := false }) only
  simp only [Prog.bind_lift]
  refine wait_send1 1 4 (sem_send1 1 4 rfl _ _) (name_red 1 rfl _ _ _) (by decide) ?_
  exact ret_step h

/-- The body, on one device. -/
theorem body_run {Q} (hPT : PT c = PART I) (hRD : RD c = RED (RS PT c)) (h : St PT RD κ c [] (Finish PT RD c I K) ⊢ Q ⟨⟩) :
    St PT RD κ c owed (Start c I K f fr fa fd fo) ⊢ wpc c (ap cc0__body) Q := by
  rw [cc0__body_eq_skeleton]; unfold cc0__body_skel ap
  refine bind_step (run47 hPT hRD ?_)
  simp only [Prog.bind_lift]
  refine wait_send1 1 5 (sem_send1 1 5 rfl _ _) (name_red 1 rfl _ _ _) (by decide) ?_
  refine wait_send1 1 6 (sem_send1 1 6 rfl _ _) (name_red 1 rfl _ _ _) (by decide) ?_
  exact St_mono to_finish (ret_step h)

end Cert.KernelIdeal.Talk
-- ==== Proof.Opened.lean ====
module

public import proofs.«01_k».proof.Proof.Body
public import Idealize.ShloMosaic.Lib.Rounds.Family

/-! The sixty cells of a device as the families the body talks of: opening them before the body, closing them after it, and
what the body starts from put together out of whole buffers. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

/-! ## The cells by their roles -/

/-- The number of the cell of each role. -/
def cellNo : Fin 2 × Fin 2 × (Fin 7 ⊕ Dev nD) → Fin 60
  | (φ, t, .inl k) => sendJ φ t k
  | (φ, t, .inr o) => recvJ φ t o

theorem cellNo_bij : Function.Bijective cellNo :=
  (Fintype.bijective_iff_injective_and_card _).mpr ⟨by decide +kernel, by decide +kernel⟩

/-- The cells as the roles. -/
def cellIx : Fin 2 × Fin 2 × (Fin 7 ⊕ Dev nD) ≃ Fin 60 := Equiv.ofBijective cellNo cellNo_bij

/-- One phase's and half's part of a family over the cells: the send cells, the own receive cell, the peers'. -/
def part (c : Dev nD) (φ t : Fin 2) (Φ : Fin 60 → sProp 𝕄) : sProp 𝕄 :=
  iprop((fam fun k => Φ (sendJ φ t k)) ∗ Φ (recvJ φ t c) ∗ fam fun k => Φ (recvJ φ t (peer c k)))

/-- A family over the cells, role by role. -/
theorem cells_split (c : Dev nD) (Φ : Fin 60 → sProp 𝕄) :
    bigSep Finset.univ Φ = iprop(part c 0 0 Φ ∗ part c 0 1 Φ ∗ part c 1 0 Φ ∗ part c 1 1 Φ) := by
  have h : ∀ φ t : Fin 2, (bigSep Finset.univ fun r => Φ (cellIx (φ, t, r))) = part c φ t Φ := fun φ t => by
    rw [bigSep_univ_sum]
    exact congrArg (fun X => iprop((fam fun k => Φ (sendJ φ t k)) ∗ X)) (dev_split c fun o => Φ (recvJ φ t o))
  rw [bigSep_univ_equiv cellIx Φ, bigSep_univ_prod, bigSep_fin_two, bigSep_univ_prod, bigSep_univ_prod,
    bigSep_fin_two, bigSep_fin_two, h, h, h, h]
  ac_rfl

/-! ## What opening gives, and what the launch dealt -/

/-- The right to pay the barriers of the peers. -/
def BarTok (c : Dev nD) : sProp 𝕄 := fam fun k => dutyTok ER (barCel (peer c k)) 0 c

/-- The rights to raise, for each peer, the own send cell and its receive cell. -/
def DutyTok (c : Dev nD) (φ t : Fin 2) : sProp 𝕄 :=
  fam fun k => iprop(dutyTok ER (cel c (sendJ φ t k)) 0 c ∗ dutyTok ER (cel (peer c k) (recvJ φ t c)) 0 c)

/-- The credits of the receive cells. -/
def Cr (c : Dev nD) (φ t : Fin 2) : sProp 𝕄 := fam fun k => cred (tallyAt (cel c (recvJ φ t (peer c k))) () N)

/-- The receive cells at their start. -/
def At0 (c : Dev nD) (φ t : Fin 2) : sProp 𝕄 := fam fun k => atPos ER (cel c (recvJ φ t (peer c k))) 0 ∅ 0

/-- The send cells' first rounds are open. -/
def Rs (c : Dev nD) (φ t : Fin 2) : sProp 𝕄 := fam fun k => reached ER (cel c (sendJ φ t k)) 0

/-- The receive cells' first rounds are open. -/
def Rr (c : Dev nD) (φ t : Fin 2) : sProp 𝕄 := fam fun k => reached ER (cel c (recvJ φ t (peer c k))) 0

/-- The own receive cell, which nobody raises. -/
def Own (c : Dev nD) (φ t : Fin 2) : sProp 𝕄 :=
  iprop(atPos ER (cel c (recvJ φ t c)) 0 ∅ 0 ∗ reached ER (cel c (recvJ φ t c)) 0)

/-- What the launch deals device `c` beside the records. -/
def Dealt (c : Dev nD) : sProp 𝕄 :=
  iprop(atPos ER (barCel c) 0 ∅ 0 ∗ BarTok c ∗ (DutyTok c 0 0 ∗ DutyTok c 0 1 ∗ DutyTok c 1 0 ∗ DutyTok c 1 1)
    ∗ cred (tallyAt (barCel c) () 7) ∗ (Cr c 0 0 ∗ Cr c 0 1 ∗ Cr c 1 0 ∗ Cr c 1 1))

/-- The cells opened. -/
def Open (c : Dev nD) : sProp 𝕄 := bigSep Finset.univ fun j => iprop(atPos ER (cel c j) 0 ∅ 0 ∗ reached ER (cel c j) 0)

theorem open_part (c : Dev nD) (φ t : Fin 2) :
    part c φ t (fun j => iprop(atPos ER (cel c j) 0 ∅ 0 ∗ reached ER (cel c j) 0))
      = (iprop((As c φ t ∗ Rs c φ t) ∗ Own c φ t ∗ At0 c φ t ∗ Rr c φ t) : sProp 𝕄) := by
  unfold part
  rw [fam_sep, fam_sep]
  rfl

theorem open_eq (c : Dev nD) : Open c = (iprop(((As c 0 0 ∗ Rs c 0 0) ∗ Own c 0 0 ∗ At0 c 0 0 ∗ Rr c 0 0)
    ∗ ((As c 0 1 ∗ Rs c 0 1) ∗ Own c 0 1 ∗ At0 c 0 1 ∗ Rr c 0 1)
    ∗ ((As c 1 0 ∗ Rs c 1 0) ∗ Own c 1 0 ∗ At0 c 1 0 ∗ Rr c 1 0)
    ∗ ((As c 1 1 ∗ Rs c 1 1) ∗ Own c 1 1 ∗ At0 c 1 1 ∗ Rr c 1 1)) : sProp 𝕄) := by
  unfold Open
  rw [cells_split c, open_part, open_part, open_part, open_part]

theorem tok_eq (c : Dev nD) (φ t : Fin 2) :
    Tok (F := F) c φ t = iprop((fam fun k => dutyTok ER (cel c (sendJ φ t k)) 0 c) ∗ Rs c φ t
      ∗ fam fun k => dutyTok ER (cel (peer c k) (recvJ φ t c)) 0 c) := by
  unfold Tok sendTok Rs
  rw [fam_sep, fam_sep]
  ac_rfl

theorem dutyTok_eq (c : Dev nD) (φ t : Fin 2) :
    DutyTok (F := F) c φ t = iprop((fam fun k => dutyTok ER (cel c (sendJ φ t k)) 0 c)
      ∗ fam fun k => dutyTok ER (cel (peer c k) (recvJ φ t c)) 0 c) := fam_sep _ _

theorem wr_eq (c : Dev nD) (φ t : Fin 2) : Wr (F := F) c φ t = iprop(Cr c φ t ∗ At0 c φ t) := fam_sep _ _

/-! ## What the body starts from -/

/-- The slots given to the peers, for one half. -/
def Give (c : Dev nD) (t : Fin 2) : sProp 𝕄 := fam fun k => slotGive (F := F) c (peer c k) t

theorem fam_mono {Φ Ψ : Fin 7 → sProp (MT nD τ sig Unit (Elt F) ℕ UU ℕ)} (h : ∀ k, Φ k ⊢ Ψ k) : fam Φ ⊢ fam Ψ :=
  bigSep_mono fun k _ => h k

/-- The slots of one half, at contents `f` and `g`, may be given. -/
theorem give_of (c : Dev nD) (t : Fin 2) (f g : S2x8x16x512.Idx → Elt F .bf16) :
    iprop((fam fun k => pt c (rsM t (peer c k)) fullShare f) ∗ Rr c 0 t
        ∗ (fam fun k => pt c (agM t (peer c k)) fullShare g) ∗ Rr c 1 t) ⊢ (Give c t : sProp 𝕄) := by
  unfold Rr Give
  rw [← fam_sep, ← fam_sep, ← fam_sep]
  refine fam_mono fun k => ?_
  unfold slotGive
  iintro ⟨H1, H2, H3, H4⟩
  isplitl [H1 H2]
  · isplitl [H1]
    · iexists f; iexact H1
    iexact H2
  isplitl [H3]
  · iexists g; iexact H3
  iexact H4

theorem pair_mono {A A' B B' X : sProp (MT nD τ sig Unit (Elt F) ℕ UU ℕ)} (hA : A ⊢ A') (hB : B ⊢ B') :
    iprop(A ∗ B ∗ X) ⊢ iprop(A' ∗ B' ∗ X) := by
  iintro ⟨HA, HB, HX⟩
  isplitl [HA]; · iapply hA; iexact HA
  isplitl [HB]; · iapply hB; iexact HB
  iexact HX

theorem barRes_eq (c : Dev nD) : (fam fun k => barRes (F := F) c k) = iprop(BarTok c ∗ Give c 0 ∗ Give c 1) := by
  unfold BarTok Give
  rw [← fam_sep, ← fam_sep]
  rfl

theorem barRes_fw (c : Dev nD) (X : sProp 𝕄) :
    iprop(barRes c 0 ∗ barRes c 1 ∗ barRes c 2 ∗ barRes c 3 ∗ barRes c 4 ∗ barRes c 5 ∗ barRes c 6 ∗ X)
      = iprop((fam fun k => barRes c k) ∗ X) := fw (fun k => barRes c k) X

variable {I : In F} {f : S256x512.Idx → Elt F .bf16} {fr fa : S2x8x16x512.Idx → Elt F .bf16}
  {fd : S2x16x512.Idx → Elt F .bf16} {fo : S2x128x512.Idx → Elt F .f32} {K : sProp (MT nD τ sig Unit (Elt F) ℕ UU ℕ)}

/-- The four own receive cells. -/
def Owns (c : Dev nD) : sProp 𝕄 := iprop(Own c 0 0 ∗ Own c 0 1 ∗ Own c 1 0 ∗ Own c 1 1)

/-- The body's start, out of the whole buffers, the dealt rights and the opened cells. -/
theorem start_of :
    iprop(Dealt c ∗ Open c ∗ inMem c I ∗ partMem c f
        ∗ (((c : Thread nD τ).loc cc0_scratch1) ↦{fullShare} fr) ∗ (((c : Thread nD τ).loc cc0_scratch2) ↦{fullShare} fd)
        ∗ agAll c fa ∗ outMem c fo ∗ K)
      ⊢ (Start c I iprop(Owns c ∗ K) f fr fa fd fo : sProp 𝕄) := by
  have h := pair_mono (give_of (F := F) c 0 fr fa) (give_of (F := F) c 1 fr fa)
    (X := iprop(atPos ER (barCel c) 0 ∅ 0 ∗ BarTok c ∗ cred (tallyAt (barCel c) () 7)
      ∗ (Tok c 0 0 ∗ Tok c 0 1 ∗ Tok c 1 0 ∗ Tok c 1 1) ∗ (Wr c 0 0 ∗ Wr c 0 1 ∗ Wr c 1 0 ∗ Wr c 1 1)
      ∗ (As c 0 0 ∗ As c 0 1 ∗ As c 1 0 ∗ As c 1 1)
      ∗ pt c (rsM 0 c) fullShare fr ∗ pt c (rsM 1 c) fullShare fr ∗ pt c (agM 0 c) fullShare fa ∗ pt c (agM 1 c) fullShare fa
      ∗ pt c (redM 0) fullShare fd ∗ pt c (redM 1) fullShare fd
      ∗ inMem c I ∗ partMem c f ∗ outMem c fo ∗ Owns c ∗ K))
  refine (Entails.of_eq ?_).trans (h.trans (Entails.of_eq ?_))
  · rw [rs_halves, red_halves, rs_split, rs_split, ag_split, open_eq]
    unfold Dealt Owns
    simp only [dutyTok_eq, tok_eq, wr_eq]
    ac_rfl
  · unfold Start
    rw [barRes_fw, barRes_eq]
    ac_rfl

/-! ## After the body -/

/-- The round each cell has come to: the own receive cells are still at their start. -/
def done (c : Dev nD) (j : Fin 60) : ℕ := match role j with
  | .send _ _ _ => 1
  | .recv _ _ o => if o = c then 0 else 1

theorem done_part (c : Dev nD) (φ t : Fin 2) :
    part c φ t (fun j => atPos ER (cel c j) (done c j) ∅ 0)
      = (iprop(Ad c φ t ∗ atPos ER (cel c (recvJ φ t c)) 0 ∅ 0 ∗ Ar c φ t) : sProp 𝕄) := by
  have hs : ∀ k, done c (sendJ φ t k) = 1 := fun k => by unfold done; rw [role_send]
  have ho : done c (recvJ φ t c) = 0 := by unfold done; rw [role_recv]; exact if_pos rfl
  have hr : ∀ k, done c (recvJ φ t (peer c k)) = 1 := fun k => by
    unfold done; rw [role_recv]; exact if_neg (peer_ne c k)
  unfold part
  simp only [hs, ho, hr]
  rfl

/-- No cell has a duty from the round it has come to. -/
theorem done_duties (c : Dev nD) (j : Fin 60) (r : ℕ) (h : done c j ≤ r) : (talk PT RD).duties (cel c j) r = ∅ := by
  by_cases h1 : 1 ≤ r
  · exact duties_later PT RD _ r h1
  · obtain rfl : r = 0 := by omega
    have h0 : done c j = 0 := Nat.le_zero.mp h
    rw [duties_cel]
    unfold done at h0
    unfold roleDuty
    split at h0
    · exact absurd h0 Nat.one_ne_zero
    · next e =>
      split at h0
      · next e' => simp only [e, e', if_true]
      · exact absurd h0 Nat.one_ne_zero

/-- Closing the cells and the barrier. -/
theorem close_all :
    iprop(Recs PT RD κ ∗ atPos ER (barCel c) 1 ∅ 0 ∗ (Ar c 0 0 ∗ Ar c 0 1 ∗ Ar c 1 0 ∗ Ar c 1 1)
        ∗ (Ad c 0 0 ∗ Ad c 0 1 ∗ Ad c 1 0 ∗ Ad c 1 1) ∗ Owns c)
      ⊢ (|={Set.univ}=> iprop((bigSep Finset.univ fun j => semVal (cel c j) 0) ∗ semVal (barCel c) 0) : sProp 𝕄) := by
  have e : (bigSep Finset.univ fun j => atPos ER (cel c j) (done c j) ∅ 0)
      = (iprop((Ad c 0 0 ∗ atPos ER (cel c (recvJ 0 0 c)) 0 ∅ 0 ∗ Ar c 0 0)
        ∗ (Ad c 0 1 ∗ atPos ER (cel c (recvJ 0 1 c)) 0 ∅ 0 ∗ Ar c 0 1)
        ∗ (Ad c 1 0 ∗ atPos ER (cel c (recvJ 1 0 c)) 0 ∅ 0 ∗ Ar c 1 0)
        ∗ (Ad c 1 1 ∗ atPos ER (cel c (recvJ 1 1 c)) 0 ∅ 0 ∗ Ar c 1 1)) : sProp 𝕄) := by
    rw [cells_split c, done_part, done_part, done_part, done_part]
  unfold Owns Own
  iintro ⟨#HR, Hb, ⟨Hr0, Hr1, Hr2, Hr3⟩, ⟨Hs0, Hs1, Hs2, Hs3⟩, ⟨Ho0, -⟩, ⟨Ho1, -⟩, ⟨Ho2, -⟩, Ho3, -⟩
  ihave HB := (Recs_bar (PT := PT) (RD := RD) κ c) $$ HR
  icases HB with ⟨HBi, -⟩
  imod (Rounds.cell_close ER (talk PT RD) (Set.mem_univ (κ (barCel c))) id (fun r h => duties_later PT RD (barCel c) r h)) $$ [HBi Hb] with Hb0
  · isplitl [HBi] <;> iassumption
  imod (Rounds.cells_close ER (talk PT RD) Finset.univ (fun j => cel c j) (fun j => κ (cel c j)) (fun j _ => Set.mem_univ _) (fun j _ => id)
    (done c) (fun j _ r h => done_duties (PT := PT) (RD := RD) c j r h)) $$ [Hr0 Hr1 Hr2 Hr3 Hs0 Hs1 Hs2 Hs3 Ho0 Ho1 Ho2 Ho3] with HS
  · iapply (bigSep_with_persistent (R := Recs PT RD κ) (Φ := fun j => atPos ER (cel c j) (done c j) ∅ 0) fun j _ =>
      sep_mono_left (Recs_cel PT RD κ c j))
    isplitr; · iexact HR
    iapply (Entails.of_eq e.symm)
    iframe
  imodintro
  isplitl [HS] <;> iassumption

end Cert.KernelIdeal.Talk
-- ==== Proof.Region.lean ====
module

public import proofs.«01_k».proof.Proof.Opened
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit.Geometry

/-! The kernel as a region of the program: what it is entered with and left with, and that its body keeps this. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

open Idealize.ShloMosaic.Pipeline (Dat Seg HostSeg RegionSeg BodyObligation)

variable (m : (ℓ : Loc nD τ sig) → Buf (Elt F) ℓ)

/-- What device `c` is given. -/
def inp (c : Dev nD) : In F where
  x := V1 m c (Proc.devRef .tc main_arg0)
  k := V1 m c (Proc.devRef .tc main_v15)
  v := V1 m c (Proc.devRef .tc main_v16)
  wq := V1 m c (Proc.devRef .tc main_v9)
  wo := V1 m c (Proc.devRef .tc main_v14)

/-- Every device's partial product. -/
def PTm : Dev nD → S256x512.Idx → Elt F .bf16 := fun c => PART (inp m c)

/-- Every device's reduced strips. -/
def RDm : Dev nD → S2x16x512.Idx → Elt F .bf16 := fun c => RED (RS (PTm m) c)

/-- The result, the same on every device. -/
def RES : S2x128x512.Idx → Elt F .f32 := OUT (AG (RDm m))

/-- What every device holds after the program. -/
def outs : Outs (F := F) := fun _ r c =>
  if h : r = main_v17 then h ▸ (RES m) else V1 m c (Proc.devRef .tc r)

/-- What is dealt to device `c`, with the records. -/
def Kept (c : Dev nD) : sProp 𝕄 :=
  iprop(∃ κ, Recs (PTm m) (RDm m) κ ∗ Dealt c ∗ bigSep Finset.univ fun j => openTok ER (cel c j))

/-- The same with the cells opened. -/
def Opened (c : Dev nD) : sProp 𝕄 := iprop(∃ κ, Recs (PTm m) (RDm m) κ ∗ Dealt c ∗ Open c)

/-- The scoped buffers no window stages. -/
abbrev rest (c : Dev nD) : sProp 𝕄 :=
  Pipeline.scopedRest (Ix := Unit) (Name := ℕ) (U := UU) (Lvl := ℕ) (Val := Elt F) spec0 c

/-- What the body is entered with. -/
def Enter (c : Dev nD) : sProp 𝕄 := iprop(rest c ∗ (∃ r, prngReg c r) ∗ Opened m c)

/-- What the body leaves: the scoped buffers, the generator, every counter at zero. -/
def Leave (c : Dev nD) : sProp 𝕄 :=
  iprop(rest (F := F) c ∗ (∃ r, prngReg c r) ∗ (bigSep Finset.univ fun j => semVal (cel c j) 0) ∗ semVal (barCel c) 0)

/-- The region's invariants, what the body leaves in the windows and what is owed. -/
def dat (c : Dev nD) : Dat τ (Elt F) Unit ℕ UU ℕ cfg0 c where
  A w := V1 m c (Proc.devRef .tc (Pipeline.arrRef spec0 w))
  after := fun
    | 0 => fun _ => (inp m c).x
    | 1 => fun _ => (inp m c).k
    | 2 => fun _ => (inp m c).v
    | 3 => fun _ => (inp m c).wq
    | 4 => fun _ => (inp m c).wo
    | 5 => fun _ => RES m
    | ⟨_ + 6, h⟩ => absurd h (Nat.not_lt.2 (Nat.le_add_left _ _))
  Φ t := if t.val = 0 then Enter m c else Leave c
  q _ := fullShare
  owed t := if t.val = 0 then dues c owed else 0

abbrev pdats : (p : Fin 1) → (c : Dev nD) → Dat τ (Elt F) Unit ℕ UU ℕ (Pipeline.pin (pcfgs (F := F)) adm p) c :=
  fun | 0 => fun c => dat m c | ⟨_ + 1, h⟩ => absurd h (Nat.not_lt.2 (Nat.le_add_left _ _))

theorem dat_start (c : Dev nD) : (dat m c).Φ t0_0.castSucc = Enter m c := by
  show (if (t0_0.castSucc : Fin (cfg0.N + 1)).val = 0 then Enter m c else Leave c) = _
  exact if_pos rfl

theorem dat_end (c : Dev nD) : (dat m c).Φ t0_0.succ = Leave c := by
  show (if (t0_0.succ : Fin (cfg0.N + 1)).val = 0 then Enter m c else Leave c) = _
  exact if_neg (by rw [Fin.val_succ]; exact Nat.succ_ne_zero _)

theorem owed_start (c : Dev nD) : (dat m c).owed t0_0.castSucc = dues c owed := by
  show (if (t0_0.castSucc : Fin (cfg0.N + 1)).val = 0 then dues c owed else 0) = _
  exact if_pos rfl

theorem owed_end (c : Dev nD) : (dat m c).owed t0_0.succ = 0 := by
  show (if (t0_0.succ : Fin (cfg0.N + 1)).val = 0 then dues c owed else 0) = _
  exact if_neg (by rw [Fin.val_succ]; exact Nat.succ_ne_zero _)

theorem last_eq : (Fin.last cfg0.N) = t0_0.succ := Fin.ext (by
  rw [Fin.val_last, Fin.val_succ, show cfg0.N = 1 from N_0]; rfl)

/-- What is owed, out of a point's account. -/
theorem owes_of {c : Dev nD} {t : Fin (cfg0.N + 1)} {O : CellTallies nD τ sig Unit} (h : (dat m c).owed t = O) :
    ((dat m c).owesAt () t : sProp 𝕄) ⊢ iprop(∃ W, owes (c : Thread nD τ) O W) := by
  unfold Dat.owesAt Pipeline.owesWithin
  rw [h]
  iintro ⟨%W, -, H⟩
  iexists W
  iexact H

/-- A point's account, out of what is owed. -/
theorem of_owes {c : Dev nD} {t : Fin (cfg0.N + 1)} {O : CellTallies nD τ sig Unit} (h : (dat m c).owed t = O) :
    iprop(∃ W, owes (c : Thread nD τ) O W) ⊢ ((dat m c).owesAt () t : sProp 𝕄) := by
  unfold Dat.owesAt Pipeline.owesWithin Dat.bound
  rw [h]
  iintro ⟨%W, H⟩
  iexists W
  isplitr
  · ipureintro; exact fun _ _ => Or.inl trivial
  iexact H

/-! ## The windows hold the whole arrays -/

theorem index_0 : ∀ a, win0_0.index t0_0 a = 0 := by decide +kernel
theorem index_1 : ∀ a, win0_1.index t0_0 a = 0 := by decide +kernel
theorem index_2 : ∀ a, win0_2.index t0_0 a = 0 := by decide +kernel
theorem index_3 : ∀ a, win0_3.index t0_0 a = 0 := by decide +kernel
theorem index_4 : ∀ a, win0_4.index t0_0 a = 0 := by decide +kernel

theorem before_0 (c : Dev nD) (d) : (dat m c).before 0 t0_0 d = (inp m c).x :=
  ((dat m c).before_fetched 0 t0_0 (fetch0_0 _) d).trans (funext fun y => congrArg (inp m c).x (by
    funext a; apply Fin.ext; fin_cases a <;> (blk_simp; rw [index_0, Nat.zero_mul, Nat.zero_add])))
theorem before_1 (c : Dev nD) (d) : (dat m c).before 1 t0_0 d = (inp m c).k :=
  ((dat m c).before_fetched 1 t0_0 (fetch0_1 _) d).trans (funext fun y => congrArg (inp m c).k (by
    funext a; apply Fin.ext; fin_cases a <;> (blk_simp; rw [index_1, Nat.zero_mul, Nat.zero_add])))
theorem before_2 (c : Dev nD) (d) : (dat m c).before 2 t0_0 d = (inp m c).v :=
  ((dat m c).before_fetched 2 t0_0 (fetch0_2 _) d).trans (funext fun y => congrArg (inp m c).v (by
    funext a; apply Fin.ext; fin_cases a <;> (blk_simp; rw [index_2, Nat.zero_mul, Nat.zero_add])))
theorem before_3 (c : Dev nD) (d) : (dat m c).before 3 t0_0 d = (inp m c).wq :=
  ((dat m c).before_fetched 3 t0_0 (fetch0_3 _) d).trans (funext fun y => congrArg (inp m c).wq (by
    funext a; apply Fin.ext; fin_cases a <;> (blk_simp; rw [index_3, Nat.zero_mul, Nat.zero_add])))
theorem before_4 (c : Dev nD) (d) : (dat m c).before 4 t0_0 d = (inp m c).wo :=
  ((dat m c).before_fetched 4 t0_0 (fetch0_4 _) d).trans (funext fun y => congrArg (inp m c).wo (by
    funext a; apply Fin.ext; fin_cases a <;> (blk_simp; rw [index_4, Nat.zero_mul, Nat.zero_add])))

/-- The result's array after the region. -/
theorem arrAt_5 (c : Dev nD) : (dat m c).arrAt 5 cfg0.N = RES m := by
  refine (dat m c).arrAt_eq_of_after_last 5 t0_0 (by decide +kernel) _ fun j => ?_
  rfl

/-! ## The body -/

/-- The scoped buffers again, out of what the body leaves in them. -/
theorem rest_of (PT : Dev nD → S256x512.Idx → Elt F .bf16) (RD : Dev nD → S2x16x512.Idx → Elt F .bf16) (c : Dev nD) :
    iprop(partMem c (PT c) ∗ (rsAll c 0 (RS PT c) ∗ rsAll c 1 (RS PT c))
      ∗ (pt c (redM 0) fullShare (RD c) ∗ pt c (redM 1) fullShare (RD c)) ∗ agAll c (AG RD)) ⊢ (rest c : sProp 𝕄) := by
  rw [← rs_halves, ← red_halves, rest, scopedRest0_eq]
  iintro ⟨H0, H1, H2, H3⟩
  isplitl [H0]; · iexists PT c; iexact H0
  isplitl [H1]; · iexists RS PT c; iexact H1
  isplitl [H2]; · iexists RD c; iexact H2
  iexists AG RD; iexact H3

theorem wpc_fupd {α : Type} {p : Prog (TpuEff nD τ sig (Elt F) Λ₀ .tc) α} {Q : α → sProp (MT nD τ sig Unit (Elt F) ℕ UU ℕ)} :
    wpc c p (fun a => iprop(|={Set.univ}=> Q a)) ⊢ wpc c p Q := by
  unfold wpc
  exact wp_fupd _ _ _ _ _

theorem body_at : (bodyAt0 t0_0 : Prog (TpuEff nD τ sig (Elt F) Λ₀ .tc) PUnit) = ap cc0__body := rfl

theorem body_def : defs₀ (F := F) .tc cfg0.body (cfg0.bodyArgs t0_0 (cfg0.slots t0_0)) = bodyAt0 t0_0 := rfl

/-- The body's run, from what the region hands it to what it leaves, the counters closed at the end. -/
theorem body_held (c : Dev nD) :
    iprop(Enter m c ∗ (dat m c).owesAt () t0_0.castSucc
        ∗ (∃ d, ((c : Thread nD τ).loc cc0_stg0_0) ↦{fullShare} (dat m c).before 0 t0_0 d)
        ∗ (∃ d, ((c : Thread nD τ).loc cc0_stg1_0) ↦{fullShare} (dat m c).before 1 t0_0 d)
        ∗ (∃ d, ((c : Thread nD τ).loc cc0_stg2_0) ↦{fullShare} (dat m c).before 2 t0_0 d)
        ∗ (∃ d, ((c : Thread nD τ).loc cc0_stg3_0) ↦{fullShare} (dat m c).before 3 t0_0 d)
        ∗ (∃ d, ((c : Thread nD τ).loc cc0_stg4_0) ↦{fullShare} (dat m c).before 4 t0_0 d)
        ∗ (∃ d, ((c : Thread nD τ).loc cc0_stg5_0) ↦{fullShare} (dat m c).before 5 t0_0 d))
      ⊢ wpc c (ap cc0__body) (fun _ => iprop(|={Set.univ}=> iprop(Leave c ∗ (dat m c).owesAt () t0_0.succ
        ∗ inMem c (inp m c) ∗ outMem c (RES m)))) := by
  unfold Enter Opened
  rw [rest, scopedRest0_eq]
  simp only [before_0, before_1, before_2, before_3, before_4]
  iintro ⟨⟨⟨⟨%f, Hp⟩, ⟨%fr, Hr⟩, ⟨%fd, Hd⟩, ⟨%fa, Ha⟩⟩, Hg, ⟨%κ, #HR, HD, HO⟩⟩, Hw, ⟨%d0, H0⟩, ⟨%d1, H1⟩, ⟨%d2, H2⟩, ⟨%d3, H3⟩, ⟨%d4, H4⟩, ⟨%d5, H5⟩⟩
  ihave HW := (owes_of m (owed_start m c)) $$ Hw
  have hfin : St (PTm m) (RDm m) κ c [] (Finish (PTm m) (RDm m) c (inp m c) iprop(Owns c ∗ ∃ r, prngReg c r))
      ⊢ (|={Set.univ}=> iprop(Leave c ∗ (dat m c).owesAt () t0_0.succ ∗ inMem c (inp m c) ∗ outMem c (RES m)) : sProp 𝕄) := by
    unfold St Finish
    iintro ⟨#HR, HW, HI, HP, Hs0, Hs1, Hd0, Hd1, HA, HU, Hb, Hr0, Hr1, Hr2, Hr3, Ha0, Ha1, Ha2, Ha3, HO, Hg⟩
    imod (close_all (PT := PTm m) (RD := RDm m) (κ := κ) (c := c)) $$ [Hb Hr0 Hr1 Hr2 Hr3 Ha0 Ha1 Ha2 Ha3 HO] with ⟨Hz, Hz0⟩
    · isplitr; · iexact HR
      iframe
    imodintro
    isplitr [HW HI HU]
    · unfold Leave
      isplitl [HP Hs0 Hs1 Hd0 Hd1 HA]
      · iapply (rest_of (PTm m) (RDm m) c)
        iframe
      iframe
    isplitl [HW]
    · iapply (of_owes m (owed_end m c)); iexact HW
    isplitl [HI]; · iexact HI
    iexact HU
  iapply (body_run (PT := PTm m) (RD := RDm m) (κ := κ) (c := c) (I := inp m c) (K := iprop(Owns c ∗ ∃ r, prngReg c r))
    (f := f) (fr := fr) (fa := fa) (fd := fd) (fo := (dat m c).before 5 t0_0 d5) rfl rfl hfin)
  unfold St
  isplitr; · iexact HR
  isplitl [HW]; · iexact HW
  iapply (start_of (F := F))
  unfold inMem outMem
  iframe

theorem whole_0 (c : Dev nD) (f) : owns c (st0_0 t0_0) fullShare f = (((c : Thread nD τ).loc cc0_stg0_0) ↦{fullShare} f : sProp 𝕄) :=
  owns_whole (c : Thread nD τ) cc0_stg0_0 fullShare f
theorem whole_1 (c : Dev nD) (f) : owns c (st0_1 t0_0) fullShare f = (((c : Thread nD τ).loc cc0_stg1_0) ↦{fullShare} f : sProp 𝕄) :=
  owns_whole (c : Thread nD τ) cc0_stg1_0 fullShare f
theorem whole_2 (c : Dev nD) (f) : owns c (st0_2 t0_0) fullShare f = (((c : Thread nD τ).loc cc0_stg2_0) ↦{fullShare} f : sProp 𝕄) :=
  owns_whole (c : Thread nD τ) cc0_stg2_0 fullShare f
theorem whole_3 (c : Dev nD) (f) : owns c (st0_3 t0_0) fullShare f = (((c : Thread nD τ).loc cc0_stg3_0) ↦{fullShare} f : sProp 𝕄) :=
  owns_whole (c : Thread nD τ) cc0_stg3_0 fullShare f
theorem whole_4 (c : Dev nD) (f) : owns c (st0_4 t0_0) fullShare f = (((c : Thread nD τ).loc cc0_stg4_0) ↦{fullShare} f : sProp 𝕄) :=
  owns_whole (c : Thread nD τ) cc0_stg4_0 fullShare f
theorem whole_5 (c : Dev nD) (f) : owns c (st0_5 t0_0) fullShare f = (((c : Thread nD τ).loc cc0_stg5_0) ↦{fullShare} f : sProp 𝕄) :=
  owns_whole (c : Thread nD τ) cc0_stg5_0 fullShare f

/-- The same with the staging buffers as the pipeline names them. -/
theorem body_staged (c : Dev nD) :
    iprop(Enter m c ∗ (dat m c).owesAt () t0_0.castSucc
        ∗ (∃ d, owns c (st0_0 t0_0) fullShare ((dat m c).before 0 t0_0 d)) ∗ (∃ d, owns c (st0_1 t0_0) fullShare ((dat m c).before 1 t0_0 d))
        ∗ (∃ d, owns c (st0_2 t0_0) fullShare ((dat m c).before 2 t0_0 d)) ∗ (∃ d, owns c (st0_3 t0_0) fullShare ((dat m c).before 3 t0_0 d))
        ∗ (∃ d, owns c (st0_4 t0_0) fullShare ((dat m c).before 4 t0_0 d)) ∗ (∃ d, owns c (st0_5 t0_0) fullShare ((dat m c).before 5 t0_0 d)))
      ⊢ wpc c (ap cc0__body) (fun _ => iprop(Leave c ∗ (dat m c).owesAt () t0_0.succ
        ∗ owns c (st0_0 t0_0) fullShare ((dat m c).after 0 t0_0) ∗ owns c (st0_1 t0_0) fullShare ((dat m c).after 1 t0_0)
        ∗ owns c (st0_2 t0_0) fullShare ((dat m c).after 2 t0_0) ∗ owns c (st0_3 t0_0) fullShare ((dat m c).after 3 t0_0)
        ∗ owns c (st0_4 t0_0) fullShare ((dat m c).after 4 t0_0) ∗ owns c (st0_5 t0_0) fullShare ((dat m c).after 5 t0_0))) := by
  simp only [whole_0, whole_1, whole_2, whole_3, whole_4, whole_5]
  refine (body_held m c).trans (wpc_fupd.trans (Entails.of_eq ?_))
  refine congrArg (wpc c (ap cc0__body)) (funext fun _ => ?_)
  unfold inMem outMem
  show _ = iprop(Leave c ∗ (dat m c).owesAt () t0_0.succ
    ∗ (((c : Thread nD τ).loc cc0_stg0_0) ↦{fullShare} (inp m c).x) ∗ (((c : Thread nD τ).loc cc0_stg1_0) ↦{fullShare} (inp m c).k)
    ∗ (((c : Thread nD τ).loc cc0_stg2_0) ↦{fullShare} (inp m c).v) ∗ (((c : Thread nD τ).loc cc0_stg3_0) ↦{fullShare} (inp m c).wq)
    ∗ (((c : Thread nD τ).loc cc0_stg4_0) ↦{fullShare} (inp m c).wo) ∗ (((c : Thread nD τ).loc cc0_stg5_0) ↦{fullShare} RES m))
  ac_rfl

/-- The body keeps the region's invariants. -/
theorem body_ok (c : Dev nD) : BodyObligation (dat m c) defs₀ 𝒱₀ () Set.univ := fun t => by
  obtain rfl := fin_N0 t
  rw [bigSep_W0, bigSep_W0, dat_start, dat_end, body_def, body_at]
  have h := body_staged m c
  unfold wpc at h
  generalize (ap cc0__body : Prog (TpuEff nD τ sig (Elt F) Λ₀ .tc) PUnit) = p at h ⊢
  exact h

end Cert.KernelIdeal.Talk
-- ==== Proof.Talk.lean ====
module

public import proofs.«01_k».proof.Proof.Region
public import Idealize.ShloMosaic.Lib.Rounds.Family
public import Idealize.ShloMosaic.Lib.Pipeline.RegionArrays

/-! The kernel's region among the program's segments. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

open Idealize.ShloMosaic.Pipeline (Dat Seg HostSeg RegionSeg BodyObligation)

variable (m : (ℓ : Loc nD τ sig) → Buf (Elt F) ℓ)

/-- The arrays no window of the kernel reads or writes. -/
def others : Finset (DevRef τ sig) := Pipeline.ucRefs τ sig \ Pipeline.arrRefs (τ := τ) spec0

theorem arr_sub : Pipeline.arrRefs (τ := τ) spec0 ⊆ Pipeline.ucRefs τ sig :=
  Pipeline.arrRefs_sub_ucRefs spec0 (by decide)

/-- What is kept, once the kernel's own counters are at zero, with its cells opened. -/
theorem kept_open (c : Dev nD) :
    iprop(Kept m c ∗ Pipeline.ownSems0 osem c ∗ levAts L lv) ⊢ (|={Set.univ}=> Opened m c : sProp 𝕄) := by
  unfold Kept Opened Open Pipeline.ownSems0
  iintro ⟨⟨%κ, #HR, HD, HO⟩, Hs, -⟩
  ihave Hi := (bigSep_with_persistent (R := Recs (PTm m) (RDm m) κ) (S := Finset.univ)
    (Φ := fun j : Fin 60 => openTok ER (cel c j))
    (Ψ := fun j : Fin 60 => iprop(cellInv ER (talk (PTm m) (RDm m)) (κ (cel c j)) (cel c j) ∗ openTok ER (cel c j)))
    fun j _ => sep_mono_left (Recs_cel (PTm m) (RDm m) κ c j)) $$ [HO]
  · isplitr
    · iexact HR
    · iexact HO
  imod (Rounds.cells_open ER (talk (PTm m) (RDm m)) Finset.univ (fun j => cel c j) (fun j => κ (cel c j))
    (fun j _ => Set.mem_univ _)) $$ [Hi Hs] with Ho
  · isplitl [Hi]
    · iexact Hi
    · iexact Hs
  imodintro
  iexists κ
  isplitr
  · iexact HR
  isplitl [HD]
  · iexact HD
  · iexact Ho

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The staging cells have the lowest level. -/
theorem lv_stage (c : Dev nD) : ∀ (w : Fin 6) (s : Fin (spec0 w).nbuf), lv ((c : Thread nD τ), .dma ((spec0 w).sem s)) () = 0 := by
  have h : ∀ (w : Fin 6) (s : Fin (spec0 w).nbuf), roleOf ((spec0 w).sem s) = none := by decide
  intro w s
  show (match roleOf _ with | some (.recv φ _ _) => φ.val + 2 | _ => 0) = _
  rw [h]

/-- Whatever the kernel owes lies above the staging cells. -/
theorem owed_cut (c : Dev nD) (t : Fin (cfg0.N + 1)) (g : GSem nD τ sig) (i : Unit) (h : 0 < (dat m c).owed t g i) :
    i ∈ L g ∧ 0 < lv g i := by
  have e : (dat m c).owed t = if t.val = 0 then dues c owed else 0 := rfl
  rw [e] at h
  split at h
  · obtain ⟨x, -, rfl⟩ := dues_pos c owed g i h
    rw [L_cell, lv_cell]
    refine ⟨Finset.mem_singleton_self _, ?_⟩
    cases x
    · exact Nat.one_pos
    · exact Nat.succ_pos _
  · exact absurd h (Nat.lt_irrefl 0)

/-- The arrays before the region. -/
theorem arr_start (c : Dev nD) (w : Fin 6) : (dat m c).arrAt w 0 = V1 m c (Proc.devRef .tc (Pipeline.arrRef spec0 w)) := rfl

/-- The arrays after it. -/
theorem arr_end (c : Dev nD) (w : Fin 6) :
    (dat m c).arrAt w cfg0.N = V2 m (outs m) c (Proc.devRef .tc (Pipeline.arrRef spec0 w)) := by
  revert w
  refine Fin.forall_fin_succ.2 ⟨?_, Fin.forall_fin_succ.2 ⟨?_, Fin.forall_fin_succ.2 ⟨?_, Fin.forall_fin_succ.2 ⟨?_, Fin.forall_fin_succ.2 ⟨?_, Fin.forall_fin_succ.2 ⟨?_, fun w => w.elim0⟩⟩⟩⟩⟩⟩
  · exact ((dat m c).arrAt_in 0 rfl _).trans (V2_of m (outs m) c main_arg0 (by decide)).symm
  · exact ((dat m c).arrAt_in 1 rfl _).trans (V2_of m (outs m) c main_v15 (by decide)).symm
  · exact ((dat m c).arrAt_in 2 rfl _).trans (V2_of m (outs m) c main_v16 (by decide)).symm
  · exact ((dat m c).arrAt_in 3 rfl _).trans (V2_of m (outs m) c main_v9 (by decide)).symm
  · exact ((dat m c).arrAt_in 4 rfl _).trans (V2_of m (outs m) c main_v14 (by decide)).symm
  · refine (arrAt_5 m c).trans ?_
    exact (Function.update_self (f := V1 m c) (Proc.devRef .tc main_v17) (RES m)).symm

/-- Off the arrays nothing changes. -/
theorem rest_end (c : Dev nD) (b : DevRef τ sig) (h : b ∈ others) : V2 m (outs m) c b = V1 m c b := by
  refine Function.update_of_ne ?_ _ _
  rintro rfl
  refine (Finset.mem_sdiff.1 h).2 ?_
  exact Finset.mem_map.2 ⟨main_v17, Finset.mem_image.2 ⟨5, Finset.mem_univ _, rfl⟩, rfl⟩

theorem held_none (c : Dev nD) (W : Valuation τ sig (Elt F)) : (StableHlo.held (c.tc : Thread nD τ) ∅ W : sProp 𝕄) = BI.emp := by
  unfold StableHlo.held
  exact BI.bigSep_empty

theorem enter_of (c : Dev nD) : iprop(rest c ∗ (∃ r, prngReg c r) ∗ StableHlo.held (c.tc : Thread nD τ) ∅ (V1 m c) ∗ Opened m c)
    ⊢ (Enter m c : sProp 𝕄) := by
  rw [held_none, Enter]
  iintro ⟨H1, H2, -, H3⟩
  isplitl [H1]
  · iexact H1
  isplitl [H2]
  · iexact H2
  · iexact H3

theorem of_leave (c : Dev nD) : Leave c
    ⊢ (iprop(rest c ∗ (∃ r, prngReg c r) ∗ StableHlo.held (c.tc : Thread nD τ) ∅ (V2 m (outs m) c) ∗ Pipeline.ownSems0 osem c
        ∗ semVal (barCel c) 0) : sProp 𝕄) := by
  rw [held_none, Leave, Pipeline.ownSems0]
  iintro ⟨H1, H2, H3, H4⟩
  isplitl [H1]
  · iexact H1
  isplitl [H2]
  · iexact H2
  isplitr
  · iempintro
  isplitl [H3]
  · iexact H3
  · iexact H4

theorem own_facts : Pipeline.OwnSemFacts spec0 osem := ⟨by decide, osem_inj, by decide⟩

set_option backward.isDefEq.respectTransparency.types false in
/-- The region. -/
def reg0 : RegionSeg (pcfgs (F := F)) adm (pdats m) () defs₀ 𝒱₀ L lv 0 :=
  RegionSeg.ofTalk (pcfgs (F := F)) adm (pdats m) () defs₀ 𝒱₀ L lv 0 osem own_facts
    ∅ others (Finset.empty_subset _) kit0 rfl (fun c => (body_ok m c).loose)
    (fun _ => 0) (fun c => dues c owed) (fun c => (owed_start m c).trans (zero_add _).symm)
    (fun c => (congrArg (dat m c).owed last_eq).trans (owed_end m c)) (fun _ => rfl)
    (fun c w => by fin_cases w <;> rfl)
    (V1 m) (V2 m (outs m)) (fun c b hb => rest_end m c b (Finset.mem_sdiff.1 hb).1)
    (Kept m) (fun c => semVal (barCel c) 0) (Opened m) (fun c => semVal (barCel c) 0) (kept_open m)
    (fun c => (enter_of m c).trans (Entails.of_eq (dat_start m c).symm))
    (fun c => (Entails.of_eq ((congrArg (dat m c).Φ last_eq).trans (dat_end m c))).trans (of_leave m c))
    (fun c => by iintro H; imodintro; iexact H)
    (fun _ => 0)
    ⟨fun c w s => by rw [L_tc]; exact Finset.mem_singleton_self _, fun c w s => (lv_stage c w s).le, fun c t g i h => owed_cut m c t g i h⟩
    (fun _ => iprop(emp))
    (arr_start m) (arr_end m)

/-- What rides beside the arrays up to the region. -/
def Aside (c : Dev nD) : sProp 𝕄 :=
  iprop((∃ r, prngReg c r) ∗ Kept m c ∗ ∃ W, owes (c : Thread nD τ) (dues c owed) W)

theorem reg0_pre (c : Dev nD) :
    iprop(StableHlo.held (c : Thread nD τ) (Pipeline.ucRefs τ sig) (V1 m c) ∗ Aside m c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) others (V1 m c) ∗ emp) ∗ Kept m c ∗ ∃ Wd, owes (c : Thread nD τ) (0 + dues c owed) Wd)
  rw [zero_add, StableHlo.held_sub_split (c.tc : Thread nD τ) arr_sub (V1 m c)]
  unfold Aside
  iintro ⟨⟨Ha, Ho⟩, Hp, HK, HO⟩
  isplitl [Ha]
  · iexact Ha
  isplitl [Hp]
  · iexact Hp
  isplitl [Ho]
  · isplitl [Ho]
    · iexact Ho
    · iempintro
  isplitl [HK]
  · iexact HK
  · iexact HO

theorem reg0_post (c : Dev nD) : (reg0 m).post c
    ⊢ iprop((StableHlo.held (c : Thread nD τ) (Pipeline.ucRefs τ sig) (V2 m (outs m) c) ∗ semVal (barCel c) 0)
        ∗ ∃ W, owes (c : Thread nD τ) (0 : CellTallies nD τ sig Unit) W) := by
  show iprop(StableHlo.held (c.tc : Thread nD τ) (Pipeline.arrRefs (τ := τ) (pcfgs (F := F) 0).spec) (V2 m (outs m) c) ∗ (∃ r, prngReg c r)
    ∗ (StableHlo.held (c.tc : Thread nD τ) others (V2 m (outs m) c) ∗ emp) ∗ semVal (barCel c) 0
    ∗ ∃ Wd, owes (c : Thread nD τ) (0 : CellTallies nD τ sig Unit) Wd) ⊢ (_ : sProp 𝕄)
  rw [StableHlo.held_sub_split (c.tc : Thread nD τ) arr_sub (V2 m (outs m) c)]
  iintro ⟨Ha, -, ⟨Ho, -⟩, Hb, HO⟩
  isplitl [Ha Ho Hb]
  · isplitl [Ha Ho]
    · isplitl [Ha]
      · iexact Ha
      · iexact Ho
    · iexact Hb
  · iexact HO

end Cert.KernelIdeal.Talk
-- ==== Proof.Launch.lean ====
module

public import proofs.«01_k».proof.Proof.Talk
public import Idealize.ShloMosaic.Lib.Pipeline.Regions

/-! What the launch deals: the cells, the rights to raise them and the credits. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

variable (m : (ℓ : Loc nD τ sig) → Buf (Elt F) ℓ)

/-! ## The cells -/

def barEmb : Dev nD ↪ GSem nD τ sig := ⟨barCel, fun _ _ h => congrArg (fun g : GSem nD τ sig => g.1.1) h⟩

def celEmb : Dev nD × Fin 60 ↪ GSem nD τ sig :=
  ⟨fun x => cel x.1 x.2, fun _ _ h =>
    Prod.ext (congrArg (fun g : GSem nD τ sig => g.1.1) h) (osem_inj (congrArg Prod.snd h))⟩

/-- The barriers. -/
def bars : Finset (GSem nD τ sig) := Finset.univ.map barEmb

/-- The kernel's own cells. -/
def cels : Finset (GSem nD τ sig) := Finset.univ.map celEmb

theorem bars_cels : Disjoint bars cels := by
  rw [Finset.disjoint_left]
  rintro g h₁ h₂
  obtain ⟨c, -, rfl⟩ := Finset.mem_map.mp h₁
  obtain ⟨x, -, h⟩ := Finset.mem_map.mp h₂
  have h' : osem x.2 = barS := congrArg Prod.snd h
  cases h'

/-! ## The rights to raise them -/

/-- What one device may raise: barriers, send cells, receive cells. -/
abbrev Raise : Type := Fin 7 ⊕ ((Fin 2 × Fin 2 × Fin 7) ⊕ (Fin 2 × Fin 2 × Fin 7))

/-- Whose cell and which. -/
def raised (c : Dev nD) : Raise → GSem nD τ sig
  | .inl k => barCel (peer c k)
  | .inr (.inl (φ, t, k)) => cel c (sendJ φ t k)
  | .inr (.inr (φ, t, k)) => cel (peer c k) (recvJ φ t c)

/-- The same as a device and a cell of its own, the barrier none. -/
def raisedAt (c : Dev nD) : Raise → Dev nD × Option (Fin 60)
  | .inl k => (peer c k, none)
  | .inr (.inl (φ, t, k)) => (c, some (sendJ φ t k))
  | .inr (.inr (φ, t, k)) => (peer c k, some (recvJ φ t c))

/-- The cell a device and a number name. -/
def cellAt : Dev nD × Option (Fin 60) → GSem nD τ sig
  | (d, none) => barCel d
  | (d, some j) => cel d j

theorem cellAt_inj : Function.Injective cellAt := by
  rintro ⟨d, _ | i⟩ ⟨e, _ | j⟩ h
  · exact Prod.ext (congrArg (fun g : GSem nD τ sig => g.1.1) h) rfl
  · have h' : barS = osem j := congrArg Prod.snd h
    cases h'
  · have h' : osem i = barS := congrArg Prod.snd h
    cases h'
  · exact Prod.ext (congrArg (fun g : GSem nD τ sig => g.1.1) h) (congrArg some (osem_inj (congrArg Prod.snd h)))

theorem raised_eq (c : Dev nD) (r : Raise) : raised c r = cellAt (raisedAt c r) := by
  rcases r with k | ⟨φ, t, k⟩ | ⟨φ, t, k⟩ <;> rfl

theorem raisedAt_inj : ∀ c : Dev nD, Function.Injective (raisedAt c) := by decide +kernel

theorem raised_inj (c : Dev nD) : Function.Injective (raised c) := fun r r' h =>
  raisedAt_inj c (cellAt_inj ((raised_eq c r).symm.trans (h.trans (raised_eq c r'))))

def rightEmb : Dev nD × Raise ↪ GSem nD τ sig × ℕ × Dev nD :=
  ⟨fun x => (raised x.1 x.2, 0, x.1), fun x y h => by
    obtain ⟨c, r⟩ := x
    obtain ⟨d, s⟩ := y
    have hc : c = d := congrArg (fun z : GSem nD τ sig × ℕ × Dev nD => z.2.2) h
    subst hc
    exact Prod.ext rfl (raised_inj c (congrArg Prod.fst h))⟩

/-- Every right. -/
def rights : Finset (GSem nD τ sig × ℕ × Dev nD) := Finset.univ.map rightEmb

/-- The rights of one device. -/
def Rights (c : Dev nD) : sProp 𝕄 := iprop(BarTok c ∗ DutyTok c 0 0 ∗ DutyTok c 0 1 ∗ DutyTok c 1 0 ∗ DutyTok c 1 1)

/-- The rights, device by device. -/
theorem rights_eq : bigSep rights (fun x => (dutyTok ER x.1 x.2.1 x.2.2 : sProp 𝕄)) = bigSep Finset.univ fun c : Dev nD => Rights c := by
  unfold rights
  rw [bigSep_map, bigSep_univ_prod]
  refine bigSep_congr fun c _ => ?_
  rw [bigSep_univ_sum, bigSep_univ_sum, bigSep_univ_prod, bigSep_univ_prod]
  simp only [bigSep_univ_prod, BI.bigSep_fin_two]
  unfold Rights DutyTok BarTok
  simp only [fam_sep]
  unfold fam
  dsimp only [rightEmb, Function.Embedding.coeFn_mk, raised]
  ac_rfl

/-! ## The credits -/

/-- What the other devices owe device `c`. -/
def due (c : Dev nD) : CellTallies nD τ sig Unit :=
  (∑ k : Fin 7, tallyAt (barCel c) () 1)
    + ((∑ k, tallyAt (cel c (recvJ 0 0 (peer c k))) () N) + (∑ k, tallyAt (cel c (recvJ 0 1 (peer c k))) () N)
      + (∑ k, tallyAt (cel c (recvJ 1 0 (peer c k))) () N) + (∑ k, tallyAt (cel c (recvJ 1 1 (peer c k))) () N))

/-- Device `d`'s dues, kind by kind. -/
theorem dues_eq (d : Dev nD) : dues d owed =
    (∑ k : Fin 7, tallyAt (barCel (peer d k)) () 1)
      + ((∑ k, tallyAt (cel (peer d k) (recvJ 0 0 d)) () N) + (∑ k, tallyAt (cel (peer d k) (recvJ 0 1 d)) () N)
        + (∑ k, tallyAt (cel (peer d k) (recvJ 1 0 d)) () N) + (∑ k, tallyAt (cel (peer d k) (recvJ 1 1 d)) () N)) := by
  simp only [Fin.sum_univ_seven]
  simp only [dues, Item.cell, Item.amt, zero_add]
  ac_rfl

theorem sum_peers {M : Type} [AddCommMonoid M] (c : Dev nD) (f : Dev nD → M) :
    ∑ k, f (peer c k) = ∑ d, if d = c then 0 else f d := by
  rw [← Finset.sum_erase (a := c) Finset.univ (by rw [if_pos rfl])]
  refine Finset.sum_bij (fun k _ => peer c k) (fun k _ => Finset.mem_erase.2 ⟨peer_ne c k, Finset.mem_univ _⟩)
    (fun k _ k' _ h => peer_inj c h) (fun d hd => ?_) fun k _ => (if_neg (peer_ne c k)).symm
  obtain ⟨k, hk⟩ := peer_surj c d (Finset.mem_erase.1 hd).1
  exact ⟨k, Finset.mem_univ _, hk⟩

/-- A sum over all pairs of different devices, from either side. -/
theorem sum_pairs {M : Type} [AddCommMonoid M] (X : Dev nD → Dev nD → M) :
    ∑ d, ∑ k, X (peer d k) d = ∑ c, ∑ k, X c (peer c k) := by
  simp only [fun d => sum_peers d fun e => X e d, fun c => sum_peers c fun e => X c e]
  rw [Finset.sum_comm]
  refine Finset.sum_congr rfl fun c _ => Finset.sum_congr rfl fun d _ => ?_
  simp only [eq_comm]

theorem sum_due : (∑ d, dues d owed) = ∑ c, due c := by
  simp only [dues_eq, due, Finset.sum_add_distrib]
  rw [sum_pairs (fun c _ => tallyAt (barCel c) () 1), sum_pairs (fun c d => tallyAt (cel c (recvJ 0 0 d)) () N),
    sum_pairs (fun c d => tallyAt (cel c (recvJ 0 1 d)) () N), sum_pairs (fun c d => tallyAt (cel c (recvJ 1 0 d)) () N),
    sum_pairs (fun c d => tallyAt (cel c (recvJ 1 1 d)) () N)]

theorem at_core (c : Dev nD) (sm : SemLoc sig) (n : ℕ) (g : GSem nD τ sig) (h : g.1 ≠ (c.tc : Thread nD τ)) :
    (tallyAt ((c : Thread nD τ), sm) () n : CellTallies nD τ sig Unit) g = 0 :=
  tallyAt_ne_cell (fun e => h (congrArg Prod.fst e)) () n

theorem due_core (c : Dev nD) (g : GSem nD τ sig) (h : due c g ≠ 0) : g.1 = (c.tc : Thread nD τ) := by
  by_contra hg
  refine h ?_
  unfold due barCel cel
  simp only [Pi.add_apply, Finset.sum_apply, at_core c _ _ g hg, Finset.sum_const_zero, add_zero]

theorem cred_sum (f : Fin 7 → CellTallies nD τ sig Unit) : (cred (∑ k, f k) : sProp 𝕄) = fam fun k => cred (f k) := by
  have e : ∀ T₁ T₂ : CellTallies nD τ sig Unit, (cred (T₁ + T₂) : sProp 𝕄) = iprop(cred T₁ ∗ cred T₂) :=
    fun T₁ T₂ => BI.Entails.antisymm (cred_add T₁ T₂).1 (cred_add T₁ T₂).2
  rw [Fin.sum_univ_seven, fam_eq]
  simp only [e]
  ac_rfl

/-- The credits of one device. -/
def Credits (c : Dev nD) : sProp 𝕄 := iprop(cred (tallyAt (barCel c) () 7) ∗ Cr c 0 0 ∗ Cr c 0 1 ∗ Cr c 1 0 ∗ Cr c 1 1)

theorem seven (g : GSem nD τ sig) : (∑ _k : Fin 7, tallyAt g () 1) = (tallyAt g () 7 : CellTallies nD τ sig Unit) := by
  rw [Fin.sum_univ_seven]
  simp only [tallyAt_add]

theorem credits_eq (c : Dev nD) : (Pipeline.launchCred (fun d => dues d owed) c : sProp 𝕄) = Credits c := by
  have e : ∀ T₁ T₂ : CellTallies nD τ sig Unit, (cred (T₁ + T₂) : sProp 𝕄) = iprop(cred T₁ ∗ cred T₂) :=
    fun T₁ T₂ => BI.Entails.antisymm (cred_add T₁ T₂).1 (cred_add T₁ T₂).2
  rw [Pipeline.launchCred_of_sum _ due sum_due due_core c, due, seven, e, e, e, e, cred_sum, cred_sum, cred_sum, cred_sum]
  unfold Credits Cr
  ac_rfl

/-! ## The launch -/

/-- The launch's ghost state. -/
def u₀ : UU :=
  (initOf (Pipeline.cells (Pipeline.pin (pcfgs (F := F)) adm) cellOf_inj) (Pipeline.launchToks (Pipeline.pin (pcfgs (F := F)) adm) cellOf_inj),
    launchOf bars cels rights)

/-- A proposition put on device `d`. -/
def onDev (d : Dev nD) (X : sProp 𝕄) (c : Dev nD) : sProp 𝕄 := if c = d then X else iprop(emp)

theorem onDev_all (d : Dev nD) (X : sProp 𝕄) : bigSep Finset.univ (onDev d X) = X := by
  rw [dev_split d]
  have h : (fun k => onDev d X (peer d k)) = fun _ => (BI.emp : sProp 𝕄) :=
    funext fun k => if_neg (peer_ne d k)
  rw [h, fam, BI.bigSep_emp_const, onDev, if_pos rfl]
  exact sep_emp' _

/-- The protocol's ghost state, kept on device 0 until it is dealt. -/
def Parked : Dev nD → sProp 𝕄 := onDev 0 (BI.own (ER (launchOf bars cels rights)))

theorem ghost_split : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
        ∗ bigSep Finset.univ (Parked (F := F))) := by
  unfold u₀ Parked
  iintro Hu
  ihave H := (ownU_pair _ _) $$ Hu
  icases H with ⟨HP, HX⟩
  imodintro
  isplitl [HP]
  · iexact HP
  rw [onDev_all]
  iexact HX

/-- What one device holds at the launch, beside the arrays. -/
def Hold (c : Dev nD) : sProp 𝕄 :=
  iprop((∃ r, prngReg c r) ∗ Credits c ∗ ∃ W, owes (c : Thread nD τ) (dues c owed) W)

theorem aside_of (κ : GSem nD τ sig → ℕ) (c : Dev nD) :
    iprop(Recs (PTm m) (RDm m) κ ∗ (Hold c ∗ atPos ER (barCel c) 0 ∅ 0 ∗ Rights c ∗ bigSep Finset.univ fun j => openTok ER (cel c j)))
      ⊢ (Aside m c : sProp 𝕄) := by
  unfold Hold Rights Credits Aside Kept Dealt
  iintro ⟨#HR, ⟨Hp, ⟨Hb, Hc⟩, HO⟩, Hat, ⟨HB, HD⟩, Ho⟩
  isplitl [Hp]
  · iexact Hp
  isplitr [HO]
  · iexists κ
    isplitr
    · iexact HR
    isplitr [Ho]
    · isplitl [Hat]
      · iexact Hat
      isplitl [HB]
      · iexact HB
      isplitl [HD]
      · iexact HD
      isplitl [Hb]
      · iexact Hb
      · iexact Hc
    · iexact Ho
  · iexact HO

theorem unpair {Φ Ψ : Dev nD → sProp (MT nD τ sig Unit (Elt F) ℕ UU ℕ)} :
    bigSep Finset.univ (fun c => iprop(Φ c ∗ Ψ c)) ⊢ iprop(bigSep Finset.univ Φ ∗ bigSep Finset.univ Ψ) :=
  Entails.of_eq (bigSep_sep' _ _ _)

theorem pairUp {Φ Ψ : Dev nD → sProp (MT nD τ sig Unit (Elt F) ℕ UU ℕ)} :
    iprop(bigSep Finset.univ Φ ∗ bigSep Finset.univ Ψ) ⊢ bigSep Finset.univ (fun c => iprop(Φ c ∗ Ψ c)) :=
  Entails.of_eq (bigSep_sep' _ _ _).symm

/-- The records, out of the invariants of all the cells. -/
theorem recs_of (κ : GSem nD τ sig → ℕ) :
    iprop((bigSep (bars ∪ cels) fun g => cellInv ER (talk (PTm m) (RDm m)) (κ g) g) ∗ (bigSep bars fun g => reached ER g 0) ∗ levAts L lv)
      ⊢ (Recs (PTm m) (RDm m) κ : sProp 𝕄) := by
  have hu : (bigSep (bars ∪ cels) fun g => cellInv ER (talk (PTm m) (RDm m)) (κ g) g)
      ⊢ (iprop((bigSep Finset.univ fun c => cellInv ER (talk (PTm m) (RDm m)) (κ (barCel c)) (barCel c))
        ∗ bigSep Finset.univ fun x : Dev nD × Fin 60 => cellInv ER (talk (PTm m) (RDm m)) (κ (cel x.1 x.2)) (cel x.1 x.2)) : sProp 𝕄) :=
    Entails.of_eq (by rw [bigSep_union bars_cels, bars, cels, bigSep_map, bigSep_map]; rfl)
  have hr : (bigSep bars fun g => reached ER g 0) ⊢ (bigSep Finset.univ fun c => reached ER (barCel c) 0 : sProp 𝕄) :=
    Entails.of_eq (by rw [bars, bigSep_map]; rfl)
  unfold Recs
  rw [bigSep_sep']
  iintro ⟨H, H', HL⟩
  ihave Hr := hr $$ H'
  ihave H2 := hu $$ H
  icases H2 with ⟨Hb, Hc⟩
  isplitl [Hc]
  · iexact Hc
  isplitr [HL]
  · isplitl [Hb]
    · iexact Hb
    · iexact Hr
  · iexact HL

theorem unscoped_sems (c : Dev nD) : (unscopedSems0 c : sProp 𝕄) = semVal (barCel c) 0 := by
  unfold unscopedSems0
  rw [show (Finset.univ.filter fun sm : SemLoc sig => ¬ sm.isScoped .tc) = {barS} from by decide, BI.bigSep_singleton]

/-- The launch deals every device what rides beside its arrays. -/
theorem deal (ρ : Dev nD → PrngReg) :
    iprop((bigSep Finset.univ fun c : Dev nD => iprop(unscopedSems0 c
          ∗ owes (c : Thread nD τ) (dues c owed) ∅ ∗ Pipeline.launchCred (fun d => dues d owed) c ∗ prngReg c (ρ c) ∗ Parked c)) ∗ levAts L lv)
      ⊢ (|={Set.univ}=> bigSep Finset.univ (Aside m) : sProp 𝕄) := by
  have hcore (c : Dev nD) : iprop(unscopedSems0 c
        ∗ owes (c : Thread nD τ) (dues c owed) ∅ ∗ Pipeline.launchCred (fun d => dues d owed) c ∗ prngReg c (ρ c) ∗ Parked c)
      ⊢ (iprop(Hold c ∗ (semVal (barCel c) 0 ∗ Parked c)) : sProp 𝕄) := by
    rw [unscoped_sems, credits_eq]
    unfold Hold
    iintro ⟨Hs, HO, Hc, Hp, HG⟩
    isplitl [HO Hc Hp]
    · isplitl [Hp]
      · iexists (ρ c); iexact Hp
      isplitl [Hc]
      · iexact Hc
      · iexists ∅; iexact HO
    isplitl [Hs]
    · iexact Hs
    · iexact HG
  have hv : bigSep Finset.univ (fun c : Dev nD => (semVal (barCel c) 0 : sProp 𝕄)) ⊢ bigSep bars (fun g => (semVal g 0 : sProp 𝕄)) :=
    Entails.of_eq (bigSep_map (s := Finset.univ) barEmb (Φ := fun g : GSem nD τ sig => (semVal g 0 : sProp 𝕄))).symm
  have hat : bigSep bars (fun g => (atPos ER g 0 ∅ 0 : sProp 𝕄)) ⊢ bigSep Finset.univ (fun c : Dev nD => (atPos ER (barCel c) 0 ∅ 0 : sProp 𝕄)) :=
    Entails.of_eq (bigSep_map (s := Finset.univ) barEmb (Φ := fun g : GSem nD τ sig => (atPos ER g 0 ∅ 0 : sProp 𝕄)))
  have hopen : bigSep cels (fun g => (openTok ER g : sProp 𝕄))
      ⊢ bigSep Finset.univ (fun c : Dev nD => bigSep Finset.univ fun j : Fin 60 => openTok ER (cel c j)) :=
    Entails.of_eq (by unfold cels; rw [bigSep_map, bigSep_univ_prod]; rfl)
  iintro ⟨H, #HL⟩
  ihave H' := (show (bigSep Finset.univ fun c : Dev nD => iprop(unscopedSems0 c
          ∗ owes (c : Thread nD τ) (dues c owed) ∅ ∗ Pipeline.launchCred (fun d => dues d owed) c ∗ prngReg c (ρ c) ∗ Parked c))
      ⊢ (bigSep Finset.univ fun c : Dev nD => iprop(Hold c ∗ (semVal (barCel c) 0 ∗ Parked c)) : sProp 𝕄) from bigSep_mono fun c _ => hcore c) $$ H
  ihave H2 := unpair $$ H'
  icases H2 with ⟨HB, H3⟩
  ihave H4 := unpair $$ H3
  icases H4 with ⟨Hv, HG⟩
  ihave Hu := (show bigSep Finset.univ (Parked (F := F)) ⊢ BI.own (ER (launchOf bars cels rights)) from
    Entails.of_eq (onDev_all (F := F) 0 (BI.own (ER (launchOf bars cels rights))))) $$ HG
  imod (Rounds.fund_launch ER (talk (PTm m) (RDm m)) bars_cels (fun g _ h => h) rights) $$ [Hv Hu] with ⟨%κ, -, #Hinv, #Hr, Hat, Hopen, Htok⟩
  · isplitl [Hv]
    · iapply hv $$ Hv
    · iexact Hu
  imodintro
  iapply (bigSep_with_persistent (R := Recs (PTm m) (RDm m) κ)
    (Φ := fun c => iprop(Hold c ∗ atPos ER (barCel c) 0 ∅ 0 ∗ Rights c ∗ bigSep Finset.univ fun j => openTok ER (cel c j)))
    fun c _ => aside_of m κ c)
  isplitr
  · iapply (recs_of m κ)
    isplitr
    · iexact Hinv
    isplitr
    · iexact Hr
    · iexact HL
  iapply pairUp
  isplitl [HB]
  · iexact HB
  iapply pairUp
  isplitl [Hat]
  · iapply hat $$ Hat
  iapply pairUp
  isplitl [Htok]
  · iapply (Entails.of_eq (rights_eq (F := F))) $$ Htok
  · iapply hopen $$ Hopen

end Cert.KernelIdeal.Talk
-- ==== Proof.Run.lean ====
module

public import proofs.«01_k».proof.Proof.Launch
public import Idealize.ShloMosaic.Lib.Pipeline.Regions

/-! The program's run: where it ends, with what in the result. -/

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]
local notation "𝕄" => MT nD τ sig Unit (Elt F) ℕ UU ℕ
variable {PT : Dev nD → S256x512.Idx → Elt F .bf16} {RD : Dev nD → S2x16x512.Idx → Elt F .bf16}
variable {κ : GSem nD τ sig → ℕ} {c : Dev nD} {l : List Item} {R T D : sProp (MT nD τ sig Unit (Elt F) ℕ UU ℕ)}

open Idealize.ShloMosaic.Pipeline (Seg)

variable (m : (ℓ : Loc nD τ sig) → Buf (Elt F) ℓ)

/-- The one semaphore outside every region is the barrier. -/
theorem bar_only : ∀ sm : SemLoc sig, sm.isScoped .tc = false → sm = barS := by decide

/-- What device `c` ends with. -/
def End (c : Dev nD) : sProp 𝕄 :=
  iprop(StableHlo.held (c : Thread nD τ) (Pipeline.ucRefs τ sig) (V2 m (outs m) c) ∗ semVal (barCel c) 0)

/-- What is read off it. -/
def Read (c : Dev nD) (s : MemSt nD τ sig (Elt F)) : Prop :=
  (∀ b ∈ Pipeline.ucRefs τ sig, s.mem ((c : Thread nD τ).1, b) = V2 m (outs m) c b) ∧ s.sem (barCel c) = 0

theorem end_read (c : Dev nD) (s : Phys nD τ sig (Elt F)) :
    iprop(End m c ∗ SI s) ⊢ (|={Set.univ}=> iprop(⌜Read m c s.mem⌝ ∗ SI s) : sProp 𝕄) := by
  unfold End StableHlo.held
  iintro ⟨⟨Hh, Hb⟩, HSI⟩
  icombine HSI Hb gives %hb
  ihave Hr := (pointsTo_read_all (Pipeline.ucRefs τ sig) (fun b => ((c : Thread nD τ).1, b)) (V2 m (outs m) c) s) $$ [Hh HSI]
  · isplitl [Hh] <;> iassumption
  icases Hr with ⟨%h, HSI⟩
  imodintro
  isplitr
  · ipureintro
    exact ⟨h, by simpa using hb⟩
  · iexact HSI

theorem init_of (ρ : Dev nD → PrngReg) :
    iprop((bigSep Finset.univ fun c : Dev nD => iprop(unscopedBufs c (fun b => m ((c.tc : Thread nD τ).loc b)) ∗ unscopedSems0 c
          ∗ owes (c : Thread nD τ) (dues c owed) ∅ ∗ Pipeline.launchCred (fun d => dues d owed) c ∗ prngReg c (ρ c) ∗ Parked c)) ∗ levAts L lv)
      ⊢ (|={Set.univ}=> bigSep Finset.univ fun c : Dev nD =>
          iprop(StableHlo.held (c : Thread nD τ) (Pipeline.ucRefs τ sig) (V0 m c) ∗ Aside m c) : sProp 𝕄) := by
  have hsplit : (bigSep Finset.univ fun c : Dev nD => iprop(unscopedBufs c (fun b => m ((c.tc : Thread nD τ).loc b)) ∗ unscopedSems0 c
        ∗ owes (c : Thread nD τ) (dues c owed) ∅ ∗ Pipeline.launchCred (fun d => dues d owed) c ∗ prngReg c (ρ c) ∗ Parked c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (dues c owed) ∅
              ∗ Pipeline.launchCred (fun d => dues d owed) c ∗ prngReg c (ρ c) ∗ Parked c)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, HL⟩
  ihave H' := hsplit $$ H
  icases H' with ⟨Hh, Hr⟩
  imod (deal m ρ) $$ [Hr HL] with HE
  · isplitl [Hr]
    · iexact Hr
    · iexact HL
  imodintro
  iapply pairUp
  isplitl [Hh]
  · iexact Hh
  · iexact HE

/-- An argument's array at the end. -/
theorem arg_of {c : Dev nD} {s : MemSt nD τ sig (Elt F)} (h : Read m c s) (r : Ref sig .tc)
    (hr : ¬ (Proc.devRef (τ := τ) .tc r).isScoped) : s.mem ((c.tc : Thread nD τ).loc r) = V2 m (outs m) c (Proc.devRef .tc r) :=
  h.1 _ (Finset.mem_filter.mpr ⟨StableHlo.devRef_mem_tcRefs r, hr⟩)

set_option backward.isDefEq.respectTransparency.types false in
/-- The run: it ends, the result is the same on every device, the arguments are as before, every semaphore is at zero. -/
theorem run_main (ρ : Dev nD → PrngReg) : θ_run defs (onTc (τ := τ) (main (F := F))) ⟨m, fun _ => 0, ρ⟩
    (fun r => (∀ c : Dev nD, r.2.mem ((c.tc : Thread nD τ).loc main_v17) = RES m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats m) () cellOf_inj EP defs₀ 𝒱₀ L lv m ρ main
    (segs m 𝒱₀ L lv (fun _ => Aside m) () (pdats m) (reg0 m))
    (fun c Q => by
      rewrite [main_chain c, Seg.run_eq_chain,
        show (segs m 𝒱₀ L lv (fun _ => Aside m) () (pdats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) (fun c => dues c owed) L_of_ne Parked
    u₀ ghost_split
    (T₀ := fun c => iprop(StableHlo.held (c : Thread nD τ) (Pipeline.ucRefs τ sig) (V0 m c) ∗ Aside m c))
    (Tₙ := End m)
    (hch := fun c => ⟨.rfl, reg0_pre m c, reg0_post m c⟩)
    (hinit := init_of m ρ) (QY := Read m)
    (hfin := end_read m) (hQ := fun s h hs => ⟨fun c => ⟨?_, ?_, ?_, ?_, ?_, ?_⟩, sem_eq_zero hs fun c sm hsm => by
        obtain rfl := bar_only sm hsm
        exact (h c).2⟩)
  · exact (arg_of m (h c) main_v17 (by decide)).trans (Function.update_self (f := V1 m c) (Proc.devRef .tc main_v17) (RES m))
  · exact (arg_of m (h c) main_arg0 (by decide)).trans (V2_main_arg0 m _ c)
  · exact (arg_of m (h c) main_arg1 (by decide)).trans (V2_main_arg1 m _ c)
  · exact (arg_of m (h c) main_arg2 (by decide)).trans (V2_main_arg2 m _ c)
  · exact (arg_of m (h c) main_arg3 (by decide)).trans (V2_main_arg3 m _ c)
  · exact (arg_of m (h c) main_arg4 (by decide)).trans (V2_main_arg4 m _ c)

end Cert.KernelIdeal.Talk
-- ==== Proof.Frames.lean ====
module

public import proofs.«01_k».proof.Defs
public import proofs.«01_k».proof.Proof.Run
public import proofs.«01_k».proof.Proof.Gen.Kernel
public import proofs.«01_k».proof.Proof.Gen.ReferenceIdeal.Run

/-! The three programs run to their ends and leave their arguments and every semaphore as they were. -/

@[expose] public section

noncomputable section

namespace Cert.Proof

open Idealize.ShloMosaic Idealize.ShloMosaic.TcCoe Idealize.SL.Sem

/-- The kernel at any floats: it ends with its arguments unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2)
        ∧ r.2.mem ((c.tc : Thread _ _).loc Cert.KernelIdeal.main_arg3) = m ((c.tc : Thread _ _).loc Cert.KernelIdeal.main_arg3)
        ∧ r.2.mem ((c.tc : Thread _ _).loc Cert.KernelIdeal.main_arg4) = m ((c.tc : Thread _ _).loc Cert.KernelIdeal.main_arg4))
        ∧ r.2.sem = fun _ => 0) :=
  (θ_run (Cert.KernelIdeal.defs (F := F)) _ _).mono (fun _ h => ⟨fun c => (h.1 c).2, h.2⟩)
    (Cert.KernelIdeal.Talk.run_main (F := F) m ρ)

/-- The two programs name the same kernel bodies. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, _ => rfl

/-- The two programs' definitions are the same. -/
theorem defs_eq {F : FTy → Type} [FloatOps F] : Cert.Kernel.defs (F := F) = Cert.KernelIdeal.defs (F := F) := by
  unfold Cert.Kernel.defs
  rw [bodies_eq]
  rfl

/-- The kernel at floats as words of bits. -/
theorem frame_kernel : Cert.quiescent_Kernel (hKernel := Cert.Kernel.Gen.facts) := fun m ρ _ => by
  rw [defs_eq]
  exact frame_any (F := Bits) m ρ

/-- The kernel at floats as extended reals. -/
theorem frame_ideal : Cert.quiescent_KernelIdeal (hKernelIdeal := Cert.KernelIdeal.Gen.facts) := fun m ρ _ => frame_any (F := Ideal) m ρ

/-- The reference. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

end Cert.Proof

end
-- ==== Proof.Head.lean ====
module

public import proofs.«01_k».proof.Proof.Content

/-! The work of one attention head as one function, and the two halves of a device's partial product as the sum of
that function over the device's four heads. -/

@[expose] public section

noncomputable section

namespace Cert.KernelIdeal.Talk

open Idealize.ShloMosaic Idealize.ShloMosaic.TcCoe
open Idealize.ShloMosaic.ValueIdx
open Cert.KernelIdeal Cert.KernelIdeal.Gen

variable {F : FTy → Type} [FloatOps F]

/-- The scores of one head: queries against keys, scaled, and the low constant where the mask is off. -/
def scores (M : IVec S128x128 1) (q : FVec F S128x64 .bf16) (k : Vec F S1x128x64 .bf16) : FVec F S128x128 .f32 :=
  select M
    (mulf (matmul dot_S128x64_S128x64_S128x128_1_1_0_0_n_n none q (shapeCast S128x64 k shapeCasts_S1x128x64_S128x64)
      (constant S128x128 .f32 0x00000000#32)) (broadcast S128x128 (Scalar.ofBits .f32 0x3E000000#32)))
    (broadcast S128x128 low)

/-- A row statistic, one number per row, written across the row again. -/
def across (r : FVec F S128 .f32) : FVec F S128x128 .f32 :=
  broadcastTo S128x128 (shapeCast S128x1 r shapeCasts_S128_S128x1) broadcasts_S128x1_S128x128

/-- The exponentials of a row of scores, after the row's maximum is taken off. -/
def powers (s : FVec F S128x128 .f32) : FVec F S128x128 .f32 :=
  exp (subf s (across (multiReduction .maximumf [1] S128 s 0xFF800000#32 reduces_S128x128_S128 (.inl rfl) rfl)))

/-- The weights of a row: its exponentials over their sum. -/
def weights (e : FVec F S128x128 .f32) : FVec F S128x128 .bf16 :=
  truncf .bf16 (divf e (across (multiReduction .add [1] S128 e 0x00000000#32 reduces_S128x128_S128 (.inl rfl) rfl)))
    bitsLt_bf16_f32

/-- What one head adds to the partial product: the weighted values through the head's rows of the output matrix. -/
def apart (w : FVec F S128x128 .bf16) (v : Vec F S1x128x64 .bf16) (o : Vec F S64x512 .bf16) : FVec F S128x512 .f32 :=
  matmul dot_S128x64_S64x512_S128x512_1_0_0_1_n_n none
    (truncf .bf16 (matmul dot_S128x128_S128x64_S128x64_1_0_0_1_n_n none w
      (shapeCast S128x64 v shapeCasts_S1x128x64_S128x64) (constant S128x64 .f32 0x00000000#32)) bitsLt_bf16_f32)
    (shapeCast S64x512 o shapeCasts_S64x512_S64x512) (constant S128x512 .f32 0x00000000#32)

/-- The whole head, from its queries, keys, values and rows of the output matrix. -/
def whole (q : FVec F S128x64 .bf16) (k v : Vec F S1x128x64 .bf16) (o : Vec F S64x512 .bf16) : FVec F S128x512 .f32 :=
  apart (weights (powers (scores mask q k))) v o

/-- Four heads added to zero one after the other, rounded. -/
def four (h : Fin 4 → FVec F S128x512 .f32) : FVec F S128x512 .bf16 :=
  shapeCast S128x512 (truncf .bf16 (addf (addf (addf (addf (broadcast S128x512 (Scalar.ofBits .f32 0x00000000#32))
    (h 0)) (h 1)) (h 2)) (h 3)) bitsLt_bf16_f32) shapeCasts_S128x512_S128x512

/-- The queries of batch 0, cut at each head's columns. -/
def cut0 (Q : FVec F S256x256 .bf16) : Fin 4 → FVec F S128x64 .bf16
  | 0 => extractStridedSlice S128x64 ![0, 0] Q slices_S256x256_o0_0_S128x64
  | 1 => extractStridedSlice S128x64 ![0, 64] Q slices_S256x256_o0_64_S128x64
  | 2 => extractStridedSlice S128x64 ![0, 128] Q slices_S256x256_o0_128_S128x64
  | 3 => extractStridedSlice S128x64 ![0, 192] Q slices_S256x256_o0_192_S128x64

/-- The queries of batch 1, cut at each head's columns. -/
def cut1 (Q : FVec F S256x256 .bf16) : Fin 4 → FVec F S128x64 .bf16
  | 0 => extractStridedSlice S128x64 ![128, 0] Q slices_S256x256_o128_0_S128x64
  | 1 => extractStridedSlice S128x64 ![128, 64] Q slices_S256x256_o128_64_S128x64
  | 2 => extractStridedSlice S128x64 ![128, 128] Q slices_S256x256_o128_128_S128x64
  | 3 => extractStridedSlice S128x64 ![128, 192] Q slices_S256x256_o128_192_S128x64

/-- The first half of the partial product is the four heads of batch 0, added. -/
theorem part0_eq (I : In F) :
    part0 I = four fun h => whole (cut0 (qs I) h) (head I.k 0 h) (head I.v 0 h) (wrow I.wo h) := rfl

/-- The second half of the partial product is the four heads of batch 1, added. -/
theorem part1_eq (I : In F) :
    part1 I = four fun h => whole (cut1 (qs I) h) (head I.k 1 h) (head I.v 1 h) (wrow I.wo h) := rfl

end Cert.KernelIdeal.Talk
-- ==== Proof.Attn.lean ====
module

public import Idealize.ShloMosaic.Lib.Pointwise

/-! One attention head over the extended reals: 128 queries against 128 keys of 64 numbers each, the mask by blocks
of 64 positions, the weights of each row and the weighted values. -/

@[expose] public section

noncomputable section

namespace Cert.Attn

open Idealize.ShloMosaic

/-- Whether position `i` looks at position `j`: they lie in the same block of 64, or in blocks equal modulo 4. -/
def on (i j : Fin 128) : BitVec 1 :=
  BitVec.ofBool (decide (i.val / 64 = j.val / 64 ∨ j.val / 64 % 4 = i.val / 64 % 4))

/-- The same mask as an `or` of two equality tests on the words that hold the block numbers. -/
theorem on_words (a b : ℕ) (ha : a < 2) (hb : b < 2) :
    IntOp.ori (IntOp.cmpi CmpIPredicate.eq (BitVec.ofNat 32 a) (BitVec.ofNat 32 b))
        (IntOp.cmpi CmpIPredicate.eq (BitVec.ofNat 32 (b % 4)) (BitVec.ofNat 32 (a % 4)))
      = BitVec.ofBool (decide (a = b ∨ b % 4 = a % 4)) := by
  interval_cases a <;> interval_cases b <;> decide

/-- The score of query `i` against key `j`: their product, scaled, or the low constant where the mask is off. -/
def score (q k : Fin 128 → Fin 64 → EReal) (i j : Fin 128) : EReal :=
  Scalar.select (on i j) ((∑ d, q i d * k j d) * Ideal.ofBits .f32 0x3E000000#32) (Ideal.ofBits .f32 0xCE6E6B28#32)

/-- The exponential of a score after the greatest score of its row is taken off. -/
def power (q k : Fin 128 → Fin 64 → EReal) (i j : Fin 128) : EReal :=
  Ideal.exp (score q k i j
    - Finset.fold max (Ideal.ofBits .f32 0xFF800000#32) (fun x => score q k i x) Finset.univ)

/-- The weight query `i` gives key `j`: the exponential over the sum of its row's. -/
def weight (q k : Fin 128 → Fin 64 → EReal) (i j : Fin 128) : EReal :=
  Ideal.div (power q k i j) (∑ x, power q k i x)

/-- The values as query `i` weighs them, coordinate `d`. -/
def ctx (q k v : Fin 128 → Fin 64 → EReal) (i : Fin 128) (d : Fin 64) : EReal :=
  ∑ x, weight q k i x * v x d

end Cert.Attn
-- ==== Proof.HeadVal.lean ====
module

public import proofs.«01_k».proof.Proof.Head
public import proofs.«01_k».proof.Proof.Attn

/-! A device's partial product over the extended reals, read at an index: each head is the attention head of `Attn`. -/

@[expose] public section

noncomputable section

namespace Cert.KernelIdeal.Talk

open Idealize.ShloMosaic Idealize.ShloMosaic.TcCoe
open Cert.KernelIdeal Cert.KernelIdeal.Gen

/-- The word of the row's block number. -/
theorem rowBlock_at (i j : Fin 128) : k0_pay1 (ix2 i j) = BitVec.ofNat 32 (i.val / 64) := by
  pointwise [k0_pay1]
  revert i; decide +kernel

/-- The mask at a pair of positions. -/
theorem mask_at (i j : Fin 128) : mask (ix2 i j) = Attn.on i j := by
  pointwise [mask, k0_pay5, k0_pay2, k0_pay3, k0_pay4, rowBlock_at]
  unfold Attn.on
  obtain ⟨a, ha⟩ : ∃ a : Fin 2, a.val = i.val / 64 := ⟨⟨i.val / 64, by omega⟩, rfl⟩
  rw [← ha]
  clear ha
  revert a j
  decide +kernel

variable (q : FVec Ideal S128x64 .bf16) (k v : Vec Ideal S1x128x64 .bf16) (o : Vec Ideal S64x512 .bf16)

/-- The scores at an index. -/
theorem scores_at (i j : Fin 128) :
    scores mask q k (ix2 i j) = Attn.score (fun i d => q (ix2 i d)) (fun j d => k (ix3 0 j d)) i j := by
  pointwise [scores, low, mask_at]
  rfl

/-- The exponentials at an index. -/
theorem powers_at (i j : Fin 128) :
    powers (scores mask q k) (ix2 i j)
      = Attn.power (fun i d => q (ix2 i d)) (fun j d => k (ix3 0 j d)) i j := by
  pointwise [powers, across, scores_at]
  rfl

/-- The weights at an index. -/
theorem weights_at (i j : Fin 128) :
    weights (powers (scores mask q k)) (ix2 i j)
      = Attn.weight (fun i d => q (ix2 i d)) (fun j d => k (ix3 0 j d)) i j := by
  pointwise [weights, across, powers_at]
  rfl

/-- What a head adds to the partial product, at an index. -/
theorem whole_at (i : Fin 128) (j : Fin 512) :
    whole q k v o (ix2 i j) = ∑ d : Fin 64,
      Attn.ctx (fun i d => q (ix2 i d)) (fun j d => k (ix3 0 j d)) (fun j d => v (ix3 0 j d)) i d
        * o (ix2 d j) := by
  pointwise [whole, apart, weights_at]
  rfl

/-- Four heads at an index: their sum. -/
theorem four_at (h : Fin 4 → FVec Ideal S128x512 .f32) (i : Fin 128) (j : Fin 512)  :
    four h (ix2 i j) = ∑ a, h a (ix2 i j) := by
  pointwise [four]
  rw [Fin.sum_univ_four]

end Cert.KernelIdeal.Talk
-- ==== Proof.PartVal.lean ====
module

public import proofs.«01_k».proof.Proof.HeadVal

/-! A device's partial product at an index, as the sum over its four heads; and what the exchange makes of the eight
partial products: at every index their sum. -/

@[expose] public section

noncomputable section

namespace Cert.KernelIdeal.Talk

open Idealize.ShloMosaic Idealize.ShloMosaic.TcCoe
open Cert.KernelIdeal Cert.KernelIdeal.Gen

variable (I : In Ideal)

/-- The queries of one of a device's heads. -/
def query (b : Fin 2) (h : Fin 4) (i : Fin 128) (d : Fin 64) : EReal :=
  ∑ y : Fin 512, I.x (ix3 b i y) * I.wq (ix2 y ⟨h.val * 64 + d.val, by omega⟩)

/-- The keys, or the values, of one of a device's heads. -/
def side (f : S2x128x256.Idx → Elt Ideal .bf16) (b : Fin 2) (h : Fin 4) (j : Fin 128) (d : Fin 64) : EReal :=
  f (ix3 b j ⟨h.val * 64 + d.val, by omega⟩)

/-- What a device adds to the result at row `i` of batch `b`, column `j`. -/
def share (b : Fin 2) (i : Fin 128) (j : Fin 512) : EReal :=
  ∑ h : Fin 4, ∑ d : Fin 64,
    Attn.ctx (query I b h) (side I.k b h) (side I.v b h) i d * I.wo (ix2 ⟨h.val * 64 + d.val, by omega⟩ j)

/-- A sum of products is a head's query as soon as its indices are the head's. -/
theorem query_of {a b : Fin 2} {r i : Fin 128} {h : Fin 4} {d : Fin 64} {n : Fin 256} (ha : a.val = b.val)
    (hr : r.val = i.val) (hn : n.val = h.val * 64 + d.val) :
    ∑ y : Fin 512, I.x (ix3 a r y) * I.wq (ix2 y n) = query I b h i d := by
  obtain rfl := Fin.ext ha
  obtain rfl := Fin.ext hr
  rw [show n = ⟨h.val * 64 + d.val, by omega⟩ from Fin.ext hn]
  rfl

/-- The queries cut out of batch 0. -/
theorem cut0_at (h : Fin 4) (i : Fin 128) (d : Fin 64) : cut0 (qs I) h (ix2 i d) = query I 0 h i d := by
  fin_cases h <;> (pointwise [cut0, qs, k0_pay6]; refine query_of I ?_ ?_ ?_ <;> first | rfl | (simp; done) | (simp; omega))

/-- The queries cut out of batch 1. -/
theorem cut1_at (h : Fin 4) (i : Fin 128) (d : Fin 64) : cut1 (qs I) h (ix2 i d) = query I 1 h i d := by
  fin_cases h <;> (pointwise [cut1, qs, k0_pay6]; refine query_of I ?_ ?_ ?_ <;> first | rfl | (simp; done) | (simp; omega))

/-- A head's keys or values at an index. -/
theorem head_at (f : S2x128x256.Idx → Elt Ideal .bf16) (b : Fin 2) (h : Fin 4) (j : Fin 128) (d : Fin 64) :
    head f b h (ix3 0 j d) = side f b h j d := by
  show f (ValueIdx.ix3 b j ⟨64 * h.val + d.val, by omega⟩) = f (ix3 b j ⟨h.val * 64 + d.val, by omega⟩)
  rw [← ix3_eq_valueIdx]
  congr 3
  omega

/-- A head's rows of the output matrix at an index. -/
theorem wrow_at (f : S256x512.Idx → Elt Ideal .bf16) (h : Fin 4) (d : Fin 64) (j : Fin 512) :
    wrow f h (ix2 d j) = f (ix2 ⟨h.val * 64 + d.val, by omega⟩ j) := by
  show f (ValueIdx.ix2 ⟨64 * h.val + d.val, by omega⟩ j) = _
  rw [← ix2_eq_valueIdx]
  congr 3
  omega

/-- The first half of the partial product at an index. -/
theorem part0_at (i : Fin 128) (j : Fin 512) : part0 I (ix2 i j) = share I 0 i j := by
  simp only [part0_eq, four_at, whole_at, cut0_at, head_at, wrow_at]
  rfl

/-- The second half of the partial product at an index. -/
theorem part1_at (i : Fin 128) (j : Fin 512) : part1 I (ix2 i j) = share I 1 i j := by
  simp only [part1_eq, four_at, whole_at, cut1_at, head_at, wrow_at]
  rfl

/-- The partial product at an index: its first 128 rows are batch 0, the others batch 1. -/
theorem PART_at (b : Fin 2) (i : Fin 128) (j : Fin 512) :
    PART I (ix2 ⟨128 * b.val + i.val, by omega⟩ j) = share I b i j := by
  match b with
  | 0 =>
    refine (dif_pos (show 128 * 0 + i.val < 128 by omega)).trans ?_
    show part0 I (ValueIdx.ix2 ⟨128 * 0 + i.val, by omega⟩ j) = _
    rw [← ix2_eq_valueIdx, ← part0_at]
    congr 3
    omega
  | 1 =>
    refine (dif_neg (show ¬ 128 * 1 + i.val < 128 by omega)).trans ?_
    show part1 I (ValueIdx.ix2 ⟨128 * 1 + i.val - 128, by omega⟩ j) = _
    rw [← ix2_eq_valueIdx, ← part1_at]
    congr 3
    omega

/-- Summing a half: at every index the sum over the eight slots. -/
theorem RED_at (f : S2x8x16x512.Idx → Elt Ideal .bf16) (t : Fin 2) (a : Fin 16) (j : Fin 512) :
    RED f (ix3 t a j) = ∑ o : Fin 8, f (ix4 t o a j) := by
  match t with
  | 0 =>
    show sum0 f (ValueIdx.ix3 0 a j) = _
    rw [← ix3_eq_valueIdx]
    pointwise [sum0, k0_pay22, k0_pay23, slot, ← ix4_eq_valueIdx]
    rw [Fin.sum_univ_eight]
  | 1 =>
    show sum1 f (ValueIdx.ix3 0 a j) = _
    rw [← ix3_eq_valueIdx]
    pointwise [sum1, k0_pay26, k0_pay27, slot, ← ix4_eq_valueIdx]
    rw [Fin.sum_univ_eight]

/-- The result block read off the gathered halves. -/
theorem OUT_at (f : S2x8x16x512.Idx → Elt Ideal .bf16) (b : Fin 2) (i : Fin 128) (j : Fin 512) :
    OUT f (ix3 b i j) = f (ix4 ⟨(128 * b.val + i.val) / 16 % 2, by omega⟩ ⟨(128 * b.val + i.val) / 32, by omega⟩
      ⟨(128 * b.val + i.val) % 16, by omega⟩ j) := by
  show k0_pay30 (slot f ⟨(128 * b.val + i.val) / 16 % 2, by omega⟩ ⟨(128 * b.val + i.val) / 32, by show _ < 8; omega⟩)
    (ValueIdx.ix3 0 ⟨(128 * b.val + i.val) % 16, by omega⟩ j) = _
  rw [← ix3_eq_valueIdx]
  pointwise [k0_pay30, slot, ← ix4_eq_valueIdx]

/-- The exchange as a whole: the result at an index is the sum of the devices' partial products there. -/
theorem OUT_sum (PT : Dev nD → S256x512.Idx → Elt Ideal .bf16) (b : Fin 2) (i : Fin 128) (j : Fin 512) :
    OUT (AG fun c => RED (RS PT c)) (ix3 b i j)
      = ∑ c : Fin 8, PT c (ix2 ⟨128 * b.val + i.val, by omega⟩ j) := by
  rw [OUT_at]
  show RED (RS PT ⟨(128 * b.val + i.val) / 32, by show _ < 8; omega⟩) (ValueIdx.ix3 ⟨(128 * b.val + i.val) / 16 % 2, by omega⟩
    ⟨(128 * b.val + i.val) % 16, by omega⟩ j) = _
  rw [← ix3_eq_valueIdx, RED_at]
  refine Finset.sum_congr rfl fun c _ => ?_
  show PT c (ValueIdx.ix2 (rowIx (32 * ((128 * b.val + i.val) / 32) + 16 * ((128 * b.val + i.val) / 16 % 2)
    + (128 * b.val + i.val) % 16)) j) = _
  rw [← ix2_eq_valueIdx]
  congr 2
  exact Fin.ext (by
    show (32 * ((128 * b.val + i.val) / 32) + 16 * ((128 * b.val + i.val) / 16 % 2)
      + (128 * b.val + i.val) % 16) % 256 = 128 * b.val + i.val
    omega)

end Cert.KernelIdeal.Talk
-- ==== Proof.Inputs.lean ====
module

public import proofs.«01_k».proof.Proof.PartVal
public import proofs.«01_k».proof.Proof.Region
public import Idealize.ShloMosaic.Lib.StableHlo.RunClose

/-! What a device's windows hold when its kernel starts, read at an index of its arguments: the whole of the first
argument, its own 256 columns of the query matrix, its own keys and values with the heads side by side, and its own
256 rows of the output matrix. -/

@[expose] public section

noncomputable section

namespace Cert.KernelIdeal.Talk

open Idealize.ShloMosaic Idealize.ShloMosaic.TcCoe Idealize.ShloMosaic.StableHlo
open Cert.KernelIdeal Cert.KernelIdeal.Gen

variable (m : (ℓ : Loc nD τ sig) → Buf (Elt Ideal) ℓ) (c : Dev nD)

/-- The first window is the first argument. -/
theorem x_at (b : Fin 2) (i : Fin 128) (y : Fin 512) :
    (inp m c).x (ix3 b i y) = m ((c.tc : Thread nD τ).loc main_arg0) (ix3 b i y) :=
  congrFun (V1_of m c main_arg0 (by decide)) _

/-- The query window is the device's columns of the query matrix. -/
theorem wq_at (y : Fin 512) (n : Fin 256) :
    (inp m c).wq (ix2 y n)
      = m ((c.tc : Thread nD τ).loc main_arg1) (ix2 y ⟨c.val * 256 + n.val, by have : c.val < 8 := c.isLt; omega⟩) := by
  show StableHlo.after (hostOps0 c) (V0 m c) (Proc.devRef .tc main_v9) (ix2 y n) = _
  after_results_simp_entrywise
  pointwise
  refine congrArg (m ((c.tc : Thread nD τ).loc main_arg1)) (congrArg₂ ix2 (Fin.ext ?_) (Fin.ext ?_))
  · refine (congrArg (· + y.val) (?_ : _ = 0)).trans (Nat.zero_add _)
    clear! m y n
    revert c
    decide +kernel
  · refine congrArg (· + n.val) ?_
    clear! m y n
    revert c
    decide +kernel

/-- The output window is the device's rows of the output matrix. -/
theorem wo_at (n : Fin 256) (j : Fin 512) :
    (inp m c).wo (ix2 n j)
      = m ((c.tc : Thread nD τ).loc main_arg4) (ix2 ⟨c.val * 256 + n.val, by have : c.val < 8 := c.isLt; omega⟩ j) := by
  show StableHlo.after (hostOps0 c) (V0 m c) (Proc.devRef .tc main_v14) (ix2 n j) = _
  after_results_simp_entrywise
  pointwise
  refine congrArg (m ((c.tc : Thread nD τ).loc main_arg4)) (congrArg₂ ix2 (Fin.ext ?_) (Fin.ext ?_))
  · refine congrArg (· + n.val) ?_
    clear! m j n
    revert c
    decide +kernel
  · refine (congrArg (· + j.val) (?_ : _ = 0)).trans (Nat.zero_add _)
    clear! m j n
    revert c
    decide +kernel

/-- The key window: the device's keys, its heads side by side. -/
theorem k_at (b : Fin 2) (j : Fin 128) (n : Fin 256) :
    (inp m c).k (ix3 b j n)
      = m ((c.tc : Thread nD τ).loc main_arg2) (ix4 b j ⟨n.val / 64, by omega⟩ ⟨n.val % 64, by omega⟩) := by
  show StableHlo.after (hostOps0 c) (V0 m c) (Proc.devRef .tc main_v15) (ix3 b j n) = _
  after_results_simp_entrywise
  pointwise

/-- The value window: the device's values, its heads side by side. -/
theorem v_at (b : Fin 2) (j : Fin 128) (n : Fin 256) :
    (inp m c).v (ix3 b j n)
      = m ((c.tc : Thread nD τ).loc main_arg3) (ix4 b j ⟨n.val / 64, by omega⟩ ⟨n.val % 64, by omega⟩) := by
  show StableHlo.after (hostOps0 c) (V0 m c) (Proc.devRef .tc main_v16) (ix3 b j n) = _
  after_results_simp_entrywise
  pointwise

/-- The device's keys by head and coordinate. -/
theorem keys_at (b : Fin 2) (h : Fin 4) (j : Fin 128) (d : Fin 64) :
    side (inp m c).k b h j d = m ((c.tc : Thread nD τ).loc main_arg2) (ix4 b j h d) :=
  (k_at m c b j _).trans (congrArg₂ (fun a e => m ((c.tc : Thread nD τ).loc main_arg2) (ix4 b j a e))
    (Fin.ext (by show (h.val * 64 + d.val) / 64 = h.val; omega))
    (Fin.ext (by show (h.val * 64 + d.val) % 64 = d.val; omega)))

/-- The device's values by head and coordinate. -/
theorem values_at (b : Fin 2) (h : Fin 4) (j : Fin 128) (d : Fin 64) :
    side (inp m c).v b h j d = m ((c.tc : Thread nD τ).loc main_arg3) (ix4 b j h d) :=
  (v_at m c b j _).trans (congrArg₂ (fun a e => m ((c.tc : Thread nD τ).loc main_arg3) (ix4 b j a e))
    (Fin.ext (by show (h.val * 64 + d.val) / 64 = h.val; omega))
    (Fin.ext (by show (h.val * 64 + d.val) % 64 = d.val; omega)))

end Cert.KernelIdeal.Talk
-- ==== Proof.RefParts.lean ====
module

public import proofs.«01_k».proof.Proof.Gen.ReferenceIdeal.Run

/-! The reference's result in named parts: the block numbers of the positions, the mask, the scores, the weights, the
gathered heads. -/

@[expose] public section

noncomputable section

namespace Cert.ReferenceIdeal.Parts

open Idealize.ShloMosaic Idealize.ShloMosaic.TcCoe
open Cert.ReferenceIdeal Cert.ReferenceIdeal.Gen Cert.ReferenceIdeal.Value

variable {F : FTy → Type} [FloatOps F]

/-- The block number of each of the 128 positions: the position over 64, rounded down. -/
def block : IVec S128 32 :=
  select (andi (cmpi .ne (signi (iotaInDim S128 32 0)) (broadcastInDim S128 ![] bcast_S_S128 (signi (id
    (constantI S_ 32 64#32))))) (cmpi .ne (Host.remsi (iotaInDim S128 32 0) (broadcastInDim S128 ![]
    bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32))))
    (broadcastInDim S128 ![] bcast_S_S128 (constantI S_ 32 1#32))) (Host.divsi (iotaInDim S128 32 0)
    (broadcastInDim S128 ![] bcast_S_S128 (id (constantI S_ 32 64#32))))

/-- The divisor 4, with the guard against a zero divisor. -/
def four : IVec S_ 32 :=
  select (cmpi .eq (id (constantI S_ 32 4#32)) (constantI S_ 32 0#32)) (constantI S_ 32 1#32) (id (constantI S_
    32 4#32))

/-- The block numbers along a row, modulo 4. -/
def colRem : IVec S1x128 32 :=
  select (andi (cmpi .ne (cmpi .slt (Host.remsi (broadcastInDim S1x128 ![1] bcast_S128_S1x128_1 block)
    (broadcastInDim S1x128 ![] bcast_S_S1x128 four)) (broadcastInDim S1x128 ![] bcast_S_S1x128 (constantI S_ 32
    0#32))) (broadcastInDim S1x128 ![] bcast_S_S1x128 (cmpi .slt four (constantI S_ 32 0#32)))) (cmpi .ne
    (Host.remsi (broadcastInDim S1x128 ![1] bcast_S128_S1x128_1 block) (broadcastInDim S1x128 ![] bcast_S_S1x128
    four)) (broadcastInDim S1x128 ![] bcast_S_S1x128 (constantI S_ 32 0#32)))) (addi (Host.remsi (broadcastInDim
    S1x128 ![1] bcast_S128_S1x128_1 block) (broadcastInDim S1x128 ![] bcast_S_S1x128 four)) (broadcastInDim
    S1x128 ![] bcast_S_S1x128 four)) (Host.remsi (broadcastInDim S1x128 ![1] bcast_S128_S1x128_1 block)
    (broadcastInDim S1x128 ![] bcast_S_S1x128 four))

/-- The block numbers down a column, modulo 4. -/
def rowRem : IVec S128x1 32 :=
  select (andi (cmpi .ne (cmpi .slt (Host.remsi (broadcastInDim S128x1 ![0] bcast_S128_S128x1_0 block)
    (broadcastInDim S128x1 ![] bcast_S_S128x1 four)) (broadcastInDim S128x1 ![] bcast_S_S128x1 (constantI S_ 32
    0#32))) (broadcastInDim S128x1 ![] bcast_S_S128x1 (cmpi .slt four (constantI S_ 32 0#32)))) (cmpi .ne
    (Host.remsi (broadcastInDim S128x1 ![0] bcast_S128_S128x1_0 block) (broadcastInDim S128x1 ![] bcast_S_S128x1
    four)) (broadcastInDim S128x1 ![] bcast_S_S128x1 (constantI S_ 32 0#32)))) (addi (Host.remsi (broadcastInDim
    S128x1 ![0] bcast_S128_S128x1_0 block) (broadcastInDim S128x1 ![] bcast_S_S128x1 four)) (broadcastInDim
    S128x1 ![] bcast_S_S128x1 four)) (Host.remsi (broadcastInDim S128x1 ![0] bcast_S128_S128x1_0 block)
    (broadcastInDim S128x1 ![] bcast_S_S128x1 four))

/-- The mask: the same block, or the same block number modulo 4. -/
def keep : IVec S128x128 1 :=
  ori (cmpi .eq (broadcastInDim S128x128 ![0, 1] bcast_S128x1_S128x128_0_1 (broadcastInDim S128x1 ![0]
    bcast_S128_S128x1_0 block)) (broadcastInDim S128x128 ![0, 1] bcast_S1x128_S128x128_0_1 (broadcastInDim
    S1x128 ![1] bcast_S128_S1x128_1 block))) (cmpi .eq (broadcastInDim S128x128 ![0, 1]
    bcast_S1x128_S128x128_0_1 colRem) (broadcastInDim S128x128 ![0, 1] bcast_S128x1_S128x128_0_1 rowRem))

/-- Which rows of the mask keep anything. -/
def rowKeep : IVec S1x1x128x1 1 :=
  broadcastInDim S1x1x128x1 ![2] bcast_S128_S1x1x128x1_2 (Host.reduce IntOp.ori keep (constantI S_ 1 0#1)
    reducesTo_S128x128_S128_d1 h_S_)

/-- The masked scores of every batch and head. -/
def scores (x : FVec F S2x128x512 .bf16) (wq : FVec F S512x2048 .bf16) (k : FVec F S2x128x32x64 .bf16) :
    FVec F S2x32x128x128 .f32 :=
  select (broadcastInDim S2x32x128x128 ![0, 1, 2, 3] bcast_S1x1x128x128_S2x32x128x128_0_1_2_3 (broadcastInDim
    S1x1x128x128 ![2, 3] bcast_S128x128_S1x1x128x128_2_3 keep)) (mulf (Host.dotGeneral
    dot_S2x128x32x64_S2x128x32x64_S2x32x128x128_3_3_1_1_02_02 none (shapeCast S2x128x32x64 (Host.dotGeneral
    dot_S2x128x512_S512x2048_S2x128x2048_2_0_01_1_n_n none (extf .f32 x bitsLt_bf16_f32) (extf .f32 wq
    bitsLt_bf16_f32)) shapeCasts_S2x128x2048_S2x128x32x64) (extf .f32 k bitsLt_bf16_f32)) (broadcastInDim
    S2x32x128x128 ![] bcast_S_S2x32x128x128 (constant S_ .f32 0x3E000000#32))) (broadcastInDim S2x32x128x128 ![]
    bcast_S_S2x32x128x128 (id (constant S_ .f32 0xCE6E6B28#32)))

/-- The exponentials of the scores after the row maximum is taken off. -/
def powers (x : FVec F S2x128x512 .bf16) (wq : FVec F S512x2048 .bf16) (k : FVec F S2x128x32x64 .bf16) :
    FVec F S2x32x128x128 .f32 :=
  Host.exp (subf (scores x wq k) (broadcastInDim S2x32x128x128 ![0, 1, 2, 3]
    bcast_S2x32x128x1_S2x32x128x128_0_1_2_3 (broadcastInDim S2x32x128x1 ![0, 1, 2]
    bcast_S2x32x128_S2x32x128x1_0_1_2 (Host.reduce FloatOps.maximumf (scores x wq k) (constant S_ .f32
    0xFF800000#32) reducesTo_S2x32x128x128_S2x32x128_d3 h_S_))))

/-- The weights: the exponentials over their row sums, where the row keeps anything. -/
def weights (e : FVec F S2x32x128x128 .f32) : FVec F S2x32x128x128 .f32 :=
  select (broadcastInDim S2x32x128x128 ![0, 1, 2, 3] bcast_S1x1x128x1_S2x32x128x128_0_1_2_3 rowKeep) (Host.divf
    e (broadcastInDim S2x32x128x128 ![0, 1, 2, 3] bcast_S2x32x128x1_S2x32x128x128_0_1_2_3 (select
    (broadcastInDim S2x32x128x1 ![0, 1, 2, 3] bcast_S1x1x128x1_S2x32x128x1_0_1_2_3 rowKeep) (broadcastInDim
    S2x32x128x1 ![0, 1, 2] bcast_S2x32x128_S2x32x128x1_0_1_2 (Host.reduceAdd e (constant S_ .f32 0x00000000#32)
    reducesTo_S2x32x128x128_S2x32x128_d3 h_S_)) (broadcastInDim S2x32x128x1 ![] bcast_S_S2x32x128x1 (id
    (constant S_ .f32 0x3F800000#32)))))) (broadcastInDim S2x32x128x128 ![] bcast_S_S2x32x128x128 (id (constant
    S_ .f32 0x00000000#32)))

/-- The weighted values of every head, the heads side by side. -/
def gathered (v : FVec F S2x128x32x64 .bf16) (w : FVec F S2x32x128x128 .f32) : FVec F S2x128x2048 .f32 :=
  shapeCast S2x128x2048 (transpose S2x128x32x64 [0, 3, 1, 2] (Host.dotGeneral
    dot_S2x128x32x64_S2x32x128x128_S2x32x64x128_1_3_3_2_02_01 none (extf .f32 v bitsLt_bf16_f32) w)
    transposes_S2x32x64x128_S2x128x32x64_0_3_1_2) shapeCasts_S2x128x32x64_S2x128x2048

/-- The reference's result as a function of its five arguments. -/
def result (x : FVec F S2x128x512 .bf16) (wq : FVec F S512x2048 .bf16) (k v : FVec F S2x128x32x64 .bf16)
    (wo : FVec F S2048x512 .bf16) : FVec F S2x128x512 .f32 :=
  Host.dotGeneral dot_S2x128x2048_S2048x512_S2x128x512_2_0_01_1_n_n none (gathered v (weights (powers x wq k)))
    (extf .f32 wo bitsLt_bf16_f32)

set_option maxRecDepth 8192 in
/-- What the run leaves is that function of the arguments. -/
theorem res_eq (m : (ℓ : Loc nD τ sig) → Buf (Elt F) ℓ) (c : Dev nD) :
    res_main_v44 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

end Cert.ReferenceIdeal.Parts
-- ==== Proof.RefVal.lean ====
module

public import proofs.«01_k».proof.Proof.RefParts
public import proofs.«01_k».proof.Proof.Attn

/-! The reference's parts over the extended reals, read at an index: each head of each batch is the attention head of
`Attn`, and the result sums the heads' weighted values against the output matrix. -/

@[expose] public section

noncomputable section

namespace Cert.ReferenceIdeal.Parts

open Idealize.ShloMosaic Idealize.ShloMosaic.TcCoe
open Cert.ReferenceIdeal Cert.ReferenceIdeal.Gen

variable (x : FVec Ideal S2x128x512 .bf16) (wq : FVec Ideal S512x2048 .bf16)
  (k v : FVec Ideal S2x128x32x64 .bf16) (wo : FVec Ideal S2048x512 .bf16)

/-- The word at position `i` of the block numbers is `i / 64`. -/
theorem block_at (i : Fin 128) : block (ix1 i) = BitVec.ofNat 32 (i.val / 64) := by
  pointwise [block]
  revert i; decide +kernel

/-- The block numbers modulo 4, along a row. -/
theorem colRem_at (j : Fin 128) : colRem (ix2 0 j) = BitVec.ofNat 32 (j.val / 64 % 4) := by
  pointwise [colRem, four, block_at]
  revert j; decide +kernel

/-- The block numbers modulo 4, down a column. -/
theorem rowRem_at (i : Fin 128) : rowRem (ix2 i 0) = BitVec.ofNat 32 (i.val / 64 % 4) := by
  pointwise [rowRem, four, block_at]
  revert i; decide +kernel

/-- The mask at a pair of positions. -/
theorem keep_at (i j : Fin 128) : keep (ix2 i j) = Attn.on i j := by
  pointwise [keep, block_at, colRem_at, rowRem_at]
  exact Attn.on_words _ _ (by omega) (by omega)

/-- Every row of the mask keeps something: its own position. -/
theorem rowKeep_at (i : Fin 128) : rowKeep (ix4 0 0 i 0) = 1#1 := by
  pointwise [rowKeep, keep_at]
  rw [← Finset.insert_erase (Finset.mem_univ i), Finset.fold_insert (Finset.notMem_erase _ _)]
  have h : Attn.on i i = 1#1 := by simp [Attn.on]
  rw [h]
  generalize Finset.fold IntOp.ori _ _ _ = b
  revert b; decide

/-- The queries of one head of one batch. -/
def query (b : Fin 2) (h : Fin 32) (i : Fin 128) (d : Fin 64) : EReal :=
  ∑ y : Fin 512, x (ix3 b i y) * wq (ix2 y ⟨h.val * 64 + d.val, by omega⟩)

/-- The keys, or the values, of one head of one batch. -/
def side (k : FVec Ideal S2x128x32x64 .bf16) (b : Fin 2) (h : Fin 32) (j : Fin 128) (d : Fin 64) : EReal :=
  k (ix4 b j h d)

/-- The scores at an index. -/
theorem scores_at (b : Fin 2) (h : Fin 32) (i j : Fin 128) :
    scores x wq k (ix4 b h i j) = Attn.score (query x wq b h) (side k b h) i j := by
  pointwise [scores, keep_at]
  rfl

/-- The exponentials at an index. -/
theorem powers_at (b : Fin 2) (h : Fin 32) (i j : Fin 128) :
    powers x wq k (ix4 b h i j) = Attn.power (query x wq b h) (side k b h) i j := by
  pointwise [powers, scores_at]
  rfl

/-- The weights at an index. -/
theorem weights_at (b : Fin 2) (h : Fin 32) (i j : Fin 128) :
    weights (powers x wq k) (ix4 b h i j) = Attn.weight (query x wq b h) (side k b h) i j := by
  pointwise [weights, powers_at, rowKeep_at]
  rfl

/-- The heads' weighted values, side by side: column `n` is coordinate `n % 64` of head `n / 64`. -/
theorem gathered_at (b : Fin 2) (i : Fin 128) (n : Fin 2048) :
    gathered v (weights (powers x wq k)) (ix3 b i n)
      = Attn.ctx (query x wq b ⟨n.val / 64, by omega⟩) (side k b ⟨n.val / 64, by omega⟩)
          (side v b ⟨n.val / 64, by omega⟩) i ⟨n.val % 64, by omega⟩ := by
  pointwise [gathered, weights_at]
  exact Finset.sum_congr rfl fun y _ => mul_comm _ _

/-- The reference's result at an index: over all 32 heads and their 64 coordinates, the weighted values against the
    output matrix. -/
theorem result_at (b : Fin 2) (i : Fin 128) (j : Fin 512) :
    result x wq k v wo (ix3 b i j) = ∑ h : Fin 32, ∑ d : Fin 64,
      Attn.ctx (query x wq b h) (side k b h) (side v b h) i d * wo (ix2 ⟨h.val * 64 + d.val, by omega⟩ j) := by
  pointwise [result, gathered_at]
  rw [Fin.sum_univ_tiles 32 64 rfl]
  refine Finset.sum_congr rfl fun h _ => Finset.sum_congr rfl fun d _ => ?_
  have e1 : (h.val * 64 + d.val) / 64 = h.val := by omega
  have e2 : (h.val * 64 + d.val) % 64 = d.val := by omega
  simp only [e1, e2]

end Cert.ReferenceIdeal.Parts
-- ==== Proof.Agree.lean ====
module

public import proofs.«01_k».proof.Proof.Inputs
public import proofs.«01_k».proof.Proof.RefVal
public import Idealize.ShloMosaic.Lib.Layout

/-! The kernel's result equals the reference's: device `c`'s heads are heads `4 c` to `4 c + 3` of the reference, and
the sum over the devices of their heads is the reference's sum over all heads. -/

@[expose] public section

noncomputable section

namespace Cert.KernelIdeal.Talk

open Idealize.ShloMosaic Idealize.ShloMosaic.TcCoe
open Cert.KernelIdeal Cert.KernelIdeal.Gen

/-- Head `h` of device `c` among all heads. -/
def headOf (c : Fin 8) (h : Fin 4) : Fin 32 := ⟨c.val * 4 + h.val, by omega⟩

/-- The arguments lie on the devices as the claim says: `x`, `wq` and `wo` whole on each, of `k` and `v` each device its
    own four heads. -/
structure Laid (m : (ℓ : Loc nD τ sig) → Buf (Elt Ideal) ℓ) (x : FVec Ideal S2x128x512 .bf16)
    (wq : FVec Ideal S512x2048 .bf16) (k v : FVec Ideal ⟨4, ![2, 128, 32, 64]⟩ .bf16)
    (wo : FVec Ideal S2048x512 .bf16) : Prop where
  x : ∀ c : Dev nD, m ((c.tc : Thread nD τ).loc main_arg0) = x
  wq : ∀ c : Dev nD, m ((c.tc : Thread nD τ).loc main_arg1) = wq
  k : ∀ c : Dev nD, m ((c.tc : Thread nD τ).loc main_arg2)
    = Layout.block ⟨4, ![2, 128, 4, 64]⟩ ⟨4, ![2, 128, 32, 64]⟩ 2 8 c k
  v : ∀ c : Dev nD, m ((c.tc : Thread nD τ).loc main_arg3)
    = Layout.block ⟨4, ![2, 128, 4, 64]⟩ ⟨4, ![2, 128, 32, 64]⟩ 2 8 c v
  wo : ∀ c : Dev nD, m ((c.tc : Thread nD τ).loc main_arg4) = wo

variable {m : (ℓ : Loc nD τ sig) → Buf (Elt Ideal) ℓ} {x : FVec Ideal S2x128x512 .bf16}
  {wq : FVec Ideal S512x2048 .bf16} {k v : FVec Ideal ⟨4, ![2, 128, 32, 64]⟩ .bf16}
  {wo : FVec Ideal S2048x512 .bf16} (H : Laid m x wq k v wo) (c : Fin 8)

/-- A block of keys or values at an index: the head is counted from the device's first. -/
theorem block_ix (f : FVec Ideal ⟨4, ![2, 128, 32, 64]⟩ .bf16) (b : Fin 2) (j : Fin 128) (h : Fin 4) (d : Fin 64)
    (t : Layout.Tiles ⟨4, ![2, 128, 4, 64]⟩ ⟨4, ![2, 128, 32, 64]⟩ 2 8) :
    Layout.block ⟨4, ![2, 128, 4, 64]⟩ ⟨4, ![2, 128, 32, 64]⟩ 2 8 c f t (ix4 b j h d) = f (ix4 b j (headOf c h) d) := by
  rw [Layout.block_apply]
  refine congrArg f (funext fun a => ?_)
  fin_cases a <;> rfl

include H

/-- A device's queries are the reference's. -/
theorem query_eq (b : Fin 2) (h : Fin 4) :
    query (inp m c) b h = ReferenceIdeal.Parts.query x wq b (headOf c h) := by
  funext i d
  refine Finset.sum_congr rfl fun y _ => ?_
  rw [x_at, wq_at, H.x, H.wq]
  refine congrArg (x _ * wq ·) (congrArg (ix2 y) (Fin.ext ?_))
  show c.val * 256 + (h.val * 64 + d.val) = (c.val * 4 + h.val) * 64 + d.val
  omega

/-- A device's keys are the reference's. -/
theorem keys_eq (b : Fin 2) (h : Fin 4) :
    side (inp m c).k b h = ReferenceIdeal.Parts.side k b (headOf c h) := by
  funext j d
  rw [keys_at, H.k]
  exact block_ix c k b j h d _

/-- A device's values are the reference's. -/
theorem values_eq (b : Fin 2) (h : Fin 4) :
    side (inp m c).v b h = ReferenceIdeal.Parts.side v b (headOf c h) := by
  funext j d
  rw [values_at, H.v]
  exact block_ix c v b j h d _

/-- What a device adds to the result, in the reference's words. -/
theorem share_eq (b : Fin 2) (i : Fin 128) (j : Fin 512) :
    share (inp m c) b i j = ∑ h : Fin 4, ∑ d : Fin 64,
      Attn.ctx (ReferenceIdeal.Parts.query x wq b (headOf c h)) (ReferenceIdeal.Parts.side k b (headOf c h))
          (ReferenceIdeal.Parts.side v b (headOf c h)) i d
        * wo (ix2 ⟨(headOf c h).val * 64 + d.val, by omega⟩ j) := by
  refine Finset.sum_congr rfl fun h _ => Finset.sum_congr rfl fun d _ => ?_
  rw [query_eq H, keys_eq H, values_eq H, wo_at, H.wo]
  refine congrArg (_ * wo ·) (congrArg (ix2 · j) (Fin.ext ?_))
  show c.val * 256 + (h.val * 64 + d.val) = (c.val * 4 + h.val) * 64 + d.val
  omega

/-- The kernel's result is the reference's. -/
theorem RES_eq : RES m = ReferenceIdeal.Parts.result x wq k v wo := by
  funext z
  obtain ⟨b, i, j, rfl⟩ : ∃ b i j, z = (ix3 b i j : S2x128x512.Idx) := ⟨z 0, z 1, z 2, eq_ix3 z⟩
  refine (OUT_sum _ b i j).trans ?_
  rw [ReferenceIdeal.Parts.result_at, Fin.sum_univ_tiles 8 4 rfl]
  refine Finset.sum_congr rfl fun c _ => ?_
  exact (PART_at _ b i j).trans (share_eq H c b i j)

end Cert.KernelIdeal.Talk
-- ==== Proof.Algebraic.lean ====
module

public import proofs.«01_k».proof.Defs
public import proofs.«01_k».proof.Proof.Run
public import proofs.«01_k».proof.Proof.Agree

/-! Over the extended reals the kernel leaves on every device what the reference computes of the whole arrays. -/

@[expose] public section

noncomputable section

namespace Cert.Proof

open Idealize.ShloMosaic Idealize.ShloMosaic.TcCoe Idealize.SL.Sem

/-- The kernel's results and the reference's are equal. -/
theorem algebraic : Cert.algebraic_KernelIdeal_ReferenceIdeal (hKernelIdeal := Cert.KernelIdeal.Gen.facts)
    (hReferenceIdeal := Cert.ReferenceIdeal.Gen.facts) := fun m ρ m' ρ' _ hm => by
  have H : Cert.KernelIdeal.Talk.Laid m _ _ _ _ _ :=
    ⟨fun c => (hm c).1, fun c => (hm c).2.1, fun c => (hm c).2.2.1, fun c => (hm c).2.2.2.1, fun c => (hm c).2.2.2.2⟩
  have E := Cert.KernelIdeal.Talk.RES_eq H
  refine ⟨Cert.KernelIdeal.Talk.RES m, ?_, ?_⟩
  · exact (θ_run (Cert.KernelIdeal.defs (F := Ideal)) _ _).mono (fun _ h c => h.1 c)
      (Cert.KernelIdeal.Talk.run_main (F := Ideal) m ρ)
  · exact (θ_run (Cert.ReferenceIdeal.defs (F := Ideal)) _ _).mono
      (fun _ h => ⟨((h 0).1.trans (Cert.ReferenceIdeal.Parts.res_eq m' 0)).trans E.symm, (h 0).2⟩)
      (Cert.ReferenceIdeal.Value.run (F := Ideal) m' ρ')

end Cert.Proof

end
-- ==== Proof.lean ====
/- The proof of the certificate: each claim is proved in the modules imported below. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
